-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_layout [hPre_mla_layout : Cert.Pre_mla_layout.Facts] (m : (ℓ : Loc Cert.KernelIdeal.nD Cert.KernelIdeal.τ Cert.KernelIdeal.sig) → Buf (Elt Ideal) ℓ) : Prop :=
  ∀ c : Dev Cert.KernelIdeal.nD,
    (Cert.Pre_mla_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_layout [hPre_mla_layout : Cert.Pre_mla_layout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_mem_finite [hPre_mem_finite : Cert.Pre_mem_finite.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_mem_finite.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1))) = (fun _ => 1#1)

def Pre_MemAttnReferenceIdeal (m : (ℓ : Loc Cert.MemAttnReferenceIdeal.nD Cert.MemAttnReferenceIdeal.τ Cert.MemAttnReferenceIdeal.sig) → Buf (Elt Ideal) ℓ) : Prop :=
  True

def Pre_MemAttnReferenceIdeal_mem_finite [hPre_mem_finite : Cert.Pre_mem_finite.Facts] (m : (ℓ : Loc Cert.MemAttnReferenceIdeal.nD Cert.MemAttnReferenceIdeal.τ Cert.MemAttnReferenceIdeal.sig) → Buf (Elt Ideal) ℓ) : Prop :=
  ∀ c : Dev Cert.MemAttnReferenceIdeal.nD,
    (Cert.Pre_mem_finite.fn (F := Ideal) (m ((c.tc : Thread Cert.MemAttnReferenceIdeal.nD Cert.MemAttnReferenceIdeal.τ).loc Cert.MemAttnReferenceIdeal.main_arg0)) (m ((c.tc : Thread Cert.MemAttnReferenceIdeal.nD Cert.MemAttnReferenceIdeal.τ).loc Cert.MemAttnReferenceIdeal.main_arg1))) = (fun _ => 1#1)

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepIdeal_rope_layout [hPre_rope_layout : Cert.Pre_rope_layout.Facts] (m : (ℓ : Loc Cert.MlaPrepIdeal.nD Cert.MlaPrepIdeal.τ Cert.MlaPrepIdeal.sig) → Buf (Elt Ideal) ℓ) : Prop :=
  ∀ c : Dev Cert.MlaPrepIdeal.nD,
    (Cert.Pre_rope_layout.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9))) = (fun _ => 1#1)

def Pre_MlaPrepReferenceIdeal (m : (ℓ : Loc Cert.MlaPrepReferenceIdeal.nD Cert.MlaPrepReferenceIdeal.τ Cert.MlaPrepReferenceIdeal.sig) → Buf (Elt Ideal) ℓ) : Prop :=
  True

def Pre_MlaPrepReferenceIdeal_rope_layout [hPre_rope_layout : Cert.Pre_rope_layout.Facts] (m : (ℓ : Loc Cert.MlaPrepReferenceIdeal.nD Cert.MlaPrepReferenceIdeal.τ Cert.MlaPrepReferenceIdeal.sig) → Buf (Elt Ideal) ℓ) : Prop :=
  ∀ c : Dev Cert.MlaPrepReferenceIdeal.nD,
    (Cert.Pre_rope_layout.fn (F := Ideal) (m ((c.tc : Thread Cert.MlaPrepReferenceIdeal.nD Cert.MlaPrepReferenceIdeal.τ).loc Cert.MlaPrepReferenceIdeal.main_arg0)) (m ((c.tc : Thread Cert.MlaPrepReferenceIdeal.nD Cert.MlaPrepReferenceIdeal.τ).loc Cert.MlaPrepReferenceIdeal.main_arg1)) (m ((c.tc : Thread Cert.MlaPrepReferenceIdeal.nD Cert.MlaPrepReferenceIdeal.τ).loc Cert.MlaPrepReferenceIdeal.main_arg2)) (m ((c.tc : Thread Cert.MlaPrepReferenceIdeal.nD Cert.MlaPrepReferenceIdeal.τ).loc Cert.MlaPrepReferenceIdeal.main_arg3)) (m ((c.tc : Thread Cert.MlaPrepReferenceIdeal.nD Cert.MlaPrepReferenceIdeal.τ).loc Cert.MlaPrepReferenceIdeal.main_arg4)) (m ((c.tc : Thread Cert.MlaPrepReferenceIdeal.nD Cert.MlaPrepReferenceIdeal.τ).loc Cert.MlaPrepReferenceIdeal.main_arg5)) (m ((c.tc : Thread Cert.MlaPrepReferenceIdeal.nD Cert.MlaPrepReferenceIdeal.τ).loc Cert.MlaPrepReferenceIdeal.main_arg6)) (m ((c.tc : Thread Cert.MlaPrepReferenceIdeal.nD Cert.MlaPrepReferenceIdeal.τ).loc Cert.MlaPrepReferenceIdeal.main_arg7)) (m ((c.tc : Thread Cert.MlaPrepReferenceIdeal.nD Cert.MlaPrepReferenceIdeal.τ).loc Cert.MlaPrepReferenceIdeal.main_arg8)) (m ((c.tc : Thread Cert.MlaPrepReferenceIdeal.nD Cert.MlaPrepReferenceIdeal.τ).loc Cert.MlaPrepReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mla_layout [hKernelIdeal : Cert.KernelIdeal.Facts] [hPre_mla_layout : Cert.Pre_mla_layout.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_layout m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mla_layout [hReferenceIdeal : Cert.ReferenceIdeal.Facts] [hPre_mla_layout : Cert.Pre_mla_layout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_layout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnIdeal_pre_mem_finite [hMemAttnIdeal : Cert.MemAttnIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_mem_finite m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnReferenceIdeal [hMemAttnReferenceIdeal : Cert.MemAttnReferenceIdeal.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1))
      ∧ r.2.sem = fun _ => 0)

def quiescent_MemAttnReferenceIdeal_pre_mem_finite [hMemAttnReferenceIdeal : Cert.MemAttnReferenceIdeal.Facts] [hPre_mem_finite : Cert.Pre_mem_finite.Facts] : Prop :=
  ∀ (m : (ℓ : Loc Cert.MemAttnReferenceIdeal.nD Cert.MemAttnReferenceIdeal.τ Cert.MemAttnReferenceIdeal.sig) → Buf (Elt Ideal) ℓ) (g : Dev Cert.MemAttnReferenceIdeal.nD → PrngReg), Pre_MemAttnReferenceIdeal_mem_finite m →
    θ_run (Cert.MemAttnReferenceIdeal.defs (F := Ideal)) (onTc (τ := Cert.MemAttnReferenceIdeal.τ) (Cert.MemAttnReferenceIdeal.main (F := Ideal))) ⟨m, fun _ => 0, g⟩ (fun r => (∀ c : Dev Cert.MemAttnReferenceIdeal.nD,
      r.2.mem ((c.tc : Thread Cert.MemAttnReferenceIdeal.nD Cert.MemAttnReferenceIdeal.τ).loc Cert.MemAttnReferenceIdeal.main_arg0) = m ((c.tc : Thread Cert.MemAttnReferenceIdeal.nD Cert.MemAttnReferenceIdeal.τ).loc Cert.MemAttnReferenceIdeal.main_arg0)
      ∧ r.2.mem ((c.tc : Thread Cert.MemAttnReferenceIdeal.nD Cert.MemAttnReferenceIdeal.τ).loc Cert.MemAttnReferenceIdeal.main_arg1) = m ((c.tc : Thread Cert.MemAttnReferenceIdeal.nD Cert.MemAttnReferenceIdeal.τ).loc Cert.MemAttnReferenceIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6)
      ∧ r.2.mem ((c.tc : Thread Cert.MlaPrep.nD Cert.MlaPrep.τ).loc Cert.MlaPrep.main_arg7) = m ((c.tc : Thread Cert.MlaPrep.nD Cert.MlaPrep.τ).loc Cert.MlaPrep.main_arg7)
      ∧ r.2.mem ((c.tc : Thread Cert.MlaPrep.nD Cert.MlaPrep.τ).loc Cert.MlaPrep.main_arg8) = m ((c.tc : Thread Cert.MlaPrep.nD Cert.MlaPrep.τ).loc Cert.MlaPrep.main_arg8)
      ∧ r.2.mem ((c.tc : Thread Cert.MlaPrep.nD Cert.MlaPrep.τ).loc Cert.MlaPrep.main_arg9) = m ((c.tc : Thread Cert.MlaPrep.nD Cert.MlaPrep.τ).loc Cert.MlaPrep.main_arg9))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
      ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9))
      ∧ r.2.sem = fun _ => 0)

def quiescent_MlaPrepIdeal_pre_rope_layout [hMlaPrepIdeal : Cert.MlaPrepIdeal.Facts] [hPre_rope_layout : Cert.Pre_rope_layout.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal_rope_layout m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
      ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9))
      ∧ r.2.sem = fun _ => 0)

def quiescent_MlaPrepReferenceIdeal [hMlaPrepReferenceIdeal : Cert.MlaPrepReferenceIdeal.Facts] : Prop :=
  ∀ (m : (ℓ : Loc Cert.MlaPrepReferenceIdeal.nD Cert.MlaPrepReferenceIdeal.τ Cert.MlaPrepReferenceIdeal.sig) → Buf (Elt Ideal) ℓ) (g : Dev Cert.MlaPrepReferenceIdeal.nD → PrngReg), Pre_MlaPrepReferenceIdeal m →
    θ_run (Cert.MlaPrepReferenceIdeal.defs (F := Ideal)) (onTc (τ := Cert.MlaPrepReferenceIdeal.τ) (Cert.MlaPrepReferenceIdeal.main (F := Ideal))) ⟨m, fun _ => 0, g⟩ (fun r => (∀ c : Dev Cert.MlaPrepReferenceIdeal.nD,
      r.2.mem ((c.tc : Thread Cert.MlaPrepReferenceIdeal.nD Cert.MlaPrepReferenceIdeal.τ).loc Cert.MlaPrepReferenceIdeal.main_arg0) = m ((c.tc : Thread Cert.MlaPrepReferenceIdeal.nD Cert.MlaPrepReferenceIdeal.τ).loc Cert.MlaPrepReferenceIdeal.main_arg0)
      ∧ r.2.mem ((c.tc : Thread Cert.MlaPrepReferenceIdeal.nD Cert.MlaPrepReferenceIdeal.τ).loc Cert.MlaPrepReferenceIdeal.main_arg1) = m ((c.tc : Thread Cert.MlaPrepReferenceIdeal.nD Cert.MlaPrepReferenceIdeal.τ).loc Cert.MlaPrepReferenceIdeal.main_arg1)
      ∧ r.2.mem ((c.tc : Thread Cert.MlaPrepReferenceIdeal.nD Cert.MlaPrepReferenceIdeal.τ).loc Cert.MlaPrepReferenceIdeal.main_arg2) = m ((c.tc : Thread Cert.MlaPrepReferenceIdeal.nD Cert.MlaPrepReferenceIdeal.τ).loc Cert.MlaPrepReferenceIdeal.main_arg2)
      ∧ r.2.mem ((c.tc : Thread Cert.MlaPrepReferenceIdeal.nD Cert.MlaPrepReferenceIdeal.τ).loc Cert.MlaPrepReferenceIdeal.main_arg3) = m ((c.tc : Thread Cert.MlaPrepReferenceIdeal.nD Cert.MlaPrepReferenceIdeal.τ).loc Cert.MlaPrepReferenceIdeal.main_arg3)
      ∧ r.2.mem ((c.tc : Thread Cert.MlaPrepReferenceIdeal.nD Cert.MlaPrepReferenceIdeal.τ).loc Cert.MlaPrepReferenceIdeal.main_arg4) = m ((c.tc : Thread Cert.MlaPrepReferenceIdeal.nD Cert.MlaPrepReferenceIdeal.τ).loc Cert.MlaPrepReferenceIdeal.main_arg4)
      ∧ r.2.mem ((c.tc : Thread Cert.MlaPrepReferenceIdeal.nD Cert.MlaPrepReferenceIdeal.τ).loc Cert.MlaPrepReferenceIdeal.main_arg5) = m ((c.tc : Thread Cert.MlaPrepReferenceIdeal.nD Cert.MlaPrepReferenceIdeal.τ).loc Cert.MlaPrepReferenceIdeal.main_arg5)
      ∧ r.2.mem ((c.tc : Thread Cert.MlaPrepReferenceIdeal.nD Cert.MlaPrepReferenceIdeal.τ).loc Cert.MlaPrepReferenceIdeal.main_arg6) = m ((c.tc : Thread Cert.MlaPrepReferenceIdeal.nD Cert.MlaPrepReferenceIdeal.τ).loc Cert.MlaPrepReferenceIdeal.main_arg6)
      ∧ r.2.mem ((c.tc : Thread Cert.MlaPrepReferenceIdeal.nD Cert.MlaPrepReferenceIdeal.τ).loc Cert.MlaPrepReferenceIdeal.main_arg7) = m ((c.tc : Thread Cert.MlaPrepReferenceIdeal.nD Cert.MlaPrepReferenceIdeal.τ).loc Cert.MlaPrepReferenceIdeal.main_arg7)
      ∧ r.2.mem ((c.tc : Thread Cert.MlaPrepReferenceIdeal.nD Cert.MlaPrepReferenceIdeal.τ).loc Cert.MlaPrepReferenceIdeal.main_arg8) = m ((c.tc : Thread Cert.MlaPrepReferenceIdeal.nD Cert.MlaPrepReferenceIdeal.τ).loc Cert.MlaPrepReferenceIdeal.main_arg8)
      ∧ r.2.mem ((c.tc : Thread Cert.MlaPrepReferenceIdeal.nD Cert.MlaPrepReferenceIdeal.τ).loc Cert.MlaPrepReferenceIdeal.main_arg9) = m ((c.tc : Thread Cert.MlaPrepReferenceIdeal.nD Cert.MlaPrepReferenceIdeal.τ).loc Cert.MlaPrepReferenceIdeal.main_arg9))
      ∧ r.2.sem = fun _ => 0)

def quiescent_MlaPrepReferenceIdeal_pre_rope_layout [hMlaPrepReferenceIdeal : Cert.MlaPrepReferenceIdeal.Facts] [hPre_rope_layout : Cert.Pre_rope_layout.Facts] : Prop :=
  ∀ (m : (ℓ : Loc Cert.MlaPrepReferenceIdeal.nD Cert.MlaPrepReferenceIdeal.τ Cert.MlaPrepReferenceIdeal.sig) → Buf (Elt Ideal) ℓ) (g : Dev Cert.MlaPrepReferenceIdeal.nD → PrngReg), Pre_MlaPrepReferenceIdeal_rope_layout m →
    θ_run (Cert.MlaPrepReferenceIdeal.defs (F := Ideal)) (onTc (τ := Cert.MlaPrepReferenceIdeal.τ) (Cert.MlaPrepReferenceIdeal.main (F := Ideal))) ⟨m, fun _ => 0, g⟩ (fun r => (∀ c : Dev Cert.MlaPrepReferenceIdeal.nD,
      r.2.mem ((c.tc : Thread Cert.MlaPrepReferenceIdeal.nD Cert.MlaPrepReferenceIdeal.τ).loc Cert.MlaPrepReferenceIdeal.main_arg0) = m ((c.tc : Thread Cert.MlaPrepReferenceIdeal.nD Cert.MlaPrepReferenceIdeal.τ).loc Cert.MlaPrepReferenceIdeal.main_arg0)
      ∧ r.2.mem ((c.tc : Thread Cert.MlaPrepReferenceIdeal.nD Cert.MlaPrepReferenceIdeal.τ).loc Cert.MlaPrepReferenceIdeal.main_arg1) = m ((c.tc : Thread Cert.MlaPrepReferenceIdeal.nD Cert.MlaPrepReferenceIdeal.τ).loc Cert.MlaPrepReferenceIdeal.main_arg1)
      ∧ r.2.mem ((c.tc : Thread Cert.MlaPrepReferenceIdeal.nD Cert.MlaPrepReferenceIdeal.τ).loc Cert.MlaPrepReferenceIdeal.main_arg2) = m ((c.tc : Thread Cert.MlaPrepReferenceIdeal.nD Cert.MlaPrepReferenceIdeal.τ).loc Cert.MlaPrepReferenceIdeal.main_arg2)
      ∧ r.2.mem ((c.tc : Thread Cert.MlaPrepReferenceIdeal.nD Cert.MlaPrepReferenceIdeal.τ).loc Cert.MlaPrepReferenceIdeal.main_arg3) = m ((c.tc : Thread Cert.MlaPrepReferenceIdeal.nD Cert.MlaPrepReferenceIdeal.τ).loc Cert.MlaPrepReferenceIdeal.main_arg3)
      ∧ r.2.mem ((c.tc : Thread Cert.MlaPrepReferenceIdeal.nD Cert.MlaPrepReferenceIdeal.τ).loc Cert.MlaPrepReferenceIdeal.main_arg4) = m ((c.tc : Thread Cert.MlaPrepReferenceIdeal.nD Cert.MlaPrepReferenceIdeal.τ).loc Cert.MlaPrepReferenceIdeal.main_arg4)
      ∧ r.2.mem ((c.tc : Thread Cert.MlaPrepReferenceIdeal.nD Cert.MlaPrepReferenceIdeal.τ).loc Cert.MlaPrepReferenceIdeal.main_arg5) = m ((c.tc : Thread Cert.MlaPrepReferenceIdeal.nD Cert.MlaPrepReferenceIdeal.τ).loc Cert.MlaPrepReferenceIdeal.main_arg5)
      ∧ r.2.mem ((c.tc : Thread Cert.MlaPrepReferenceIdeal.nD Cert.MlaPrepReferenceIdeal.τ).loc Cert.MlaPrepReferenceIdeal.main_arg6) = m ((c.tc : Thread Cert.MlaPrepReferenceIdeal.nD Cert.MlaPrepReferenceIdeal.τ).loc Cert.MlaPrepReferenceIdeal.main_arg6)
      ∧ r.2.mem ((c.tc : Thread Cert.MlaPrepReferenceIdeal.nD Cert.MlaPrepReferenceIdeal.τ).loc Cert.MlaPrepReferenceIdeal.main_arg7) = m ((c.tc : Thread Cert.MlaPrepReferenceIdeal.nD Cert.MlaPrepReferenceIdeal.τ).loc Cert.MlaPrepReferenceIdeal.main_arg7)
      ∧ r.2.mem ((c.tc : Thread Cert.MlaPrepReferenceIdeal.nD Cert.MlaPrepReferenceIdeal.τ).loc Cert.MlaPrepReferenceIdeal.main_arg8) = m ((c.tc : Thread Cert.MlaPrepReferenceIdeal.nD Cert.MlaPrepReferenceIdeal.τ).loc Cert.MlaPrepReferenceIdeal.main_arg8)
      ∧ r.2.mem ((c.tc : Thread Cert.MlaPrepReferenceIdeal.nD Cert.MlaPrepReferenceIdeal.τ).loc Cert.MlaPrepReferenceIdeal.main_arg9) = m ((c.tc : Thread Cert.MlaPrepReferenceIdeal.nD Cert.MlaPrepReferenceIdeal.τ).loc Cert.MlaPrepReferenceIdeal.main_arg9))
      ∧ r.2.sem = fun _ => 0)

def preserves_Kernel_KernelIdeal : Prop :=
  True

def algebraic_KernelIdeal_ReferenceIdeal_pre_mla_layout [hKernelIdeal : Cert.KernelIdeal.Facts] [hReferenceIdeal : Cert.ReferenceIdeal.Facts] [hPre_mla_layout : Cert.Pre_mla_layout.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_layout m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v26) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v39) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_InProj_InProjIdeal : Prop :=
  IdealRules.named_const.Statement Cert.InProjIdeal.κ "m_scale" .f32 0x3DB504F3#32 (((Real.sqrt 128)⁻¹ : ℝ) : EReal)
  ∧ IdealRules.named_const.Statement Cert.InProjIdeal.κ "q_scale" .f32 0x3E38AA3B#32 (((1 / 8) * (Real.log 2)⁻¹ : ℝ) : EReal)

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v53) = v0 c
          ∧ r.2.mem ((c.tc : Thread Cert.InProjReferenceIdeal.nD Cert.InProjReferenceIdeal.τ).loc Cert.InProjReferenceIdeal.main_v94) = v1 c
          ∧ r.2.mem ((c.tc : Thread Cert.InProjReferenceIdeal.nD Cert.InProjReferenceIdeal.τ).loc Cert.InProjReferenceIdeal.main_v106) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v15) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_MemAttn_MemAttnIdeal : Prop :=
  True

def algebraic_MemAttnIdeal_MemAttnReferenceIdeal_pre_mem_finite [hMemAttnIdeal : Cert.MemAttnIdeal.Facts] [hMemAttnReferenceIdeal : Cert.MemAttnReferenceIdeal.Facts] [hPre_mem_finite : Cert.Pre_mem_finite.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnReferenceIdeal.nD Cert.MemAttnReferenceIdeal.τ Cert.MemAttnReferenceIdeal.sig) → Buf (Elt Ideal) ℓ) (g' : Dev Cert.MemAttnReferenceIdeal.nD → PrngReg), Pre_MemAttnIdeal_mem_finite m →
    (∀ c : Dev Cert.MemAttnIdeal.nD,
      m' ((c.tc : Thread Cert.MemAttnReferenceIdeal.nD Cert.MemAttnReferenceIdeal.τ).loc Cert.MemAttnReferenceIdeal.main_arg0) = m ((c.tc : Thread Cert.MemAttnIdeal.nD Cert.MemAttnIdeal.τ).loc Cert.MemAttnIdeal.main_arg0)
      ∧ m' ((c.tc : Thread Cert.MemAttnReferenceIdeal.nD Cert.MemAttnReferenceIdeal.τ).loc Cert.MemAttnReferenceIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v1) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnReferenceIdeal.defs (F := Ideal)) (onTc (τ := Cert.MemAttnReferenceIdeal.τ) (Cert.MemAttnReferenceIdeal.main (F := Ideal))) ⟨m', fun _ => 0, g'⟩ (fun r => ∀ c : Dev Cert.MemAttnReferenceIdeal.nD,
          r.2.mem ((c.tc : Thread Cert.MemAttnReferenceIdeal.nD Cert.MemAttnReferenceIdeal.τ).loc Cert.MemAttnReferenceIdeal.main_v26) = v0 c
          ∧ r.2.mem ((c.tc : Thread Cert.MemAttnReferenceIdeal.nD Cert.MemAttnReferenceIdeal.τ).loc Cert.MemAttnReferenceIdeal.main_arg0) = m' ((c.tc : Thread Cert.MemAttnReferenceIdeal.nD Cert.MemAttnReferenceIdeal.τ).loc Cert.MemAttnReferenceIdeal.main_arg0)
          ∧ r.2.mem ((c.tc : Thread Cert.MemAttnReferenceIdeal.nD Cert.MemAttnReferenceIdeal.τ).loc Cert.MemAttnReferenceIdeal.main_arg1) = m' ((c.tc : Thread Cert.MemAttnReferenceIdeal.nD Cert.MemAttnReferenceIdeal.τ).loc Cert.MemAttnReferenceIdeal.main_arg1))

def preserves_MlaPrep_MlaPrepIdeal : Prop :=
  IdealRules.named_const.Statement Cert.MlaPrepIdeal.κ "q_scale" .f32 0x3E16C740#32 (((Real.sqrt 96)⁻¹ * (Real.log 2)⁻¹ : ℝ) : EReal)

def algebraic_MlaPrepIdeal_MlaPrepReferenceIdeal_pre_rope_layout [hMlaPrepIdeal : Cert.MlaPrepIdeal.Facts] [hMlaPrepReferenceIdeal : Cert.MlaPrepReferenceIdeal.Facts] [hPre_rope_layout : Cert.Pre_rope_layout.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepReferenceIdeal.nD Cert.MlaPrepReferenceIdeal.τ Cert.MlaPrepReferenceIdeal.sig) → Buf (Elt Ideal) ℓ) (g' : Dev Cert.MlaPrepReferenceIdeal.nD → PrngReg), Pre_MlaPrepIdeal_rope_layout m →
    (∀ c : Dev Cert.MlaPrepIdeal.nD,
      m' ((c.tc : Thread Cert.MlaPrepReferenceIdeal.nD Cert.MlaPrepReferenceIdeal.τ).loc Cert.MlaPrepReferenceIdeal.main_arg0) = m ((c.tc : Thread Cert.MlaPrepIdeal.nD Cert.MlaPrepIdeal.τ).loc Cert.MlaPrepIdeal.main_arg0)
      ∧ m' ((c.tc : Thread Cert.MlaPrepReferenceIdeal.nD Cert.MlaPrepReferenceIdeal.τ).loc Cert.MlaPrepReferenceIdeal.main_arg1) = m ((c.tc : Thread Cert.MlaPrepIdeal.nD Cert.MlaPrepIdeal.τ).loc Cert.MlaPrepIdeal.main_arg1)
      ∧ m' ((c.tc : Thread Cert.MlaPrepReferenceIdeal.nD Cert.MlaPrepReferenceIdeal.τ).loc Cert.MlaPrepReferenceIdeal.main_arg2) = m ((c.tc : Thread Cert.MlaPrepIdeal.nD Cert.MlaPrepIdeal.τ).loc Cert.MlaPrepIdeal.main_arg2)
      ∧ m' ((c.tc : Thread Cert.MlaPrepReferenceIdeal.nD Cert.MlaPrepReferenceIdeal.τ).loc Cert.MlaPrepReferenceIdeal.main_arg3) = m ((c.tc : Thread Cert.MlaPrepIdeal.nD Cert.MlaPrepIdeal.τ).loc Cert.MlaPrepIdeal.main_arg3)
      ∧ m' ((c.tc : Thread Cert.MlaPrepReferenceIdeal.nD Cert.MlaPrepReferenceIdeal.τ).loc Cert.MlaPrepReferenceIdeal.main_arg4) = m ((c.tc : Thread Cert.MlaPrepIdeal.nD Cert.MlaPrepIdeal.τ).loc Cert.MlaPrepIdeal.main_arg4)
      ∧ m' ((c.tc : Thread Cert.MlaPrepReferenceIdeal.nD Cert.MlaPrepReferenceIdeal.τ).loc Cert.MlaPrepReferenceIdeal.main_arg5) = m ((c.tc : Thread Cert.MlaPrepIdeal.nD Cert.MlaPrepIdeal.τ).loc Cert.MlaPrepIdeal.main_arg5)
      ∧ m' ((c.tc : Thread Cert.MlaPrepReferenceIdeal.nD Cert.MlaPrepReferenceIdeal.τ).loc Cert.MlaPrepReferenceIdeal.main_arg6) = m ((c.tc : Thread Cert.MlaPrepIdeal.nD Cert.MlaPrepIdeal.τ).loc Cert.MlaPrepIdeal.main_arg6)
      ∧ m' ((c.tc : Thread Cert.MlaPrepReferenceIdeal.nD Cert.MlaPrepReferenceIdeal.τ).loc Cert.MlaPrepReferenceIdeal.main_arg7) = m ((c.tc : Thread Cert.MlaPrepIdeal.nD Cert.MlaPrepIdeal.τ).loc Cert.MlaPrepIdeal.main_arg7)
      ∧ m' ((c.tc : Thread Cert.MlaPrepReferenceIdeal.nD Cert.MlaPrepReferenceIdeal.τ).loc Cert.MlaPrepReferenceIdeal.main_arg8) = m ((c.tc : Thread Cert.MlaPrepIdeal.nD Cert.MlaPrepIdeal.τ).loc Cert.MlaPrepIdeal.main_arg8)
      ∧ m' ((c.tc : Thread Cert.MlaPrepReferenceIdeal.nD Cert.MlaPrepReferenceIdeal.τ).loc Cert.MlaPrepReferenceIdeal.main_arg9) = m ((c.tc : Thread Cert.MlaPrepIdeal.nD Cert.MlaPrepIdeal.τ).loc Cert.MlaPrepIdeal.main_arg9)) →
    ∃ (v0 : (c : Dev Cert.MlaPrepIdeal.nD) → Buf (Elt Ideal) ((c.tc : Thread Cert.MlaPrepIdeal.nD Cert.MlaPrepIdeal.τ).loc Cert.MlaPrepIdeal.main_v0_0)) (v1 : (c : Dev Cert.MlaPrepIdeal.nD) → Buf (Elt Ideal) ((c.tc : Thread Cert.MlaPrepIdeal.nD Cert.MlaPrepIdeal.τ).loc Cert.MlaPrepIdeal.main_v0_1)) (v2 : (c : Dev Cert.MlaPrepIdeal.nD) → Buf (Elt Ideal) ((c.tc : Thread Cert.MlaPrepIdeal.nD Cert.MlaPrepIdeal.τ).loc Cert.MlaPrepIdeal.main_v0_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v0_0) = v0 c
          ∧ r.2.mem ((c.tc : Thread Cert.MlaPrepIdeal.nD Cert.MlaPrepIdeal.τ).loc Cert.MlaPrepIdeal.main_v0_1) = v1 c
          ∧ r.2.mem ((c.tc : Thread Cert.MlaPrepIdeal.nD Cert.MlaPrepIdeal.τ).loc Cert.MlaPrepIdeal.main_v0_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
          ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
          ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
          ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9))
      ∧ θ_run (Cert.MlaPrepReferenceIdeal.defs (F := Ideal)) (onTc (τ := Cert.MlaPrepReferenceIdeal.τ) (Cert.MlaPrepReferenceIdeal.main (F := Ideal))) ⟨m', fun _ => 0, g'⟩ (fun r => ∀ c : Dev Cert.MlaPrepReferenceIdeal.nD,
          r.2.mem ((c.tc : Thread Cert.MlaPrepReferenceIdeal.nD Cert.MlaPrepReferenceIdeal.τ).loc Cert.MlaPrepReferenceIdeal.main_v61) = v0 c
          ∧ r.2.mem ((c.tc : Thread Cert.MlaPrepReferenceIdeal.nD Cert.MlaPrepReferenceIdeal.τ).loc Cert.MlaPrepReferenceIdeal.main_v88) = v1 c
          ∧ r.2.mem ((c.tc : Thread Cert.MlaPrepReferenceIdeal.nD Cert.MlaPrepReferenceIdeal.τ).loc Cert.MlaPrepReferenceIdeal.main_v101) = v2 c
          ∧ r.2.mem ((c.tc : Thread Cert.MlaPrepReferenceIdeal.nD Cert.MlaPrepReferenceIdeal.τ).loc Cert.MlaPrepReferenceIdeal.main_arg0) = m' ((c.tc : Thread Cert.MlaPrepReferenceIdeal.nD Cert.MlaPrepReferenceIdeal.τ).loc Cert.MlaPrepReferenceIdeal.main_arg0)
          ∧ r.2.mem ((c.tc : Thread Cert.MlaPrepReferenceIdeal.nD Cert.MlaPrepReferenceIdeal.τ).loc Cert.MlaPrepReferenceIdeal.main_arg1) = m' ((c.tc : Thread Cert.MlaPrepReferenceIdeal.nD Cert.MlaPrepReferenceIdeal.τ).loc Cert.MlaPrepReferenceIdeal.main_arg1)
          ∧ r.2.mem ((c.tc : Thread Cert.MlaPrepReferenceIdeal.nD Cert.MlaPrepReferenceIdeal.τ).loc Cert.MlaPrepReferenceIdeal.main_arg2) = m' ((c.tc : Thread Cert.MlaPrepReferenceIdeal.nD Cert.MlaPrepReferenceIdeal.τ).loc Cert.MlaPrepReferenceIdeal.main_arg2)
          ∧ r.2.mem ((c.tc : Thread Cert.MlaPrepReferenceIdeal.nD Cert.MlaPrepReferenceIdeal.τ).loc Cert.MlaPrepReferenceIdeal.main_arg3) = m' ((c.tc : Thread Cert.MlaPrepReferenceIdeal.nD Cert.MlaPrepReferenceIdeal.τ).loc Cert.MlaPrepReferenceIdeal.main_arg3)
          ∧ r.2.mem ((c.tc : Thread Cert.MlaPrepReferenceIdeal.nD Cert.MlaPrepReferenceIdeal.τ).loc Cert.MlaPrepReferenceIdeal.main_arg4) = m' ((c.tc : Thread Cert.MlaPrepReferenceIdeal.nD Cert.MlaPrepReferenceIdeal.τ).loc Cert.MlaPrepReferenceIdeal.main_arg4)
          ∧ r.2.mem ((c.tc : Thread Cert.MlaPrepReferenceIdeal.nD Cert.MlaPrepReferenceIdeal.τ).loc Cert.MlaPrepReferenceIdeal.main_arg5) = m' ((c.tc : Thread Cert.MlaPrepReferenceIdeal.nD Cert.MlaPrepReferenceIdeal.τ).loc Cert.MlaPrepReferenceIdeal.main_arg5)
          ∧ r.2.mem ((c.tc : Thread Cert.MlaPrepReferenceIdeal.nD Cert.MlaPrepReferenceIdeal.τ).loc Cert.MlaPrepReferenceIdeal.main_arg6) = m' ((c.tc : Thread Cert.MlaPrepReferenceIdeal.nD Cert.MlaPrepReferenceIdeal.τ).loc Cert.MlaPrepReferenceIdeal.main_arg6)
          ∧ r.2.mem ((c.tc : Thread Cert.MlaPrepReferenceIdeal.nD Cert.MlaPrepReferenceIdeal.τ).loc Cert.MlaPrepReferenceIdeal.main_arg7) = m' ((c.tc : Thread Cert.MlaPrepReferenceIdeal.nD Cert.MlaPrepReferenceIdeal.τ).loc Cert.MlaPrepReferenceIdeal.main_arg7)
          ∧ r.2.mem ((c.tc : Thread Cert.MlaPrepReferenceIdeal.nD Cert.MlaPrepReferenceIdeal.τ).loc Cert.MlaPrepReferenceIdeal.main_arg8) = m' ((c.tc : Thread Cert.MlaPrepReferenceIdeal.nD Cert.MlaPrepReferenceIdeal.τ).loc Cert.MlaPrepReferenceIdeal.main_arg8)
          ∧ r.2.mem ((c.tc : Thread Cert.MlaPrepReferenceIdeal.nD Cert.MlaPrepReferenceIdeal.τ).loc Cert.MlaPrepReferenceIdeal.main_arg9) = m' ((c.tc : Thread Cert.MlaPrepReferenceIdeal.nD Cert.MlaPrepReferenceIdeal.τ).loc Cert.MlaPrepReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hInProj : Cert.InProj.Facts) (hInProjIdeal : Cert.InProjIdeal.Facts) (hInProjReferenceIdeal : Cert.InProjReferenceIdeal.Facts) (hMemKv : Cert.MemKv.Facts) (hMemKvIdeal : Cert.MemKvIdeal.Facts) (hMemKvReferenceIdeal : Cert.MemKvReferenceIdeal.Facts) (hMemAttn : Cert.MemAttn.Facts) (hMemAttnIdeal : Cert.MemAttnIdeal.Facts) (hMemAttnReferenceIdeal : Cert.MemAttnReferenceIdeal.Facts) (hMlaPrep : Cert.MlaPrep.Facts) (hMlaPrepIdeal : Cert.MlaPrepIdeal.Facts) (hMlaPrepReferenceIdeal : Cert.MlaPrepReferenceIdeal.Facts) (hPre_mla_layout : Cert.Pre_mla_layout.Facts) (hPre_mem_finite : Cert.Pre_mem_finite.Facts) (hPre_rope_layout : Cert.Pre_rope_layout.Facts),
    quiescent_Kernel (hKernel := hKernel)
    ∧ quiescent_KernelIdeal (hKernelIdeal := hKernelIdeal)
    ∧ quiescent_KernelIdeal_pre_mla_layout (hKernelIdeal := hKernelIdeal) (hPre_mla_layout := hPre_mla_layout)
    ∧ quiescent_ReferenceIdeal (hReferenceIdeal := hReferenceIdeal)
    ∧ quiescent_ReferenceIdeal_pre_mla_layout (hReferenceIdeal := hReferenceIdeal) (hPre_mla_layout := hPre_mla_layout)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_MemAttn (hMemAttn := hMemAttn)
    ∧ quiescent_MemAttnIdeal (hMemAttnIdeal := hMemAttnIdeal)
    ∧ quiescent_MemAttnIdeal_pre_mem_finite (hMemAttnIdeal := hMemAttnIdeal) (hPre_mem_finite := hPre_mem_finite)
    ∧ quiescent_MemAttnReferenceIdeal (hMemAttnReferenceIdeal := hMemAttnReferenceIdeal)
    ∧ quiescent_MemAttnReferenceIdeal_pre_mem_finite (hMemAttnReferenceIdeal := hMemAttnReferenceIdeal) (hPre_mem_finite := hPre_mem_finite)
    ∧ quiescent_MlaPrep (hMlaPrep := hMlaPrep)
    ∧ quiescent_MlaPrepIdeal (hMlaPrepIdeal := hMlaPrepIdeal)
    ∧ quiescent_MlaPrepIdeal_pre_rope_layout (hMlaPrepIdeal := hMlaPrepIdeal) (hPre_rope_layout := hPre_rope_layout)
    ∧ quiescent_MlaPrepReferenceIdeal (hMlaPrepReferenceIdeal := hMlaPrepReferenceIdeal)
    ∧ quiescent_MlaPrepReferenceIdeal_pre_rope_layout (hMlaPrepReferenceIdeal := hMlaPrepReferenceIdeal) (hPre_rope_layout := hPre_rope_layout)
    ∧ preserves_Kernel_KernelIdeal
    ∧ algebraic_KernelIdeal_ReferenceIdeal_pre_mla_layout (hKernelIdeal := hKernelIdeal) (hReferenceIdeal := hReferenceIdeal) (hPre_mla_layout := hPre_mla_layout)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_InProj_InProjIdeal
    ∧ algebraic_InProjIdeal_InProjReferenceIdeal (hInProjIdeal := hInProjIdeal) (hInProjReferenceIdeal := hInProjReferenceIdeal)
    ∧ preserves_MemKv_MemKvIdeal
    ∧ algebraic_MemKvIdeal_MemKvReferenceIdeal (hMemKvIdeal := hMemKvIdeal) (hMemKvReferenceIdeal := hMemKvReferenceIdeal)
    ∧ preserves_MemAttn_MemAttnIdeal
    ∧ algebraic_MemAttnIdeal_MemAttnReferenceIdeal_pre_mem_finite (hMemAttnIdeal := hMemAttnIdeal) (hMemAttnReferenceIdeal := hMemAttnReferenceIdeal) (hPre_mem_finite := hPre_mem_finite)
    ∧ preserves_MlaPrep_MlaPrepIdeal
    ∧ algebraic_MlaPrepIdeal_MlaPrepReferenceIdeal_pre_rope_layout (hMlaPrepIdeal := hMlaPrepIdeal) (hMlaPrepReferenceIdeal := hMlaPrepReferenceIdeal) (hPre_rope_layout := hPre_rope_layout)
-- ==== Pre_mem_finite.lean ====
abbrev S32768x4224 : Shape := ⟨2, ![32768, 4224]⟩
abbrev S4x2048x1024 : Shape := ⟨3, ![4, 2048, 1024]⟩
abbrev S32768x512 : Shape := ⟨2, ![32768, 512]⟩
abbrev S_ : Shape := ⟨0, ![]⟩
abbrev S1x2048x512 : Shape := ⟨3, ![1, 2048, 512]⟩
abbrev S2048x512 : Shape := ⟨2, ![2048, 512]⟩

class Facts : Prop where
  slices_S32768x4224_S32768x512_0_3072 : S32768x4224.Slices ![0, 3072] S32768x512
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  slices_S4x2048x1024_S1x2048x512_1_0_0 : S4x2048x1024.Slices ![1, 0, 0] S1x2048x512
  shapeCasts_S1x2048x512_S2048x512 : S1x2048x512.ShapeCasts S2048x512
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32768x4224 .bf16) (main_arg1 : FVec F S4x2048x1024 .bf16) : IVec S_ 1 :=
  let main_v0 : FVec F S32768x512 .bf16 := (extractStridedSlice S32768x512 ![0, 3072] · slices_S32768x4224_S32768x512_0_3072) main_arg0
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_c : IVec S_ 1 := constantI S_ 1 1#1
  let main_v5 : IVec S_ 1 := (fun x v => Host.reduce IntOp.andi x v reducesTo_S32768x512_S_d0_1 h_S_) main_v4 main_c
  let main_v6 : FVec F S1x2048x512 .bf16 := (extractStridedSlice S1x2048x512 ![1, 0, 0] · slices_S4x2048x1024_S1x2048x512_1_0_0) main_arg1
  let main_v7 : FVec F S2048x512 .bf16 := shapeCast S2048x512 main_v6 shapeCasts_S1x2048x512_S2048x512
  let main_v8 : FVec F S2048x512 .f32 := (extf .f32 · bitsLt_bf16_f32) main_v7
  let main_v9 : FVec F S2048x512 .f32 := Host.absf main_v8
  let main_cst_0 : FVec F S_ .f32 := constant S_ .f32 0x7F800000#32
  let main_v10 : FVec F S2048x512 .f32 := broadcastInDim S2048x512 ![] bcast_S_S2048x512 main_cst_0
  let main_v11 : IVec S2048x512 1 := cmpf .olt main_v9 main_v10
  let main_c_1 : IVec S_ 1 := constantI S_ 1 1#1
  let main_v12 : IVec S_ 1 := (fun x v => Host.reduce IntOp.andi x v reducesTo_S2048x512_S_d0_1 h_S_) main_v11 main_c_1
  let main_v13 : IVec S_ 1 := andi main_v5 main_v12
  main_v13
-- ==== Pre_mla_layout.lean ====
abbrev S8x1024x4096 : Shape := ⟨3, ![8, 1024, 4096]⟩
abbrev S8x4096x1024 : Shape := ⟨3, ![8, 4096, 1024]⟩
abbrev S8x640x4096 : Shape := ⟨3, ![8, 640, 4096]⟩
abbrev S8x8x128x4096 : Shape := ⟨4, ![8, 8, 128, 4096]⟩
abbrev S8x8x80x4096 : Shape := ⟨4, ![8, 8, 80, 4096]⟩
abbrev S_ : Shape := ⟨0, ![]⟩
abbrev S8x8x32x4096 : Shape := ⟨4, ![8, 8, 32, 4096]⟩
abbrev S8x8x1x4096 : Shape := ⟨4, ![8, 8, 1, 4096]⟩
abbrev S8x8x4096 : Shape := ⟨3, ![8, 8, 4096]⟩

class Facts : Prop where
  shapeCasts_S8x1024x4096_S8x8x128x4096 : S8x1024x4096.ShapeCasts S8x8x128x4096
  bitsLt_bf16_f32 : FTy.bits .bf16 < FTy.bits .f32
  shapeCasts_S8x640x4096_S8x8x80x4096 : S8x640x4096.ShapeCasts S8x8x80x4096
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  slices_S8x8x128x4096_S8x8x32x4096_0_0_96_0 : S8x8x128x4096.Slices ![0, 0, 96, 0] S8x8x32x4096
  bcast_S_S8x8x32x4096 : S_.BroadcastsInDim S8x8x32x4096 (![] : Fin 0 → Fin S8x8x32x4096.rank)
  reducesTo_S8x8x32x4096_S_d0_1_2_3 : S8x8x32x4096.ReducesTo [0, 1, 2, 3] S_
  slices_S8x8x80x4096_S8x8x1x4096_0_0_64_0 : S8x8x80x4096.Slices ![0, 0, 64, 0] S8x8x1x4096
  shapeCasts_S8x8x1x4096_S8x8x4096 : S8x8x1x4096.ShapeCasts S8x8x4096
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn_part1 {F : FTy → Type} [FloatOps F] (main_v3 : FVec F S8x8x80x4096 .f32) (main_v14 : IVec S_ 1) (main_v17 : IVec S8x8x32x4096 1) (main_c_3 : IVec S_ 1) : IVec S_ 1 :=
  let main_v18 : IVec S_ 1 := (fun x v => Host.reduce IntOp.andi x v reducesTo_S8x8x32x4096_S_d0_1_2_3 h_S_) main_v17 main_c_3
  let main_v19 : IVec S_ 1 := andi main_v14 main_v18
  let main_v20 : FVec F S8x8x1x4096 .f32 := (extractStridedSlice S8x8x1x4096 ![0, 0, 64, 0] · slices_S8x8x80x4096_S8x8x1x4096_0_0_64_0) main_v3
  let main_v21 : FVec F S8x8x4096 .f32 := shapeCast S8x8x4096 main_v20 shapeCasts_S8x8x1x4096_S8x8x4096
  let main_cst_4 : FVec F S_ .f32 := constant S_ .f32 0x3F800000#32
  let main_v22 : FVec F S8x8x4096 .f32 := broadcastInDim S8x8x4096 ![] bcast_S_S8x8x4096 main_cst_4
  let main_v23 : IVec S8x8x4096 1 := cmpf .oeq main_v21 main_v22
  let main_c_5 : IVec S_ 1 := constantI S_ 1 1#1
  let main_v24 : IVec S_ 1 := (fun x v => Host.reduce IntOp.andi x v reducesTo_S8x8x4096_S_d0_1_2 h_S_) main_v23 main_c_5
  let main_v25 : IVec S_ 1 := andi main_v19 main_v24
  main_v25

def fn {F : FTy → Type} [FloatOps F] (main_arg0 : FVec F S8x1024x4096 .bf16) (main_arg1 : FVec F S8x4096x1024 .bf16) (main_arg2 : FVec F S8x640x4096 .bf16) : IVec S_ 1 :=
  let main_v0 : FVec F S8x8x128x4096 .bf16 := shapeCast S8x8x128x4096 main_arg0 shapeCasts_S8x1024x4096_S8x8x128x4096
  let main_v1 : FVec F S8x8x128x4096 .f32 := (extf .f32 · bitsLt_bf16_f32) main_v0
  let main_v2 : FVec F S8x8x80x4096 .bf16 := shapeCast S8x8x80x4096 main_arg2 shapeCasts_S8x640x4096_S8x8x80x4096
  let main_v3 : FVec F S8x8x80x4096 .f32 := (extf .f32 · bitsLt_bf16_f32) main_v2
  let main_v4 : FVec F S8x1024x4096 .f32 := (extf .f32 · bitsLt_bf16_f32) main_arg0
  let main_v5 : FVec F S8x1024x4096 .f32 := Host.absf main_v4
  let main_cst : FVec F S_ .f32 := constant S_ .f32 0x7F800000#32
  let main_v6 : FVec F S8x1024x4096 .f32 := broadcastInDim S8x1024x4096 ![] bcast_S_S8x1024x4096 main_cst
  let main_v7 : IVec S8x1024x4096 1 := cmpf .olt main_v5 main_v6
  let main_c : IVec S_ 1 := constantI S_ 1 1#1
  let main_v8 : IVec S_ 1 := (fun x v => Host.reduce IntOp.andi x v reducesTo_S8x1024x4096_S_d0_1_2 h_S_) main_v7 main_c
  let main_v9 : FVec F S8x4096x1024 .f32 := (extf .f32 · bitsLt_bf16_f32) main_arg1
  let main_v10 : FVec F S8x4096x1024 .f32 := Host.absf main_v9
  let main_cst_0 : FVec F S_ .f32 := constant S_ .f32 0x7F800000#32
  let main_v11 : FVec F S8x4096x1024 .f32 := broadcastInDim S8x4096x1024 ![] bcast_S_S8x4096x1024 main_cst_0
  let main_v12 : IVec S8x4096x1024 1 := cmpf .olt main_v10 main_v11
  let main_c_1 : IVec S_ 1 := constantI S_ 1 1#1
  let main_v13 : IVec S_ 1 := (fun x v => Host.reduce IntOp.andi x v reducesTo_S8x4096x1024_S_d0_1_2 h_S_) main_v12 main_c_1
  let main_v14 : IVec S_ 1 := andi main_v8 main_v13
  let main_v15 : FVec F S8x8x32x4096 .f32 := (extractStridedSlice S8x8x32x4096 ![0, 0, 96, 0] · slices_S8x8x128x4096_S8x8x32x4096_0_0_96_0) main_v1
  let main_cst_2 : FVec F S_ .f32 := constant S_ .f32 0x00000000#32
  let main_v16 : FVec F S8x8x32x4096 .f32 := broadcastInDim S8x8x32x4096 ![] bcast_S_S8x8x32x4096 main_cst_2
  let main_v17 : IVec S8x8x32x4096 1 := cmpf .oeq main_v15 main_v16
  let main_c_3 : IVec S_ 1 := constantI S_ 1 1#1
  fn_part1 (F := F) main_v3 main_v14 main_v17 main_c_3
-- ==== Pre_rope_layout.lean ====
abbrev S32768x4224 : Shape := ⟨2, ![32768, 4224]⟩
abbrev S1x256 : Shape := ⟨2, ![1, 256]⟩
abbrev S1x128 : Shape := ⟨2, ![1, 128]⟩
abbrev S1024x256 : Shape := ⟨2, ![1024, 256]⟩
abbrev S128x1024 : Shape := ⟨2, ![128, 1024]⟩
abbrev S640x128 : Shape := ⟨2, ![640, 128]⟩
abbrev S32768x128 : Shape := ⟨2, ![32768, 128]⟩
abbrev S48x32768 : Shape := ⟨2, ![48, 32768]⟩
abbrev S32768x96 : Shape := ⟨2, ![32768, 96]⟩
abbrev S_ : Shape := ⟨0, ![]⟩
abbrev S32768x16 : Shape := ⟨2, ![32768, 16]⟩

class Facts : Prop where
  slices_S32768x4224_S32768x96_0_3744 : S32768x4224.Slices ![0, 3744] S32768x96
  bitsLt_bf16_f32 : FTy.bits .bf16 < FTy.bits .f32
  bcast_S_S32768x96 : S_.BroadcastsInDim S32768x96 (![] : Fin 0 → Fin S32768x96.rank)
  reducesTo_S32768x96_S_d0_1 : S32768x96.ReducesTo [0, 1] S_
  h_S_ : 0 < S_.numel
  slices_S32768x128_S32768x16_0_96 : S32768x128.Slices ![0, 96] S32768x16
  bcast_S_S32768x16 : S_.BroadcastsInDim S32768x16 (![] : Fin 0 → Fin S32768x16.rank)
  reducesTo_S32768x16_S_d0_1 : S32768x16.ReducesTo [0, 1] S_

variable [Facts]

def fn {F : FTy → Type} [FloatOps F] (main_arg0 : FVec F S32768x4224 .bf16) (main_arg1 : FVec F S1x256 .f32) (main_arg2 : FVec F S1x128 .f32) (main_arg3 : FVec F S1024x256 .bf16) (main_arg4 : FVec F S128x1024 .bf16) (main_arg5 : FVec F S640x128 .bf16) (main_arg6 : FVec F S32768x128 .f32) (main_arg7 : FVec F S32768x128 .f32) (main_arg8 : FVec F S48x32768 .f32) (main_arg9 : FVec F S48x32768 .f32) : IVec S_ 1 :=
  let main_v0 : FVec F S32768x96 .bf16 := (extractStridedSlice S32768x96 ![0, 3744] · slices_S32768x4224_S32768x96_0_3744) main_arg0
  let main_v1 : FVec F S32768x96 .f32 := (extf .f32 · bitsLt_bf16_f32) main_v0
  let main_cst : FVec F S_ .f32 := constant S_ .f32 0x00000000#32
  let main_v2 : FVec F S32768x96 .f32 := broadcastInDim S32768x96 ![] bcast_S_S32768x96 main_cst
  let main_v3 : IVec S32768x96 1 := cmpf .oeq main_v1 main_v2
  let main_c : IVec S_ 1 := constantI S_ 1 1#1
  let main_v4 : IVec S_ 1 := (fun x v => Host.reduce IntOp.andi x v reducesTo_S32768x96_S_d0_1 h_S_) main_v3 main_c
  let main_v5 : FVec F S32768x16 .f32 := (extractStridedSlice S32768x16 ![0, 96] · slices_S32768x128_S32768x16_0_96) main_arg7
  let main_cst_0 : FVec F S_ .f32 := constant S_ .f32 0x00000000#32
  let main_v6 : FVec F S32768x16 .f32 := broadcastInDim S32768x16 ![] bcast_S_S32768x16 main_cst_0
  let main_v7 : IVec S32768x16 1 := cmpf .oeq main_v5 main_v6
  let main_c_1 : IVec S_ 1 := constantI S_ 1 1#1
  let main_v8 : IVec S_ 1 := (fun x v => Host.reduce IntOp.andi x v reducesTo_S32768x16_S_d0_1 h_S_) main_v7 main_c_1
  let main_v9 : IVec S_ 1 := andi main_v4 main_v8
  main_v9
-- ==== Kernel.lean ====
abbrev S8x1024x4096 : Shape := ⟨3, ![8, 1024, 4096]⟩
abbrev S8x4096x1024 : Shape := ⟨3, ![8, 4096, 1024]⟩
abbrev S8x640x4096 : Shape := ⟨3, ![8, 640, 4096]⟩
abbrev S8x4096x512 : Shape := ⟨3, ![8, 4096, 512]⟩
abbrev S1x256x2048 : Shape := ⟨3, ![1, 256, 2048]⟩
abbrev S1x4096x256 : Shape := ⟨3, ![1, 4096, 256]⟩
abbrev S1x160x4096 : Shape := ⟨3, ![1, 160, 4096]⟩
abbrev S1x2048x128 : Shape := ⟨3, ![1, 2048, 128]⟩
abbrev S2x1x2048 : Shape := ⟨3, ![2, 1, 2048]⟩
abbrev S2x80x2048 : Shape := ⟨3, ![2, 80, 2048]⟩
abbrev S2x512x2048 : Shape := ⟨3, ![2, 512, 2048]⟩
abbrev S1x512x128 : Shape := ⟨3, ![1, 512, 128]⟩
abbrev S512x128 : Shape := ⟨2, ![512, 128]⟩
abbrev S1x128x2048 : Shape := ⟨3, ![1, 128, 2048]⟩
abbrev S128x2048 : Shape := ⟨2, ![128, 2048]⟩
abbrev S512x2048 : Shape := ⟨2, ![512, 2048]⟩
abbrev S1x512x2048 : Shape := ⟨3, ![1, 512, 2048]⟩
abbrev S1x1x2048 : Shape := ⟨3, ![1, 1, 2048]⟩
abbrev S1x2048 : Shape := ⟨2, ![1, 2048]⟩
abbrev S2048 : Shape := ⟨1, ![2048]⟩
abbrev S1x80x2048 : Shape := ⟨3, ![1, 80, 2048]⟩
abbrev S80x2048 : Shape := ⟨2, ![80, 2048]⟩
abbrev S1x80x512 : Shape := ⟨3, ![1, 80, 512]⟩
abbrev S80x512 : Shape := ⟨2, ![80, 512]⟩
abbrev S64x2048 : Shape := ⟨2, ![64, 2048]⟩
abbrev S2048x128 : Shape := ⟨2, ![2048, 128]⟩

abbrev nBuf : Space → Nat
  | .hbm => 4
  | .vmem => 12
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x640x4096, .bf16⟩
  | .hbm, ⟨3, _⟩ => ⟨S8x4096x512, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x160x4096, .bf16⟩
  | .local _ .vmem, ⟨5, _⟩ => ⟨S1x160x4096, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x1x2048, .f32⟩
  | .local _ .vmem, ⟨9, _⟩ => ⟨S2x80x2048, .f32⟩
  | .local _ .vmem, ⟨10, _⟩ => ⟨S2x512x2048, .f32⟩
  | .local _ .vmem, ⟨11, _⟩ => ⟨S2x512x2048, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_mult1 : BitVec 32 :=
  let c0_i32 : BitVec 32 := 0#32
  c0_i32
def k0_mult2 : BitVec 32 :=
  let c0_i32_15 : BitVec 32 := 0#32
  c0_i32_15
@[reducible] def k0_t1_loop : Scf.Loop 32 :=
  let c0_i32_23 : BitVec 32 := 0#32
  let c3_i32 : BitVec 32 := 3#32
  let v28 : BitVec 32 := Scalar.addi c0_i32_23 c3_i32
  let c1_i32 : BitVec 32 := 1#32
  ⟨c0_i32_23, v28, c1_i32⟩
def k0_mult3 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_133 : BitVec 32 := 1#32
  let v188 : BitVec 32 := Scalar.addi v187 c1_i32_133
  let c512_i32 : BitVec 32 := 512#32
  let v189 : BitVec 32 := Scalar.muli v188 c512_i32
  v189
def k0_off1 (k0_t1 : Fin k0_t1_loop.trips) (c1_i32_133 : BitVec 32) : Fin 3 → Nat :=
  let c0_134 : Index := 0#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let v188 : BitVec 32 := Scalar.addi v187 c1_i32_133
  let c512_i32 : BitVec 32 := 512#32
  let v189 : BitVec 32 := Scalar.muli v188 c512_i32
  let v190 : BitVec 32 := v189
  let v191 : Index := Scalar.indexCast v190
  let c0_135 : Index := 0#32
  ![0, v191.toNat, 0]
def k0_mult4 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_133 : BitVec 32 := 1#32
  let v188 : BitVec 32 := Scalar.addi v187 c1_i32_133
  let c512_i32_143 : BitVec 32 := 512#32
  let v200 : BitVec 32 := Scalar.muli v188 c512_i32_143
  v200
def k0_off2 (k0_t1 : Fin k0_t1_loop.trips) (c1_i32_133 : BitVec 32) : Fin 3 → Nat :=
  let c0_144 : Index := 0#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let v188 : BitVec 32 := Scalar.addi v187 c1_i32_133
  let c512_i32_143 : BitVec 32 := 512#32
  let v200 : BitVec 32 := Scalar.muli v188 c512_i32_143
  let v201 : BitVec 32 := v200
  let v202 : Index := Scalar.indexCast v201
  let c128_145 : Index := 128#32
  ![0, v202.toNat, 128]
def k0_mult5 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c512_i32_163 : BitVec 32 := 512#32
  let v228 : BitVec 32 := Scalar.muli v187 c512_i32_163
  v228
def k0_off3 (k0_t1 : Fin k0_t1_loop.trips) : Fin 3 → Nat :=
  let c0_164 : Index := 0#32
  let c0_165 : Index := 0#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c512_i32_163 : BitVec 32 := 512#32
  let v228 : BitVec 32 := Scalar.muli v187 c512_i32_163
  let v229 : BitVec 32 := v228
  let v230 : Index := Scalar.indexCast v229
  ![0, 0, v230.toNat]
def k0_mult6 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c512_i32_183 : BitVec 32 := 512#32
  let v258 : BitVec 32 := Scalar.muli v187 c512_i32_183
  v258
def k0_off4 (k0_t1 : Fin k0_t1_loop.trips) : Fin 3 → Nat :=
  let c0_184 : Index := 0#32
  let c80_185 : Index := 80#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c512_i32_183 : BitVec 32 := 512#32
  let v258 : BitVec 32 := Scalar.muli v187 c512_i32_183
  let v259 : BitVec 32 := v258
  let v260 : Index := Scalar.indexCast v259
  ![0, 80, v260.toNat]
def k0_mult7 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c2_i32_193 : BitVec 32 := 2#32
  let v271 : BitVec 32 := Scalar.addi v187 c2_i32_193
  let c512_i32_194 : BitVec 32 := 512#32
  let v272 : BitVec 32 := Scalar.muli v271 c512_i32_194
  v272
def k0_mult8 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c2_i32_193 : BitVec 32 := 2#32
  let v271 : BitVec 32 := Scalar.addi v187 c2_i32_193
  let c512_i32_204 : BitVec 32 := 512#32
  let v283 : BitVec 32 := Scalar.muli v271 c512_i32_204
  v283
def k0_mult9 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_214 : BitVec 32 := 1#32
  let v294 : BitVec 32 := Scalar.addi v187 c1_i32_214
  let c512_i32_225 : BitVec 32 := 512#32
  let v312 : BitVec 32 := Scalar.muli v294 c512_i32_225
  v312
def k0_off5 (k0_t1 : Fin k0_t1_loop.trips) : Fin 3 → Nat :=
  let c0_226 : Index := 0#32
  let c0_227 : Index := 0#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_214 : BitVec 32 := 1#32
  let v294 : BitVec 32 := Scalar.addi v187 c1_i32_214
  let c512_i32_225 : BitVec 32 := 512#32
  let v312 : BitVec 32 := Scalar.muli v294 c512_i32_225
  let v313 : BitVec 32 := v312
  let v314 : Index := Scalar.indexCast v313
  ![0, 0, v314.toNat]
def k0_mult10 (k0_t1 : Fin k0_t1_loop.trips) : BitVec 32 :=
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_214 : BitVec 32 := 1#32
  let v294 : BitVec 32 := Scalar.addi v187 c1_i32_214
  let c512_i32_245 : BitVec 32 := 512#32
  let v342 : BitVec 32 := Scalar.muli v294 c512_i32_245
  v342
def k0_off6 (k0_t1 : Fin k0_t1_loop.trips) : Fin 3 → Nat :=
  let c0_246 : Index := 0#32
  let c80_247 : Index := 80#32
  let c2_i32 : BitVec 32 := 2#32
  let c0_i32_23 : BitVec 32 := 0#32
  let c1_i32 : BitVec 32 := 1#32
  let arg11 : BitVec 32 := Scf.iv c0_i32_23 c1_i32 k0_t1
  let v187 : BitVec 32 := Scalar.muli c2_i32 arg11
  let c1_i32_214 : BitVec 32 := 1#32
  let v294 : BitVec 32 := Scalar.addi v187 c1_i32_214
  let c512_i32_245 : BitVec 32 := 512#32
  let v342 : BitVec 32 := Scalar.muli v294 c512_i32_245
  let v343 : BitVec 32 := v342
  let v344 : Index := Scalar.indexCast v343
  ![0, 80, v344.toNat]
def k0_mult11 : BitVec 32 :=
  let c3584_i32 : BitVec 32 := 3584#32
  c3584_i32
def k0_mult12 : BitVec 32 :=
  let c3584_i32_34 : BitVec 32 := 3584#32
  c3584_i32_34
def k0_mult13 : BitVec 32 :=
  let c3072_i32 : BitVec 32 := 3072#32
  c3072_i32
def k0_mult14 : BitVec 32 :=
  let c3072_i32_73 : BitVec 32 := 3072#32
  c3072_i32_73
def k0_mult15 : BitVec 32 :=
  let c3584_i32_92 : BitVec 32 := 3584#32
  c3584_i32_92
def k0_mult16 : BitVec 32 :=
  let c3584_i32_112 : BitVec 32 := 3584#32
  c3584_i32_112
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x1024x4096 : Shape := ⟨3, ![8, 1024, 4096]⟩
abbrev S8x4096x1024 : Shape := ⟨3, ![8, 4096, 1024]⟩
abbrev S8x640x4096 : Shape := ⟨3, ![8, 640, 4096]⟩
abbrev S8x8x128x4096 : Shape := ⟨4, ![8, 8, 128, 4096]⟩
abbrev S8x4096x8x128 : Shape := ⟨4, ![8, 4096, 8, 128]⟩
abbrev S8x8x80x4096 : Shape := ⟨4, ![8, 8, 80, 4096]⟩
abbrev S8x4096x8x80 : Shape := ⟨4, ![8, 4096, 8, 80]⟩
abbrev S8x4096x8x64 : Shape := ⟨4, ![8, 4096, 8, 64]⟩
abbrev S8x4096x8x32 : Shape := ⟨4, ![8, 4096, 8, 32]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x640x4096, .bf16⟩
  | .hbm, ⟨3, _⟩ => ⟨S8x8x128x4096, .bf16⟩
  | .hbm, ⟨4, _⟩ => ⟨S8x4096x8x128, .bf16⟩
  | .hbm, ⟨5, _⟩ => ⟨S8x4096x8x128, .f32⟩
  | .hbm, ⟨6, _⟩ => ⟨S8x4096x8x128, .bf16⟩
  | .hbm, ⟨7, _⟩ => ⟨S8x4096x8x128, .f32⟩
  | .hbm, ⟨8, _⟩ => ⟨S8x8x80x4096, .bf16⟩
  | .hbm, ⟨9, _⟩ => ⟨S8x4096x8x80, .bf16⟩
  | .hbm, ⟨10, _⟩ => ⟨S8x4096x8x64, .bf16⟩
  | .hbm, ⟨11, _⟩ => ⟨S8x4096x8x64, .f32⟩
  | .hbm, ⟨12, _⟩ => ⟨S8x4096x8x64, .f32⟩
  | .hbm, ⟨13, _⟩ => ⟨S8x4096x8x32, .f32⟩
  | .hbm, ⟨14, _⟩ => ⟨S8x4096x8x64, .f32⟩
  | .hbm, ⟨15, _⟩ => ⟨S8x4096x8x32, .f32⟩
  | .hbm, ⟨16, _⟩ => ⟨S8x8x4096x4096, .f32⟩
  | .hbm, ⟨17, _⟩ => ⟨S8x8x4096x4096, .f32⟩
  | .hbm, ⟨18, _⟩ => ⟨S8x8x4096x4096, .f32⟩
  | .hbm, ⟨19, _⟩ => ⟨S_, .f32⟩
  | .hbm, ⟨20, _⟩ => ⟨S_, .f32⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096, .f32⟩
  | .hbm, ⟨25, _⟩ => ⟨S_, .f32⟩
  | .hbm, ⟨26, _⟩ => ⟨S8x8x4096, .f32⟩
  | .hbm, ⟨27, _⟩ => ⟨S8x8x4096, .f32⟩
  | .hbm, ⟨28, _⟩ => ⟨S8x8x4096x1, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x64x4096, .f32⟩
  | .hbm, ⟨38, _⟩ => ⟨S8x4096x8x64, .f32⟩
  | .hbm, ⟨39, _⟩ => ⟨S8x4096x512, .f32⟩
  | .hbm, ⟨40, _⟩ => ⟨S8x4096x512, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S2x1024x3584 : Shape := ⟨3, ![2, 1024, 3584]⟩
abbrev S2x3584x1024 : Shape := ⟨3, ![2, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S2x1024x3584, .bf16⟩
  | .hbm, ⟨3, _⟩ => ⟨S2x1024x3584, .bf16⟩
  | .hbm, ⟨4, _⟩ => ⟨S2x3584x1024, .bf16⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v22 : BitVec 1 := Scalar.cmpi .eq arg1 c6_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S32768x1024 : Shape := ⟨2, ![32768, 1024]⟩
abbrev S1x1024 : Shape := ⟨2, ![1, 1024]⟩
abbrev S2x1024x3584 : Shape := ⟨3, ![2, 1024, 3584]⟩
abbrev S2x3584x1024 : Shape := ⟨3, ![2, 3584, 1024]⟩
abbrev S_ : Shape := ⟨0, ![]⟩
abbrev S32768 : Shape := ⟨1, ![32768]⟩
abbrev S32768x1 : Shape := ⟨2, ![32768, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S32768x3584 : Shape := ⟨2, ![32768, 3584]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S2x1024x3584, .bf16⟩
  | .hbm, ⟨3, _⟩ => ⟨S2x1024x3584, .bf16⟩
  | .hbm, ⟨4, _⟩ => ⟨S2x3584x1024, .bf16⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S1x1024x3584, .bf16⟩
  | .hbm, ⟨21, _⟩ => ⟨S1024x3584, .bf16⟩
  | .hbm, ⟨22, _⟩ => ⟨S1024x3584, .f32⟩
  | .hbm, ⟨23, _⟩ => ⟨S1x1024x3584, .bf16⟩
  | .hbm, ⟨24, _⟩ => ⟨S1024x3584, .bf16⟩
  | .hbm, ⟨25, _⟩ => ⟨S1024x3584, .f32⟩
  | .hbm, ⟨26, _⟩ => ⟨S1x3584x1024, .bf16⟩
  | .hbm, ⟨27, _⟩ => ⟨S3584x1024, .bf16⟩
  | .hbm, ⟨28, _⟩ => ⟨S3584x1024, .f32⟩
  | .hbm, ⟨29, _⟩ => ⟨S32768x3584, .f32⟩
  | .hbm, ⟨30, _⟩ => ⟨S32768x3584, .f32⟩
  | .hbm, ⟨31, _⟩ => ⟨S32768x3584, .f32⟩
  | .hbm, ⟨32, _⟩ => ⟨S_, .f32⟩
  | .hbm, ⟨33, _⟩ => ⟨S32768x3584, .f32⟩
  | .hbm, ⟨34, _⟩ => ⟨S32768x3584, .f32⟩
  | .hbm, ⟨35, _⟩ => ⟨S_, .f32⟩
  | .hbm, ⟨36, _⟩ => ⟨S32768x3584, .f32⟩
  | .hbm, ⟨37, _⟩ => ⟨S32768x3584, .f32⟩
  | .hbm, ⟨38, _⟩ => ⟨S32768x3584, .f32⟩
  | .hbm, ⟨39, _⟩ => ⟨S32768x3584, .f32⟩
  | .hbm, ⟨40, _⟩ => ⟨S32768x3584, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Mix.lean ====
abbrev S32768x1024 : Shape := ⟨2, ![32768, 1024]⟩
abbrev S32768x512 : Shape := ⟨2, ![32768, 512]⟩
abbrev S32768x4224 : Shape := ⟨2, ![32768, 4224]⟩
abbrev S4x3x512x1024 : Shape := ⟨4, ![4, 3, 512, 1024]⟩
abbrev S4x1024x1024 : Shape := ⟨3, ![4, 1024, 1024]⟩
abbrev S512x1024 : Shape := ⟨2, ![512, 1024]⟩
abbrev S512x512 : Shape := ⟨2, ![512, 512]⟩
abbrev S512x3072 : Shape := ⟨2, ![512, 3072]⟩
abbrev S1x3x512x1024 : Shape := ⟨4, ![1, 3, 512, 1024]⟩
abbrev S1x1024x1024 : Shape := ⟨3, ![1, 1024, 1024]⟩
abbrev S1x1x512x1024 : Shape := ⟨4, ![1, 1, 512, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4224, .bf16⟩
  | .hbm, ⟨5, _⟩ => ⟨S4x3x512x1024, .bf16⟩
  | .hbm, ⟨6, _⟩ => ⟨S4x1024x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1x3x512x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixReferenceIdeal.lean ====
abbrev S32768x1024 : Shape := ⟨2, ![32768, 1024]⟩
abbrev S32768x512 : Shape := ⟨2, ![32768, 512]⟩
abbrev S32768x4224 : Shape := ⟨2, ![32768, 4224]⟩
abbrev S4x3x512x1024 : Shape := ⟨4, ![4, 3, 512, 1024]⟩
abbrev S4x1024x1024 : Shape := ⟨3, ![4, 1024, 1024]⟩
abbrev S32768x3072 : Shape := ⟨2, ![32768, 3072]⟩
abbrev S_ : Shape := ⟨0, ![]⟩
abbrev S32768x3x1024 : Shape := ⟨3, ![32768, 3, 1024]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S32768x1x1024 : Shape := ⟨3, ![32768, 1, 1024]⟩
abbrev S1x512x1024 : Shape := ⟨3, ![1, 512, 1024]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x4224, .bf16⟩
  | .hbm, ⟨5, _⟩ => ⟨S4x3x512x1024, .bf16⟩
  | .hbm, ⟨6, _⟩ => ⟨S4x1024x1024, .bf16⟩
  | .hbm, ⟨7, _⟩ => ⟨S32768x3072, .bf16⟩
  | .hbm, ⟨8, _⟩ => ⟨S32768x3072, .f32⟩
  | .hbm, ⟨9, _⟩ => ⟨S32768x3072, .f32⟩
  | .hbm, ⟨10, _⟩ => ⟨S32768x3072, .f32⟩
  | .hbm, ⟨11, _⟩ => ⟨S_, .f32⟩
  | .hbm, ⟨12, _⟩ => ⟨S32768x3072, .f32⟩
  | .hbm, ⟨13, _⟩ => ⟨S32768x3072, .f32⟩
  | .hbm, ⟨14, _⟩ => ⟨S_, .f32⟩
  | .hbm, ⟨15, _⟩ => ⟨S32768x3072, .f32⟩
  | .hbm, ⟨16, _⟩ => ⟨S32768x3072, .f32⟩
  | .hbm, ⟨17, _⟩ => ⟨S32768x3x1024, .f32⟩
  | .hbm, ⟨18, _⟩ => ⟨S1x3x512x1024, .bf16⟩
  | .hbm, ⟨19, _⟩ => ⟨S3x512x1024, .bf16⟩
  | .hbm, ⟨20, _⟩ => ⟨S3x512x1024, .f32⟩
  | .hbm, ⟨21, _⟩ => ⟨S1x1024x1024, .bf16⟩
  | .hbm, ⟨22, _⟩ => ⟨S1024x1024, .bf16⟩
  | .hbm, ⟨23, _⟩ => ⟨S1024x1024, .f32⟩
  | .hbm, ⟨24, _⟩ => ⟨S32768x1x1024, .f32⟩
  | .hbm, ⟨25, _⟩ => ⟨S32768x1024, .f32⟩
  | .hbm, ⟨26, _⟩ => ⟨S32768x512, .f32⟩
  | .hbm, ⟨27, _⟩ => ⟨S1x512x1024, .f32⟩
  | .hbm, ⟨28, _⟩ => ⟨S512x1024, .f32⟩
  | .hbm, ⟨29, _⟩ => ⟨S32768x1024, .f32⟩
  | .hbm, ⟨30, _⟩ => ⟨S32768x1024, .f32⟩
  | .hbm, ⟨31, _⟩ => ⟨S32768x1x1024, .f32⟩
  | .hbm, ⟨32, _⟩ => ⟨S32768x1024, .f32⟩
  | .hbm, ⟨33, _⟩ => ⟨S32768x512, .f32⟩
  | .hbm, ⟨34, _⟩ => ⟨S1x512x1024, .f32⟩
  | .hbm, ⟨35, _⟩ => ⟨S512x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1x1024, .f32⟩
  | .hbm, ⟨40, _⟩ => ⟨S32768x1024, .f32⟩
  | .hbm, ⟨41, _⟩ => ⟨S32768x512, .f32⟩
  | .hbm, ⟨42, _⟩ => ⟨S1x512x1024, .f32⟩
  | .hbm, ⟨43, _⟩ => ⟨S512x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S4x1024x4224 : Shape := ⟨3, ![4, 1024, 4224]⟩
abbrev S4x512x1024 : Shape := ⟨3, ![4, 512, 1024]⟩
abbrev S4x128x1024 : Shape := ⟨3, ![4, 128, 1024]⟩
abbrev S32768x128 : Shape := ⟨2, ![32768, 128]⟩
abbrev S48x32768 : Shape := ⟨2, ![48, 32768]⟩
abbrev S32768x4224 : Shape := ⟨2, ![32768, 4224]⟩
abbrev S512x32768 : Shape := ⟨2, ![512, 32768]⟩
abbrev S256x32768 : Shape := ⟨2, ![256, 32768]⟩
abbrev S512x1024 : Shape := ⟨2, ![512, 1024]⟩
abbrev S1x1024x4224 : Shape := ⟨3, ![1, 1024, 4224]⟩
abbrev S1x512x1024 : Shape := ⟨3, ![1, 512, 1024]⟩
abbrev S1x128x1024 : Shape := ⟨3, ![1, 128, 1024]⟩
abbrev S512x128 : Shape := ⟨2, ![512, 128]⟩
abbrev S32x512 : Shape := ⟨2, ![32, 512]⟩
abbrev S512x4224 : Shape := ⟨2, ![512, 4224]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x1024x384 : Shape := ⟨3, ![1, 1024, 384]⟩
abbrev S1024x384 : Shape := ⟨2, ![1024, 384]⟩
abbrev S512x384 : Shape := ⟨2, ![512, 384]⟩
abbrev S128x1024 : Shape := ⟨2, ![128, 1024]⟩
abbrev S128x512 : Shape := ⟨2, ![128, 512]⟩
abbrev S64x512 : Shape := ⟨2, ![64, 512]⟩

abbrev nBuf : Space → Nat
  | .hbm => 12
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1024x4224, .bf16⟩
  | .hbm, ⟨3, _⟩ => ⟨S4x512x1024, .bf16⟩
  | .hbm, ⟨4, _⟩ => ⟨S4x128x1024, .bf16⟩
  | .hbm, ⟨5, _⟩ => ⟨S32768x128, .f32⟩
  | .hbm, ⟨6, _⟩ => ⟨S32768x128, .f32⟩
  | .hbm, ⟨7, _⟩ => ⟨S48x32768, .f32⟩
  | .hbm, ⟨8, _⟩ => ⟨S48x32768, .f32⟩
  | .hbm, ⟨9, _⟩ => ⟨S32768x4224, .bf16⟩
  | .hbm, ⟨10, _⟩ => ⟨S512x32768, .bf16⟩
  | .hbm, ⟨11, _⟩ => ⟨S256x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4224, .bf16⟩
  | .local _ .vmem, ⟨4, _⟩ => ⟨S1x512x1024, .bf16⟩
  | .local _ .vmem, ⟨5, _⟩ => ⟨S1x128x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S512x4224, .bf16⟩
  | .local _ .vmem, ⟨15, _⟩ => ⟨S512x4224, .bf16⟩
  | .local _ .vmem, ⟨16, _⟩ => ⟨S512x512, .bf16⟩
  | .local _ .vmem, ⟨17, _⟩ => ⟨S512x512, .bf16⟩
  | .local _ .vmem, ⟨18, _⟩ => ⟨S256x512, .bf16⟩
  | .local _ .vmem, ⟨19, _⟩ => ⟨S256x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4224 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjIdeal.lean ====
variable {F : FTy → Type} [FloatOps F] [Named F]
def κ : String → Option EReal := fun
  | "m_scale" => some (((Real.sqrt 128)⁻¹ : ℝ) : EReal)
  | "q_scale" => some (((1 / 8) * (Real.log 2)⁻¹ : ℝ) : EReal)
  | _ => none
-- ==== InProjReferenceIdeal.lean ====
abbrev S32768x1024 : Shape := ⟨2, ![32768, 1024]⟩
abbrev S1x1024 : Shape := ⟨2, ![1, 1024]⟩
abbrev S4x1024x4224 : Shape := ⟨3, ![4, 1024, 4224]⟩
abbrev S4x512x1024 : Shape := ⟨3, ![4, 512, 1024]⟩
abbrev S4x128x1024 : Shape := ⟨3, ![4, 128, 1024]⟩
abbrev S32768x128 : Shape := ⟨2, ![32768, 128]⟩
abbrev S48x32768 : Shape := ⟨2, ![48, 32768]⟩
abbrev S_ : Shape := ⟨0, ![]⟩
abbrev S32768 : Shape := ⟨1, ![32768]⟩
abbrev S32768x1 : Shape := ⟨2, ![32768, 1]⟩
abbrev S1x1024x4224 : Shape := ⟨3, ![1, 1024, 4224]⟩
abbrev S1024x4224 : Shape := ⟨2, ![1024, 4224]⟩
abbrev S32768x4224 : Shape := ⟨2, ![32768, 4224]⟩
abbrev S32768x3072 : Shape := ⟨2, ![32768, 3072]⟩
abbrev S32768x512 : Shape := ⟨2, ![32768, 512]⟩
abbrev S32768x2x2x32 : Shape := ⟨4, ![32768, 2, 2, 32]⟩
abbrev S32768x2x1x32 : Shape := ⟨4, ![32768, 2, 1, 32]⟩
abbrev S32768x2x32 : Shape := ⟨3, ![32768, 2, 32]⟩
abbrev S1x512x1024 : Shape := ⟨3, ![1, 512, 1024]⟩
abbrev S512x1024 : Shape := ⟨2, ![512, 1024]⟩
abbrev S1024x512 : Shape := ⟨2, ![1024, 512]⟩
abbrev S32768x8x2x32 : Shape := ⟨4, ![32768, 8, 2, 32]⟩
abbrev S32x32768 : Shape := ⟨2, ![32, 32768]⟩
abbrev S32768x32 : Shape := ⟨2, ![32768, 32]⟩
abbrev S32768x1x32 : Shape := ⟨3, ![32768, 1, 32]⟩
abbrev S32768x8x1x32 : Shape := ⟨4, ![32768, 8, 1, 32]⟩
abbrev S32768x8x32 : Shape := ⟨3, ![32768, 8, 32]⟩
abbrev S512x32768 : Shape := ⟨2, ![512, 32768]⟩
abbrev S1x128x1024 : Shape := ⟨3, ![1, 128, 1024]⟩
abbrev S128x1024 : Shape := ⟨2, ![128, 1024]⟩
abbrev S1024x128 : Shape := ⟨2, ![1024, 128]⟩
abbrev S32768x2x64 : Shape := ⟨3, ![32768, 2, 64]⟩
abbrev S32768x2x1 : Shape := ⟨3, ![32768, 2, 1]⟩
abbrev S32768x2x63 : Shape := ⟨3, ![32768, 2, 63]⟩
abbrev S32768x2x128 : Shape := ⟨3, ![32768, 2, 128]⟩
abbrev S32768x256 : Shape := ⟨2, ![32768, 256]⟩
abbrev S256x32768 : Shape := ⟨2, ![256, 32768]⟩

abbrev nBuf : Space → Nat
  | .hbm => 124
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S4x1024x4224, .bf16⟩
  | .hbm, ⟨3, _⟩ => ⟨S4x512x1024, .bf16⟩
  | .hbm, ⟨4, _⟩ => ⟨S4x128x1024, .bf16⟩
  | .hbm, ⟨5, _⟩ => ⟨S32768x128, .f32⟩
  | .hbm, ⟨6, _⟩ => ⟨S32768x128, .f32⟩
  | .hbm, ⟨7, _⟩ => ⟨S48x32768, .f32⟩
  | .hbm, ⟨8, _⟩ => ⟨S48x32768, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S1x1024x4224, .bf16⟩
  | .hbm, ⟨25, _⟩ => ⟨S1024x4224, .bf16⟩
  | .hbm, ⟨26, _⟩ => ⟨S1024x4224, .f32⟩
  | .hbm, ⟨27, _⟩ => ⟨S32768x4224, .f32⟩
  | .hbm, ⟨28, _⟩ => ⟨S32768x3072, .f32⟩
  | .hbm, ⟨29, _⟩ => ⟨S32768x512, .f32⟩
  | .hbm, ⟨30, _⟩ => ⟨S32768x128, .f32⟩
  | .hbm, ⟨31, _⟩ => ⟨S32768x512, .f32⟩
  | .hbm, ⟨32, _⟩ => ⟨S32768x2x2x32, .f32⟩
  | .hbm, ⟨33, _⟩ => ⟨S32768x2x2x32, .f32⟩
  | .hbm, ⟨34, _⟩ => ⟨S32768x2x2x32, .f32⟩
  | .hbm, ⟨35, _⟩ => ⟨S32768x2x1x32, .f32⟩
  | .hbm, ⟨36, _⟩ => ⟨S32768x2x32, .f32⟩
  | .hbm, ⟨37, _⟩ => ⟨S32768x2x1x32, .f32⟩
  | .hbm, ⟨38, _⟩ => ⟨S32768x2x32, .f32⟩
  | .hbm, ⟨39, _⟩ => ⟨S32768x2x32, .f32⟩
  | .hbm, ⟨40, _⟩ => ⟨S32768x2x1x32, .f32⟩
  | .hbm, ⟨41, _⟩ => ⟨S32768x2x32, .f32⟩
  | .hbm, ⟨42, _⟩ => ⟨S32768x2x1x32, .f32⟩
  | .hbm, ⟨43, _⟩ => ⟨S32768x2x32, .f32⟩
  | .hbm, ⟨44, _⟩ => ⟨S32768x2x32, .f32⟩
  | .hbm, ⟨45, _⟩ => ⟨S32768x2x32, .f32⟩
  | .hbm, ⟨46, _⟩ => ⟨S32768x2x1x32, .f32⟩
  | .hbm, ⟨47, _⟩ => ⟨S32768x2x32, .f32⟩
  | .hbm, ⟨48, _⟩ => ⟨S32768x2x1x32, .f32⟩
  | .hbm, ⟨49, _⟩ => ⟨S32768x2x32, .f32⟩
  | .hbm, ⟨50, _⟩ => ⟨S32768x2x32, .f32⟩
  | .hbm, ⟨51, _⟩ => ⟨S32768x2x1x32, .f32⟩
  | .hbm, ⟨52, _⟩ => ⟨S32768x2x32, .f32⟩
  | .hbm, ⟨53, _⟩ => ⟨S32768x2x1x32, .f32⟩
  | .hbm, ⟨54, _⟩ => ⟨S32768x2x32, .f32⟩
  | .hbm, ⟨55, _⟩ => ⟨S32768x2x32, .f32⟩
  | .hbm, ⟨56, _⟩ => ⟨S32768x2x32, .f32⟩
  | .hbm, ⟨57, _⟩ => ⟨S32768x2x1x32, .f32⟩
  | .hbm, ⟨58, _⟩ => ⟨S32768x2x1x32, .f32⟩
  | .hbm, ⟨59, _⟩ => ⟨S32768x2x2x32, .f32⟩
  | .hbm, ⟨60, _⟩ => ⟨S32768x128, .f32⟩
  | .hbm, ⟨61, _⟩ => ⟨S_, .f32⟩
  | .hbm, ⟨62, _⟩ => ⟨S_, .f32⟩
  | .hbm, ⟨63, _⟩ => ⟨S32768x512, .f32⟩
  | .hbm, ⟨64, _⟩ => ⟨S32768x512, .f32⟩
  | .hbm, ⟨65, _⟩ => ⟨S32768x4224, .f32⟩
  | .hbm, ⟨66, _⟩ => ⟨S32768x4224, .bf16⟩
  | .hbm, ⟨67, _⟩ => ⟨S1x512x1024, .bf16⟩
  | .hbm, ⟨68, _⟩ => ⟨S512x1024, .bf16⟩
  | .hbm, ⟨69, _⟩ => ⟨S512x1024, .f32⟩
  | .hbm, ⟨70, _⟩ => ⟨S1024x512, .f32⟩
  | .hbm, ⟨71, _⟩ => ⟨S32768x512, .f32⟩
  | .hbm, ⟨72, _⟩ => ⟨S32768x8x2x32, .f32⟩
  | .hbm, ⟨73, _⟩ => ⟨S32x32768, .f32⟩
  | .hbm, ⟨74, _⟩ => ⟨S32768x32, .f32⟩
  | .hbm, ⟨75, _⟩ => ⟨S32768x1x32, .f32⟩
  | .hbm, ⟨76, _⟩ => ⟨S32x32768, .f32⟩
  | .hbm, ⟨77, _⟩ => ⟨S32768x32, .f32⟩
  | .hbm, ⟨78, _⟩ => ⟨S32768x1x32, .f32⟩
  | .hbm, ⟨79, _⟩ => ⟨S32768x8x1x32, .f32⟩
  | .hbm, ⟨80, _⟩ => ⟨S32768x8x32, .f32⟩
  | .hbm, ⟨81, _⟩ => ⟨S32768x8x32, .f32⟩
  | .hbm, ⟨82, _⟩ => ⟨S32768x8x32, .f32⟩
  | .hbm, ⟨83, _⟩ => ⟨S32768x8x1x32, .f32⟩
  | .hbm, ⟨84, _⟩ => ⟨S32768x8x32, .f32⟩
  | .hbm, ⟨85, _⟩ => ⟨S32768x8x32, .f32⟩
  | .hbm, ⟨86, _⟩ => ⟨S32768x8x32, .f32⟩
  | .hbm, ⟨87, _⟩ => ⟨S32768x8x32, .f32⟩
  | .hbm, ⟨88, _⟩ => ⟨S32768x8x1x32, .f32⟩
  | .hbm, ⟨89, _⟩ => ⟨S32768x8x32, .f32⟩
  | .hbm, ⟨90, _⟩ => ⟨S32768x8x32, .f32⟩
  | .hbm, ⟨91, _⟩ => ⟨S32768x8x32, .f32⟩
  | .hbm, ⟨92, _⟩ => ⟨S32768x8x1x32, .f32⟩
  | .hbm, ⟨93, _⟩ => ⟨S32768x8x32, .f32⟩
  | .hbm, ⟨94, _⟩ => ⟨S32768x8x32, .f32⟩
  | .hbm, ⟨95, _⟩ => ⟨S32768x8x32, .f32⟩
  | .hbm, ⟨96, _⟩ => ⟨S32768x8x32, .f32⟩
  | .hbm, ⟨97, _⟩ => ⟨S32768x8x1x32, .f32⟩
  | .hbm, ⟨98, _⟩ => ⟨S32768x8x1x32, .f32⟩
  | .hbm, ⟨99, _⟩ => ⟨S32768x8x2x32, .f32⟩
  | .hbm, ⟨100, _⟩ => ⟨S_, .f32⟩
  | .hbm, ⟨101, _⟩ => ⟨S32768x8x2x32, .f32⟩
  | .hbm, ⟨102, _⟩ => ⟨S32768x8x2x32, .f32⟩
  | .hbm, ⟨103, _⟩ => ⟨S_, .f32⟩
  | .hbm, ⟨104, _⟩ => ⟨S_, .f32⟩
  | .hbm, ⟨105, _⟩ => ⟨S32768x8x2x32, .f32⟩
  | .hbm, ⟨106, _⟩ => ⟨S32768x8x2x32, .f32⟩
  | .hbm, ⟨107, _⟩ => ⟨S32768x512, .f32⟩
  | .hbm, ⟨108, _⟩ => ⟨S512x32768, .f32⟩
  | .hbm, ⟨109, _⟩ => ⟨S512x32768, .bf16⟩
  | .hbm, ⟨110, _⟩ => ⟨S1x128x1024, .bf16⟩
  | .hbm, ⟨111, _⟩ => ⟨S128x1024, .bf16⟩
  | .hbm, ⟨112, _⟩ => ⟨S128x1024, .f32⟩
  | .hbm, ⟨113, _⟩ => ⟨S1024x128, .f32⟩
  | .hbm, ⟨114, _⟩ => ⟨S32768x128, .f32⟩
  | .hbm, ⟨115, _⟩ => ⟨S32768x2x64, .f32⟩
  | .hbm, ⟨116, _⟩ => ⟨S_, .f32⟩
  | .hbm, ⟨117, _⟩ => ⟨S32768x2x1, .f32⟩
  | .hbm, ⟨118, _⟩ => ⟨S_, .f32⟩
  | .hbm, ⟨119, _⟩ => ⟨S32768x2x63, .f32⟩
  | .hbm, ⟨120, _⟩ => ⟨S32768x2x128, .f32⟩
  | .hbm, ⟨121, _⟩ => ⟨S32768x256, .f32⟩
  | .hbm, ⟨122, _⟩ => ⟨S256x32768, .f32⟩
  | .hbm, ⟨123, _⟩ => ⟨S256x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_3 : Ref sig .tc := ⟨.hbm, 100, rfl⟩
abbrev main_v87 : Ref sig .tc := ⟨.hbm, 101, rfl⟩
abbrev main_v88 : Ref sig .tc := ⟨.hbm, 102, rfl⟩
abbrev main_cst_4 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_5 : Ref sig .tc := ⟨.hbm, 116, rfl⟩
abbrev main_v101 : Ref sig .tc := ⟨.hbm, 117, rfl⟩
abbrev main_cst_6 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== MemKv.lean ====
abbrev S2048x1024 : Shape := ⟨2, ![2048, 1024]⟩
abbrev S1x1024 : Shape := ⟨2, ![1, 1024]⟩
abbrev S4x1024x1024 : Shape := ⟨3, ![4, 1024, 1024]⟩
abbrev S4x2048x1024 : Shape := ⟨3, ![4, 2048, 1024]⟩
abbrev S1x1024x1024 : Shape := ⟨3, ![1, 1024, 1024]⟩
abbrev S1x2048x1024 : Shape := ⟨3, ![1, 2048, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1024, .bf16⟩
  | .hbm, ⟨3, _⟩ => ⟨S4x2048x1024, .bf16⟩
  | .local _ .vmem, ⟨0, _⟩ => ⟨S2048x1024, .f32⟩
  | .local _ .vmem, ⟨1, _⟩ => ⟨S1x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvReferenceIdeal.lean ====
abbrev S2048x1024 : Shape := ⟨2, ![2048, 1024]⟩
abbrev S1x1024 : Shape := ⟨2, ![1, 1024]⟩
abbrev S4x1024x1024 : Shape := ⟨3, ![4, 1024, 1024]⟩
abbrev S_ : Shape := ⟨0, ![]⟩
abbrev S2048 : Shape := ⟨1, ![2048]⟩
abbrev S2048x1 : Shape := ⟨2, ![2048, 1]⟩
abbrev S4x1024x2048 : Shape := ⟨3, ![4, 1024, 2048]⟩
abbrev S4x2048x1024 : Shape := ⟨3, ![4, 2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S4x1024x1024, .f32⟩
  | .hbm, ⟨19, _⟩ => ⟨S4x1024x2048, .f32⟩
  | .hbm, ⟨20, _⟩ => ⟨S4x2048x1024, .f32⟩
  | .hbm, ⟨21, _⟩ => ⟨S4x2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MemAttn.lean ====
abbrev S32768x4224 : Shape := ⟨2, ![32768, 4224]⟩
abbrev S4x2048x1024 : Shape := ⟨3, ![4, 2048, 1024]⟩
abbrev S8x4096x4224 : Shape := ⟨3, ![8, 4096, 4224]⟩
abbrev S8x4096x512 : Shape := ⟨3, ![8, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S32768x4224, .bf16⟩
  | .hbm, ⟨1, _⟩ => ⟨S4x2048x1024, .bf16⟩
  | .hbm, ⟨2, _⟩ => ⟨S8x4096x4224, .bf16⟩
  | .hbm, ⟨3, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S32768x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnReferenceIdeal.lean ====
abbrev S32768x4224 : Shape := ⟨2, ![32768, 4224]⟩
abbrev S4x2048x1024 : Shape := ⟨3, ![4, 2048, 1024]⟩
abbrev S32768x512 : Shape := ⟨2, ![32768, 512]⟩
abbrev S8x4096x4x128 : Shape := ⟨4, ![8, 4096, 4, 128]⟩
abbrev S1x2048x1024 : Shape := ⟨3, ![1, 2048, 1024]⟩
abbrev S2048x1024 : Shape := ⟨2, ![2048, 1024]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x512 : Shape := ⟨3, ![8, 4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S32768x4224, .bf16⟩
  | .hbm, ⟨1, _⟩ => ⟨S4x2048x1024, .bf16⟩
  | .hbm, ⟨2, _⟩ => ⟨S32768x512, .bf16⟩
  | .hbm, ⟨3, _⟩ => ⟨S32768x512, .f32⟩
  | .hbm, ⟨4, _⟩ => ⟨S8x4096x4x128, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S8x256x2x4x128, .f32⟩
  | .hbm, ⟨9, _⟩ => ⟨S8x256x1x4x128, .f32⟩
  | .hbm, ⟨10, _⟩ => ⟨S8x256x4x128, .f32⟩
  | .hbm, ⟨11, _⟩ => ⟨S8x256x1x4x128, .f32⟩
  | .hbm, ⟨12, _⟩ => ⟨S8x256x4x128, .f32⟩
  | .hbm, ⟨13, _⟩ => ⟨S8x4x4096x256, .f32⟩
  | .hbm, ⟨14, _⟩ => ⟨S_, .f32⟩
  | .hbm, ⟨15, _⟩ => ⟨S8x4x4096, .f32⟩
  | .hbm, ⟨16, _⟩ => ⟨S_, .f32⟩
  | .hbm, ⟨17, _⟩ => ⟨S8x4x4096, .f32⟩
  | .hbm, ⟨18, _⟩ => ⟨S8x4x4096, .f32⟩
  | .hbm, ⟨19, _⟩ => ⟨S8x4x4096x1, .f32⟩
  | .hbm, ⟨20, _⟩ => ⟨S8x4x4096x256, .f32⟩
  | .hbm, ⟨21, _⟩ => ⟨S8x4x4096x256, .f32⟩
  | .hbm, ⟨22, _⟩ => ⟨S8x4x4096x256, .f32⟩
  | .hbm, ⟨23, _⟩ => ⟨S_, .f32⟩
  | .hbm, ⟨24, _⟩ => ⟨S8x4x4096, .f32⟩
  | .hbm, ⟨25, _⟩ => ⟨S8x4x4096x1, .f32⟩
  | .hbm, ⟨26, _⟩ => ⟨S8x4x4096x256, .f32⟩
  | .hbm, ⟨27, _⟩ => ⟨S8x4x4096x256, .f32⟩
  | .hbm, ⟨28, _⟩ => ⟨S8x4x128x4096, .f32⟩
  | .hbm, ⟨29, _⟩ => ⟨S8x4096x4x128, .f32⟩
  | .hbm, ⟨30, _⟩ => ⟨S8x4096x512, .f32⟩
  | .hbm, ⟨31, _⟩ => ⟨S8x4096x512, .bf16⟩
  | _, _ => ⟨S32768x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== MlaPrep.lean ====
abbrev S32768x4224 : Shape := ⟨2, ![32768, 4224]⟩
abbrev S1x256 : Shape := ⟨2, ![1, 256]⟩
abbrev S1x128 : Shape := ⟨2, ![1, 128]⟩
abbrev S1024x256 : Shape := ⟨2, ![1024, 256]⟩
abbrev S128x1024 : Shape := ⟨2, ![128, 1024]⟩
abbrev S640x128 : Shape := ⟨2, ![640, 128]⟩
abbrev S32768x128 : Shape := ⟨2, ![32768, 128]⟩
abbrev S48x32768 : Shape := ⟨2, ![48, 32768]⟩
abbrev S8x1024x4096 : Shape := ⟨3, ![8, 1024, 4096]⟩
abbrev S8x4096x1024 : Shape := ⟨3, ![8, 4096, 1024]⟩
abbrev S8x640x4096 : Shape := ⟨3, ![8, 640, 4096]⟩
abbrev S512x256 : Shape := ⟨2, ![512, 256]⟩
abbrev S512x128 : Shape := ⟨2, ![512, 128]⟩
abbrev S16x512 : Shape := ⟨2, ![16, 512]⟩
abbrev S1x1024x512 : Shape := ⟨3, ![1, 1024, 512]⟩
abbrev S1x512x1024 : Shape := ⟨3, ![1, 512, 1024]⟩
abbrev S1x640x512 : Shape := ⟨3, ![1, 640, 512]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩
abbrev S1024x512 : Shape := ⟨2, ![1024, 512]⟩
abbrev S640x512 : Shape := ⟨2, ![640, 512]⟩
abbrev S80x512 : Shape := ⟨2, ![80, 512]⟩
abbrev S64x512 : Shape := ⟨2, ![64, 512]⟩
abbrev S32x512 : Shape := ⟨2, ![32, 512]⟩
abbrev S128x512 : Shape := ⟨2, ![128, 512]⟩
abbrev S1x128x512 : Shape := ⟨3, ![1, 128, 512]⟩
abbrev S1x80x512 : Shape := ⟨3, ![1, 80, 512]⟩

abbrev nBuf : Space → Nat
  | .hbm => 13
  | .vmem => 25
  | .smem => 0
  | _ => 0

abbrev bufTy : (tb : Table) → Fin (tcTables nBuf tb) → BufTy
  | .hbm, ⟨0, _⟩ => ⟨S32768x4224, .bf16⟩
  | .hbm, ⟨1, _⟩ => ⟨S1x256, .f32⟩
  | .hbm, ⟨2, _⟩ => ⟨S1x128, .f32⟩
  | .hbm, ⟨3, _⟩ => ⟨S1024x256, .bf16⟩
  | .hbm, ⟨4, _⟩ => ⟨S128x1024, .bf16⟩
  | .hbm, ⟨5, _⟩ => ⟨S640x128, .bf16⟩
  | .hbm, ⟨6, _⟩ => ⟨S32768x128, .f32⟩
  | .hbm, ⟨7, _⟩ => ⟨S32768x128, .f32⟩
  | .hbm, ⟨8, _⟩ => ⟨S48x32768, .f32⟩
  | .hbm, ⟨9, _⟩ => ⟨S48x32768, .f32⟩
  | .hbm, ⟨10, _⟩ => ⟨S8x1024x4096, .bf16⟩
  | .hbm, ⟨11, _⟩ => ⟨S8x4096x1024, .bf16⟩
  | .hbm, ⟨12, _⟩ => ⟨S8x640x4096, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x256, .bf16⟩
  | .local _ .vmem, ⟨5, _⟩ => ⟨S512x256, .bf16⟩
  | .local _ .vmem, ⟨6, _⟩ => ⟨S1x256, .f32⟩
  | .local _ .vmem, ⟨7, _⟩ => ⟨S1x128, .f32⟩
  | .local _ .vmem, ⟨8, _⟩ => ⟨S1024x256, .bf16⟩
  | .local _ .vmem, ⟨9, _⟩ => ⟨S128x1024, .bf16⟩
  | .local _ .vmem, ⟨10, _⟩ => ⟨S640x128, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S1x1024x512, .bf16⟩
  | .local _ .vmem, ⟨20, _⟩ => ⟨S1x1024x512, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x640x512, .bf16⟩
  | .local _ .vmem, ⟨24, _⟩ => ⟨S1x640x512, .bf16⟩
  | _, _ => ⟨S32768x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let c0_i32 : BitVec 32 := 0#32
  ![v1.toNat, c15_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c14_i32 : BitVec 32 := 14#32
  let c0_i32 : BitVec 32 := 0#32
  ![v1.toNat, c14_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![c2_i32.toNat, v1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![c2_i32.toNat, v1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S640x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MlaPrepIdeal.lean ====
variable {F : FTy → Type} [FloatOps F] [Named F]
def κ : String → Option EReal := fun
  | "q_scale" => some (((Real.sqrt 96)⁻¹ * (Real.log 2)⁻¹ : ℝ) : EReal)
  | _ => none
-- ==== MlaPrepReferenceIdeal.lean ====
abbrev S32768x4224 : Shape := ⟨2, ![32768, 4224]⟩
abbrev S1x256 : Shape := ⟨2, ![1, 256]⟩
abbrev S1x128 : Shape := ⟨2, ![1, 128]⟩
abbrev S1024x256 : Shape := ⟨2, ![1024, 256]⟩
abbrev S128x1024 : Shape := ⟨2, ![128, 1024]⟩
abbrev S640x128 : Shape := ⟨2, ![640, 128]⟩
abbrev S32768x128 : Shape := ⟨2, ![32768, 128]⟩
abbrev S48x32768 : Shape := ⟨2, ![48, 32768]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S256x1024 : Shape := ⟨2, ![256, 1024]⟩
abbrev S32768x1024 : Shape := ⟨2, ![32768, 1024]⟩
abbrev S32768x8x128 : Shape := ⟨3, ![32768, 8, 128]⟩
abbrev S32768x8x16 : Shape := ⟨3, ![32768, 8, 16]⟩
abbrev S16x32768 : Shape := ⟨2, ![16, 32768]⟩
abbrev S32768x16 : Shape := ⟨2, ![32768, 16]⟩
abbrev S32768x1x16 : Shape := ⟨3, ![32768, 1, 16]⟩
abbrev S32768x8x64 : Shape := ⟨3, ![32768, 8, 64]⟩
abbrev S32768x8x32 : Shape := ⟨3, ![32768, 8, 32]⟩
abbrev S8x4096x1024 : Shape := ⟨3, ![8, 4096, 1024]⟩
abbrev S8x1024x4096 : Shape := ⟨3, ![8, 1024, 4096]⟩
abbrev S32768x32 : Shape := ⟨2, ![32768, 32]⟩
abbrev S32768x1x32 : Shape := ⟨3, ![32768, 1, 32]⟩
abbrev S128x640 : Shape := ⟨2, ![128, 640]⟩
abbrev S32768x640 : Shape := ⟨2, ![32768, 640]⟩
abbrev S32768x8x80 : Shape := ⟨3, ![32768, 8, 80]⟩
abbrev S32768x8x1 : Shape := ⟨3, ![32768, 8, 1]⟩
abbrev S32768x8x15 : Shape := ⟨3, ![32768, 8, 15]⟩
abbrev S8x4096x640 : Shape := ⟨3, ![8, 4096, 640]⟩
abbrev S8x640x4096 : Shape := ⟨3, ![8, 640, 4096]⟩

abbrev nBuf : Space → Nat
  | .hbm => 121
  | .vmem => 0
  | .smem => 0
  | _ => 0

abbrev bufTy : (tb : Table) → Fin (tcTables nBuf tb) → BufTy
  | .hbm, ⟨0, _⟩ => ⟨S32768x4224, .bf16⟩
  | .hbm, ⟨1, _⟩ => ⟨S1x256, .f32⟩
  | .hbm, ⟨2, _⟩ => ⟨S1x128, .f32⟩
  | .hbm, ⟨3, _⟩ => ⟨S1024x256, .bf16⟩
  | .hbm, ⟨4, _⟩ => ⟨S128x1024, .bf16⟩
  | .hbm, ⟨5, _⟩ => ⟨S640x128, .bf16⟩
  | .hbm, ⟨6, _⟩ => ⟨S32768x128, .f32⟩
  | .hbm, ⟨7, _⟩ => ⟨S32768x128, .f32⟩
  | .hbm, ⟨8, _⟩ => ⟨S48x32768, .f32⟩
  | .hbm, ⟨9, _⟩ => ⟨S48x32768, .f32⟩
  | .hbm, ⟨10, _⟩ => ⟨S32768x256, .bf16⟩
  | .hbm, ⟨11, _⟩ => ⟨S32768x256, .f32⟩
  | .hbm, ⟨12, _⟩ => ⟨S32768x128, .bf16⟩
  | .hbm, ⟨13, _⟩ => ⟨S32768x128, .f32⟩
  | .hbm, ⟨14, _⟩ => ⟨S32768x256, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S32768x128, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x128, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S1024x256, .f32⟩
  | .hbm, ⟨45, _⟩ => ⟨S256x1024, .f32⟩
  | .hbm, ⟨46, _⟩ => ⟨S32768x1024, .f32⟩
  | .hbm, ⟨47, _⟩ => ⟨S32768x8x128, .f32⟩
  | .hbm, ⟨48, _⟩ => ⟨S32768x8x16, .f32⟩
  | .hbm, ⟨49, _⟩ => ⟨S32768x8x16, .f32⟩
  | .hbm, ⟨50, _⟩ => ⟨S16x32768, .f32⟩
  | .hbm, ⟨51, _⟩ => ⟨S32768x16, .f32⟩
  | .hbm, ⟨52, _⟩ => ⟨S32768x1x16, .f32⟩
  | .hbm, ⟨53, _⟩ => ⟨S16x32768, .f32⟩
  | .hbm, ⟨54, _⟩ => ⟨S32768x16, .f32⟩
  | .hbm, ⟨55, _⟩ => ⟨S32768x1x16, .f32⟩
  | .hbm, ⟨56, _⟩ => ⟨S32768x8x64, .f32⟩
  | .hbm, ⟨57, _⟩ => ⟨S32768x8x16, .f32⟩
  | .hbm, ⟨58, _⟩ => ⟨S32768x8x16, .f32⟩
  | .hbm, ⟨59, _⟩ => ⟨S32768x8x16, .f32⟩
  | .hbm, ⟨60, _⟩ => ⟨S32768x8x16, .f32⟩
  | .hbm, ⟨61, _⟩ => ⟨S32768x8x16, .f32⟩
  | .hbm, ⟨62, _⟩ => ⟨S32768x8x16, .f32⟩
  | .hbm, ⟨63, _⟩ => ⟨S32768x8x16, .f32⟩
  | .hbm, ⟨64, _⟩ => ⟨S32768x8x16, .f32⟩
  | .hbm, ⟨65, _⟩ => ⟨S32768x8x16, .f32⟩
  | .hbm, ⟨66, _⟩ => ⟨S32768x8x16, .f32⟩
  | .hbm, ⟨67, _⟩ => ⟨S32768x8x32, .f32⟩
  | .hbm, ⟨68, _⟩ => ⟨S32768x8x128, .f32⟩
  | .hbm, ⟨69, _⟩ => ⟨S_, .f32⟩
  | .hbm, ⟨70, _⟩ => ⟨S_, .f32⟩
  | .hbm, ⟨71, _⟩ => ⟨S32768x8x128, .f32⟩
  | .hbm, ⟨72, _⟩ => ⟨S32768x8x128, .f32⟩
  | .hbm, ⟨73, _⟩ => ⟨S_, .f32⟩
  | .hbm, ⟨74, _⟩ => ⟨S_, .f32⟩
  | .hbm, ⟨75, _⟩ => ⟨S32768x8x128, .f32⟩
  | .hbm, ⟨76, _⟩ => ⟨S32768x8x128, .f32⟩
  | .hbm, ⟨77, _⟩ => ⟨S8x4096x1024, .f32⟩
  | .hbm, ⟨78, _⟩ => ⟨S8x1024x4096, .f32⟩
  | .hbm, ⟨79, _⟩ => ⟨S8x1024x4096, .bf16⟩
  | .hbm, ⟨80, _⟩ => ⟨S32768x16, .bf16⟩
  | .hbm, ⟨81, _⟩ => ⟨S32768x16, .f32⟩
  | .hbm, ⟨82, _⟩ => ⟨S32768x16, .bf16⟩
  | .hbm, ⟨83, _⟩ => ⟨S32768x16, .f32⟩
  | .hbm, ⟨84, _⟩ => ⟨S32768x16, .f32⟩
  | .hbm, ⟨85, _⟩ => ⟨S32768x16, .f32⟩
  | .hbm, ⟨86, _⟩ => ⟨S32768x16, .f32⟩
  | .hbm, ⟨87, _⟩ => ⟨S32768x16, .f32⟩
  | .hbm, ⟨88, _⟩ => ⟨S32768x16, .f32⟩
  | .hbm, ⟨89, _⟩ => ⟨S32768x16, .f32⟩
  | .hbm, ⟨90, _⟩ => ⟨S32768x16, .f32⟩
  | .hbm, ⟨91, _⟩ => ⟨S32768x16, .f32⟩
  | .hbm, ⟨92, _⟩ => ⟨S32768x16, .f32⟩
  | .hbm, ⟨93, _⟩ => ⟨S32768x16, .f32⟩
  | .hbm, ⟨94, _⟩ => ⟨S32768x32, .f32⟩
  | .hbm, ⟨95, _⟩ => ⟨S128x1024, .f32⟩
  | .hbm, ⟨96, _⟩ => ⟨S32768x1024, .f32⟩
  | .hbm, ⟨97, _⟩ => ⟨S32768x8x128, .f32⟩
  | .hbm, ⟨98, _⟩ => ⟨S32768x8x64, .f32⟩
  | .hbm, ⟨99, _⟩ => ⟨S32768x8x32, .f32⟩
  | .hbm, ⟨100, _⟩ => ⟨S32768x1x32, .f32⟩
  | .hbm, ⟨101, _⟩ => ⟨S32768x8x32, .f32⟩
  | .hbm, ⟨102, _⟩ => ⟨S32768x8x32, .f32⟩
  | .hbm, ⟨103, _⟩ => ⟨S32768x8x32, .f32⟩
  | .hbm, ⟨104, _⟩ => ⟨S32768x8x128, .f32⟩
  | .hbm, ⟨105, _⟩ => ⟨S8x4096x1024, .f32⟩
  | .hbm, ⟨106, _⟩ => ⟨S8x4096x1024, .bf16⟩
  | .hbm, ⟨107, _⟩ => ⟨S640x128, .f32⟩
  | .hbm, ⟨108, _⟩ => ⟨S128x640, .f32⟩
  | .hbm, ⟨109, _⟩ => ⟨S32768x640, .f32⟩
  | .hbm, ⟨110, _⟩ => ⟨S32768x8x80, .f32⟩
  | .hbm, ⟨111, _⟩ => ⟨S32768x8x64, .f32⟩
  | .hbm, ⟨112, _⟩ => ⟨S32768x8x1, .f32⟩
  | .hbm, ⟨113, _⟩ => ⟨S_, .f32⟩
  | .hbm, ⟨114, _⟩ => ⟨S32768x8x1, .f32⟩
  | .hbm, ⟨115, _⟩ => ⟨S32768x8x1, .f32⟩
  | .hbm, ⟨116, _⟩ => ⟨S32768x8x15, .f32⟩
  | .hbm, ⟨117, _⟩ => ⟨S32768x8x80, .f32⟩
  | .hbm, ⟨118, _⟩ => ⟨S8x4096x640, .f32⟩
  | .hbm, ⟨119, _⟩ => ⟨S8x640x4096, .f32⟩
  | .hbm, ⟨120, _⟩ => ⟨S8x640x4096, .bf16⟩
  | _, _ => ⟨S32768x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_7 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proof.MlaRun.lean ====
module

public import proofs.«01_k».proof.Proof.Gen.KernelIdeal.Loops
public import Idealize.ShloMosaic.Lib.Tactic
public import Idealize.ShloMosaic.Lib.WritesUnit
public import Idealize.ShloMosaic.Lib.Pointwise

@[expose] public section

set_option maxRecDepth 16384

noncomputable section

/-! The scratch of the latent attention, read tile by tile: what the loop over pairs of key chunks leaves. -/

namespace Cert.KernelIdeal.Mla

open Idealize.ShloMosaic Idealize.ShloMosaic.TcCoe Idealize.SL.Sem Idealize.ShloMosaic.Tactic
open Cert.KernelIdeal Cert.KernelIdeal.Gen

variable {F : FTy → Type} [FloatOps F]

/-! ## Reading a tile of a buffer after stores of tiles -/

section Tiles
variable {sig : RefSig} {κ : Kind} {sp : Space} {s : Shape} {e : EltTy} {Val : EltTy → Type}
variable (v : View sig κ sp s e) (f : v.ty.Contents Val)

theorem tile_hit {off off' size : Fin s.rank → ℕ} (inb : ∀ a, off a + size a ≤ s.size a) (inb' : ∀ a, off' a + size a ≤ s.size a)
    (w : (Rect.unit off' size inb').shape.Idx → Val e) (L : List (View.Piece Val s e)) (h : off' = off) :
    v.readAt Val (Rect.unit off size inb).toLoadRect (v.writes Val f ((⟨Rect.unit off' size inb', w⟩ : View.Piece Val s e) :: L)) = w := by
  subst h
  funext x
  exact View.read_writes_cons_emb v f (Rect.unit off' size inb') w L x

theorem tile_skip {off off' size size' : Fin s.rank → ℕ} (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f ((⟨Rect.unit off' size' inb', w⟩ : View.Piece Val s e) :: L))
      = v.readAt Val (Rect.unit off size inb).toLoadRect (v.writes Val f L) := by
  funext x
  refine View.read_writes_cons_unit_of_not_mem v f inb' w L _ rfl a ?_
  have hx : (x a).val < size a := (x a).isLt
  have hi : (((Rect.unit off size inb).toLoadRect.idx x) a).val = off a + 1 * (x a).val := rfl
  omega

variable [∀ e, Nonempty (Val e)]

theorem cov_hit {off size : Fin s.rank → ℕ} (inb inb' : ∀ a, off a + size a ≤ s.size a)
    (w : (Rect.unit off size inb').shape.Idx → Val e) (L : List (View.Piece Val s e)) :
    v.readCov ((⟨Rect.unit off size inb', w⟩ : View.Piece Val s e) :: L) (Rect.unit off size inb).toLoadRect = w :=
  tile_hit v _ inb inb' w L rfl

theorem cov_skip (a : Fin s.rank) {off off' size size' : Fin s.rank → ℕ} (inb : ∀ a, off a + size a ≤ s.size a) (inb' : ∀ a, off' a + size' a ≤ s.size a)
    (w : (Rect.unit off' size' inb').shape.Idx → Val e) (L : List (View.Piece Val s e))
    (h : off a + size a ≤ off' a ∨ off' a + size' a ≤ off a) :
    v.readCov ((⟨Rect.unit off' size' inb', w⟩ : View.Piece Val s e) :: L) (Rect.unit off size inb).toLoadRect
      = v.readCov L (Rect.unit off size inb).toLoadRect :=
  tile_skip v _ inb inb' w L a h

end Tiles

/-! ## The blocks one chunk of keys uses -/

/-- Head `h`'s queries: its 128 rows of the query block. -/
def qOf (x0 : Vec F S1x256x2048 .bf16) (h : ℕ) : Vec F S1x128x2048 .bf16 :=
  fun p => x0 (ix3 (n0 := 1) (n1 := 256) (n2 := 2048) 0 ⟨(128 * h + (p 1).val) % 256, Nat.mod_lt _ (by decide)⟩ (p 2))

/-- Head `h`'s keys of chunk `j`: 512 keys, 128 lanes. -/
def kOf (x1 : Vec F S1x4096x256 .bf16) (h j : ℕ) : Vec F S1x512x128 .bf16 :=
  fun p => x1 (ix3 (n0 := 1) (n1 := 4096) (n2 := 256) 0 ⟨(512 * j + (p 1).val) % 4096, Nat.mod_lt _ (by decide)⟩ ⟨(128 * h + (p 2).val) % 256, Nat.mod_lt _ (by decide)⟩)

/-- Head `h`'s values of chunk `j`, transposed: 80 rows, 512 keys. -/
def vOf (x2 : Vec F S1x160x4096 .bf16) (h j : ℕ) : Vec F S1x80x512 .bf16 :=
  fun p => x2 (ix3 (n0 := 1) (n1 := 160) (n2 := 4096) 0 ⟨(80 * h + (p 1).val) % 160, Nat.mod_lt _ (by decide)⟩ ⟨(512 * j + (p 2).val) % 4096, Nat.mod_lt _ (by decide)⟩)

theorem rd_q {sig : RefSig} {κ : Kind} {sp : Space} (v : View sig κ sp S1x256x2048 .bf16) (X : v.ty.Contents (Elt F)) (h : ℕ) (off : Fin 3 → ℕ)
    (ho : off = ![0, 128 * h, 0]) (inb : ∀ a : Fin 3, off a + S1x128x2048.size a ≤ S1x256x2048.size a) :
    v.readAt (Elt F) (Rect.unit (s := S1x256x2048) off S1x128x2048.size inb).toLoadRect X = qOf (v.read (Elt F) X) h := by
  subst ho
  funext x
  have hb : 128 * h + 128 ≤ 256 := inb 1
  show v.read (Elt F) X _ = v.read (Elt F) X _
  have h0 : (x 0).val < 1 := (x 0).isLt
  have h1 : (x 1).val < 128 := (x 1).isLt
  congr 1
  funext a
  apply Fin.ext
  fin_cases a
  · show 0 + 1 * (x 0).val = 0; omega
  · show 128 * h + 1 * (x 1).val = (128 * h + (x 1).val) % 256; omega
  · show 0 + 1 * (x 2).val = (x 2).val; omega

theorem rd_k {sig : RefSig} {κ : Kind} {sp : Space} (v : View sig κ sp S1x4096x256 .bf16) (X : v.ty.Contents (Elt F)) (h j : ℕ) (off : Fin 3 → ℕ)
    (ho : off = ![0, 512 * j, 128 * h]) (inb : ∀ a : Fin 3, off a + S1x512x128.size a ≤ S1x4096x256.size a) :
    v.readAt (Elt F) (Rect.unit (s := S1x4096x256) off S1x512x128.size inb).toLoadRect X = kOf (v.read (Elt F) X) h j := by
  subst ho
  funext x
  have hb : 512 * j + 512 ≤ 4096 := inb 1
  have hb' : 128 * h + 128 ≤ 256 := inb 2
  show v.read (Elt F) X _ = v.read (Elt F) X _
  have h0 : (x 0).val < 1 := (x 0).isLt
  have h1 : (x 1).val < 512 := (x 1).isLt
  have h2 : (x 2).val < 128 := (x 2).isLt
  congr 1
  funext a
  apply Fin.ext
  fin_cases a
  · show 0 + 1 * (x 0).val = 0; omega
  · show 512 * j + 1 * (x 1).val = (512 * j + (x 1).val) % 4096; omega
  · show 128 * h + 1 * (x 2).val = (128 * h + (x 2).val) % 256; omega

theorem rd_v {sig : RefSig} {κ : Kind} {sp : Space} (v : View sig κ sp S1x160x4096 .bf16) (X : v.ty.Contents (Elt F)) (h j : ℕ) (off : Fin 3 → ℕ)
    (ho : off = ![0, 80 * h, 512 * j]) (inb : ∀ a : Fin 3, off a + S1x80x512.size a ≤ S1x160x4096.size a) :
    v.readAt (Elt F) (Rect.unit (s := S1x160x4096) off S1x80x512.size inb).toLoadRect X = vOf (v.read (Elt F) X) h j := by
  subst ho
  funext x
  have hb : 80 * h + 80 ≤ 160 := inb 1
  have hb' : 512 * j + 512 ≤ 4096 := inb 2
  show v.read (Elt F) X _ = v.read (Elt F) X _
  have h0 : (x 0).val < 1 := (x 0).isLt
  have h1 : (x 1).val < 80 := (x 1).isLt
  have h2 : (x 2).val < 512 := (x 2).isLt
  congr 1
  funext a
  apply Fin.ext
  fin_cases a
  · show 0 + 1 * (x 0).val = 0; omega
  · show 80 * h + 1 * (x 1).val = (80 * h + (x 1).val) % 160; omega
  · show 512 * j + 1 * (x 2).val = (512 * j + (x 2).val) % 4096; omega

/-! ## The three running quantities of one head -/

/-- The scores of chunk `j`: keys by queries. -/
def Sc (x0 : Vec F S1x256x2048 .bf16) (x1 : Vec F S1x4096x256 .bf16) (h j : ℕ) : Vec F S1x512x2048 .f32 := k0_pay4 (kOf x1 h j) (qOf x0 h)

/-- The running maximum after `j` chunks. -/
def Mx (x0 : Vec F S1x256x2048 .bf16) (x1 : Vec F S1x4096x256 .bf16) (h : ℕ) : ℕ → Vec F S1x1x2048 .f32
  | 0 => fun _ => Scalar.ofBits .f32 0xFF800000#32
  | j + 1 => k0_pay10 (k0_pay6 (Sc x0 x1 h j)) (k0_pay7 (Mx x0 x1 h j))

/-- The rescaled weighted values (and, in row 64, the weights' sum) after `j` chunks. -/
def Ac (x0 : Vec F S1x256x2048 .bf16) (x1 : Vec F S1x4096x256 .bf16) (x2 : Vec F S1x160x4096 .bf16) (h : ℕ) : ℕ → Vec F S1x80x2048 .f32
  | 0 => fun _ => Scalar.ofBits .f32 0x00000000#32
  | j + 1 => k0_pay9 (k0_pay6 (Sc x0 x1 h j)) (k0_pay7 (Mx x0 x1 h j)) (Ac x0 x1 x2 h j) (vOf x2 h j)

abbrev tM (v : Memref sig .tc .vmem S2x1x2048 .f32) (h : ℕ) (hh : h < 2) (f : v.view.ty.Contents (Elt F)) : Vec F S1x1x2048 .f32 :=
  v.view.readAt (Elt F) (Rect.unit (s := S2x1x2048) ![h, 0, 0] S1x1x2048.size (by intro a; have := hh; fin_cases a <;> simp [S1x1x2048, S2x1x2048]; omega)).toLoadRect f

abbrev tA (v : Memref sig .tc .vmem S2x80x2048 .f32) (h : ℕ) (hh : h < 2) (f : v.view.ty.Contents (Elt F)) : Vec F S1x80x2048 .f32 :=
  v.view.readAt (Elt F) (Rect.unit (s := S2x80x2048) ![h, 0, 0] S1x80x2048.size (by intro a; have := hh; fin_cases a <;> simp [S1x80x2048, S2x80x2048]; omega)).toLoadRect f

abbrev tS (v : Memref sig .tc .vmem S2x512x2048 .f32) (h : ℕ) (hh : h < 2) (f : v.view.ty.Contents (Elt F)) : Vec F S1x512x2048 .f32 :=
  v.view.readAt (Elt F) (Rect.unit (s := S2x512x2048) ![h, 0, 0] S1x512x2048.size (by intro a; have := hh; fin_cases a <;> simp [S1x512x2048, S2x512x2048]; omega)).toLoadRect f

/-- Before chunk `j`: both heads' maxima and accumulators after the `j` chunks before it, and chunk `j`'s scores. -/
structure St (arg7 : Memref sig .tc .vmem S2x1x2048 .f32) (arg8 : Memref sig .tc .vmem S2x80x2048 .f32) (arg9 : Memref sig .tc .vmem S2x512x2048 .f32)
    (x0 : Vec F S1x256x2048 .bf16) (x1 : Vec F S1x4096x256 .bf16) (x2 : Vec F S1x160x4096 .bf16) (j : ℕ)
    (f7 : arg7.view.ty.Contents (Elt F)) (f8 : arg8.view.ty.Contents (Elt F)) (f9 : arg9.view.ty.Contents (Elt F)) : Prop where
  m0 : tM arg7 0 (by decide) f7 = Mx x0 x1 0 j
  m1 : tM arg7 1 (by decide) f7 = Mx x0 x1 1 j
  a0 : tA arg8 0 (by decide) f8 = Ac x0 x1 x2 0 j
  a1 : tA arg8 1 (by decide) f8 = Ac x0 x1 x2 1 j
  s0 : tS arg9 0 (by decide) f9 = Sc x0 x1 0 j
  s1 : tS arg9 1 (by decide) f9 = Sc x0 x1 1 j

section Steps
variable (x0 : Vec F S1x256x2048 .bf16) (x1 : Vec F S1x4096x256 .bf16) (x2 : Vec F S1x160x4096 .bf16) (h j : ℕ)
  {a : Vec F S1x512x2048 .f32} {b : Vec F S1x1x2048 .f32} {d : Vec F S1x80x2048 .f32} {v : Vec F S1x80x512 .bf16}

theorem sc_of {kk : Vec F S1x512x128 .bf16} {qq : Vec F S1x128x2048 .bf16} (hk : kk = kOf x1 h j) (hq : qq = qOf x0 h) : k0_pay4 kk qq = Sc x0 x1 h j := by
  subst hk hq; rfl

theorem sc5 {kk : Vec F S1x512x128 .bf16} {qq : Vec F S1x128x2048 .bf16} (hk : kk = kOf x1 h j) (hq : qq = qOf x0 h) : k0_pay5 kk qq = Sc x0 x1 h j := by
  subst hk hq; rfl

theorem sc17 {kk : Vec F S1x512x128 .bf16} {qq : Vec F S1x128x2048 .bf16} (hk : kk = kOf x1 h j) (hq : qq = qOf x0 h) : k0_pay17 kk qq = Sc x0 x1 h j := by
  subst hk hq; rfl

theorem sc18 {kk : Vec F S1x512x128 .bf16} {qq : Vec F S1x128x2048 .bf16} (hk : kk = kOf x1 h j) (hq : qq = qOf x0 h) : k0_pay18 kk qq = Sc x0 x1 h j := by
  subst hk hq; rfl

theorem sc31 {kk : Vec F S1x512x128 .bf16} {qq : Vec F S1x128x2048 .bf16} (hk : kk = kOf x1 h j) (hq : qq = qOf x0 h) : k0_pay31 kk qq = Sc x0 x1 h j := by
  subst hk hq; rfl

theorem sc33 {kk : Vec F S1x512x128 .bf16} {qq : Vec F S1x128x2048 .bf16} (hk : kk = kOf x1 h j) (hq : qq = qOf x0 h) : k0_pay33 (k0_pay32 kk qq) = Sc x0 x1 h j := by
  subst hk hq; rfl

theorem sc35 {kk : Vec F S1x512x128 .bf16} {qq : Vec F S1x128x2048 .bf16} (hk : kk = kOf x1 h j) (hq : qq = qOf x0 h) : k0_pay35 kk qq = Sc x0 x1 h j := by
  subst hk hq; rfl

theorem sc36 {kk : Vec F S1x512x128 .bf16} {qq : Vec F S1x128x2048 .bf16} (hk : kk = kOf x1 h j) (hq : qq = qOf x0 h) : k0_pay36 kk qq = Sc x0 x1 h j := by
  subst hk hq; rfl

theorem mA (ha : a = Sc x0 x1 h j) (hb : b = Mx x0 x1 h j) : k0_pay10 (k0_pay6 a) (k0_pay7 b) = Mx x0 x1 h (j + 1) := by
  subst ha hb; rfl

theorem mB (ha : a = Sc x0 x1 h j) (hb : b = Mx x0 x1 h j) : k0_pay16 (k0_pay13 a b) = Mx x0 x1 h (j + 1) := by
  subst ha hb; rfl

theorem mC (ha : a = Sc x0 x1 h j) (hb : b = Mx x0 x1 h j) : k0_pay24 (k0_pay21 a b) = Mx x0 x1 h (j + 1) := by
  subst ha hb; rfl

theorem mD (ha : a = Sc x0 x1 h j) (hb : b = Mx x0 x1 h j) : k0_pay34 (k0_pay27 a b) = Mx x0 x1 h (j + 1) := by
  subst ha hb; rfl

theorem mE (ha : a = Sc x0 x1 h j) (hb : b = Mx x0 x1 h j) : k0_pay41 (k0_pay37 a) b = Mx x0 x1 h (j + 1) := by
  subst ha hb; rfl

theorem mF (ha : a = Sc x0 x1 h j) (hb : b = Mx x0 x1 h j) : k0_pay47 (k0_pay44 a b) = Mx x0 x1 h (j + 1) := by
  subst ha hb; rfl

theorem mG (ha : a = Sc x0 x1 h j) (hb : b = Mx x0 x1 h j) : k0_pay54 (k0_pay50 a b) = Mx x0 x1 h (j + 1) := by
  subst ha hb; rfl

theorem mH (ha : a = Sc x0 x1 h j) (hb : b = Mx x0 x1 h j) : k0_pay2 (k0_pay57 a b) = Mx x0 x1 h (j + 1) := by
  subst ha hb; rfl

theorem aA (ha : a = Sc x0 x1 h j) (hb : b = Mx x0 x1 h j) (hd : d = Ac x0 x1 x2 h j) (hv : v = vOf x2 h j) : k0_pay9 (k0_pay6 a) (k0_pay7 b) d v = Ac x0 x1 x2 h (j + 1) := by
  subst ha hb hd hv; rfl

theorem aB (ha : a = Sc x0 x1 h j) (hb : b = Mx x0 x1 h j) (hd : d = Ac x0 x1 x2 h j) (hv : v = vOf x2 h j) : k0_pay15 (k0_pay12 b) (k0_pay13 a b) (k0_pay14 a b) d v = Ac x0 x1 x2 h (j + 1) := by
  subst ha hb hd hv; rfl

theorem aC (ha : a = Sc x0 x1 h j) (hb : b = Mx x0 x1 h j) (hd : d = Ac x0 x1 x2 h j) (hv : v = vOf x2 h j) : k0_pay23 (k0_pay22 a b d v) = Ac x0 x1 x2 h (j + 1) := by
  subst ha hb hd hv; rfl

theorem aD (ha : a = Sc x0 x1 h j) (hb : b = Mx x0 x1 h j) (hd : d = Ac x0 x1 x2 h j) (hv : v = vOf x2 h j) : k0_pay28 a b d v = Ac x0 x1 x2 h (j + 1) := by
  subst ha hb hd hv; rfl

theorem aE (ha : a = Sc x0 x1 h j) (hb : b = Mx x0 x1 h j) (hd : d = Ac x0 x1 x2 h j) (hv : v = vOf x2 h j) : k0_pay40 (k0_pay37 a) b d v = Ac x0 x1 x2 h (j + 1) := by
  subst ha hb hd hv; rfl

theorem aF (ha : a = Sc x0 x1 h j) (hb : b = Mx x0 x1 h j) (hd : d = Ac x0 x1 x2 h j) (hv : v = vOf x2 h j) : k0_pay46 (k0_pay43 b) (k0_pay44 a b) (k0_pay45 a b) d v = Ac x0 x1 x2 h (j + 1) := by
  subst ha hb hd hv; rfl

theorem aG (ha : a = Sc x0 x1 h j) (hb : b = Mx x0 x1 h j) (hd : d = Ac x0 x1 x2 h j) (hv : v = vOf x2 h j) : k0_pay53 (k0_pay51 a b) (k0_pay52 a b d) v = Ac x0 x1 x2 h (j + 1) := by
  subst ha hb hd hv; rfl

theorem aH (ha : a = Sc x0 x1 h j) (hb : b = Mx x0 x1 h j) (hd : d = Ac x0 x1 x2 h j) (hv : v = vOf x2 h j) : k0_pay1 (k0_pay58 a b d) (k0_pay59 a b v) = Ac x0 x1 x2 h (j + 1) := by
  subst ha hb hd hv; rfl

end Steps

theorem word_0 (k : Fin k0_t1_loop.trips) : (Scalar.indexCast (Scalar.muli (Scalar.muli 2#32 (Scf.iv 0#32 1#32 k.val)) 512#32)).toNat = 512 * (2 * k.val) := by
  revert k; decide

theorem word_1 (k : Fin k0_t1_loop.trips) : (Scalar.indexCast (Scalar.muli (Scalar.addi (Scalar.muli 2#32 (Scf.iv 0#32 1#32 k.val)) 1#32) 512#32)).toNat = 512 * (2 * k.val + 1) := by
  revert k; decide

theorem word_2 (k : Fin k0_t1_loop.trips) : (Scalar.indexCast (Scalar.muli (Scalar.addi (Scalar.muli 2#32 (Scf.iv 0#32 1#32 k.val)) 2#32) 512#32)).toNat = 512 * (2 * k.val + 2) := by
  revert k; decide

theorem st_trip (𝒱 : Variants) (c : Dev nD) (bd : Option 𝒱.V) (i : grid0.Coords) (arg3 : Memref sig .tc .vmem S1x256x2048 .bf16) (harg3 : arg3.IsWhole) (arg4 : Memref sig .tc .vmem S1x4096x256 .bf16) (harg4 : arg4.IsWhole) (arg5 : Memref sig .tc .vmem S1x160x4096 .bf16) (harg5 : arg5.IsWhole) (arg6 : Memref sig .tc .vmem S1x2048x128 .bf16) (harg6 : arg6.IsWhole) (arg7 : Memref sig .tc .vmem S2x1x2048 .f32) (harg7 : arg7.IsWhole) (arg8 : Memref sig .tc .vmem S2x80x2048 .f32) (harg8 : arg8.IsWhole) (arg9 : Memref sig .tc .vmem S2x512x2048 .f32) (harg9 : arg9.IsWhole) (arg10 : Memref sig .tc .vmem S2x512x2048 .f32) (harg10 : arg10.IsWhole) (v24 : FVec F S512x2048 .f32) (v25 : Vec F S1x512x2048 .f32) (X_arg3 : BufTy.Contents (Elt F) arg3.view.ty) (X_arg4 : BufTy.Contents (Elt F) arg4.view.ty) (X_arg5 : BufTy.Contents (Elt F) arg5.view.ty) (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty)
    (h : St arg7 arg8 arg9 (arg3.view.read (Elt F) X_arg3) (arg4.view.read (Elt F) X_arg4) (arg5.view.read (Elt F) X_arg5) (2 * k.val) f7 f8 f9) :
    St arg7 arg8 arg9 (arg3.view.read (Elt F) X_arg3) (arg4.view.read (Elt F) X_arg4) (arg5.view.read (Elt F) X_arg5) (2 * k.val + 2)
      (arg7.view.writes (Elt F) f7 ((trip_k0_t1 (F := F) 𝒱 c bd i arg3 harg3 arg4 harg4 arg5 harg5 arg6 harg6 arg7 harg7 arg8 harg8 arg9 harg9 arg10 harg10 v24 v25 X_arg3 X_arg4 X_arg5 k).1 f7 f8 f9 f10))
      (arg8.view.writes (Elt F) f8 ((trip_k0_t1 (F := F) 𝒱 c bd i arg3 harg3 arg4 harg4 arg5 harg5 arg6 harg6 arg7 harg7 arg8 harg8 arg9 harg9 arg10 harg10 v24 v25 X_arg3 X_arg4 X_arg5 k).2.1 f7 f8 f9 f10))
      (arg9.view.writes (Elt F) f9 ((trip_k0_t1 (F := F) 𝒱 c bd i arg3 harg3 arg4 harg4 arg5 harg5 arg6 harg6 arg7 harg7 arg8 harg8 arg9 harg9 arg10 harg10 v24 v25 X_arg3 X_arg4 X_arg5 k).2.2.1 f7 f8 f9 f10)) := by
  obtain ⟨hm0, hm1, ha0, ha1, hs0, hs1⟩ := h
  have k1 : ∀ inb, arg4.view.readAt (Elt F) (Rect.unit (s := S1x4096x256) ![0, (Scalar.indexCast (Scalar.muli (Scalar.addi (Scalar.muli 2#32 (Scf.iv 0#32 1#32 k.val)) 1#32) 512#32)).toNat, 0] S1x512x128.size inb).toLoadRect X_arg4 = kOf (arg4.view.read (Elt F) X_arg4) 0 (2 * k.val + 1) := rd_k _ _ _ _ _ (by rw [word_1])
  have k1' : ∀ inb, arg4.view.readAt (Elt F) (Rect.unit (s := S1x4096x256) ![0, (Scalar.indexCast (Scalar.muli (Scalar.addi (Scalar.muli 2#32 (Scf.iv 0#32 1#32 k.val)) 1#32) 512#32)).toNat, 128] S1x512x128.size inb).toLoadRect X_arg4 = kOf (arg4.view.read (Elt F) X_arg4) 1 (2 * k.val + 1) := rd_k _ _ _ _ _ (by rw [word_1])
  have k2 : ∀ inb, arg4.view.readAt (Elt F) (Rect.unit (s := S1x4096x256) ![0, (Scalar.indexCast (Scalar.muli (Scalar.addi (Scalar.muli 2#32 (Scf.iv 0#32 1#32 k.val)) 2#32) 512#32)).toNat, 0] S1x512x128.size inb).toLoadRect X_arg4 = kOf (arg4.view.read (Elt F) X_arg4) 0 (2 * k.val + 2) := rd_k _ _ _ _ _ (by rw [word_2])
  have k2' : ∀ inb, arg4.view.readAt (Elt F) (Rect.unit (s := S1x4096x256) ![0, (Scalar.indexCast (Scalar.muli (Scalar.addi (Scalar.muli 2#32 (Scf.iv 0#32 1#32 k.val)) 2#32) 512#32)).toNat, 128] S1x512x128.size inb).toLoadRect X_arg4 = kOf (arg4.view.read (Elt F) X_arg4) 1 (2 * k.val + 2) := rd_k _ _ _ _ _ (by rw [word_2])
  have w0 : ∀ inb, arg5.view.readAt (Elt F) (Rect.unit (s := S1x160x4096) ![0, 0, (Scalar.indexCast (Scalar.muli (Scalar.muli 2#32 (Scf.iv 0#32 1#32 k.val)) 512#32)).toNat] S1x80x512.size inb).toLoadRect X_arg5 = vOf (arg5.view.read (Elt F) X_arg5) 0 (2 * k.val) := rd_v _ _ _ _ _ (by rw [word_0])
  have w0' : ∀ inb, arg5.view.readAt (Elt F) (Rect.unit (s := S1x160x4096) ![0, 80, (Scalar.indexCast (Scalar.muli (Scalar.muli 2#32 (Scf.iv 0#32 1#32 k.val)) 512#32)).toNat] S1x80x512.size inb).toLoadRect X_arg5 = vOf (arg5.view.read (Elt F) X_arg5) 1 (2 * k.val) := rd_v _ _ _ _ _ (by rw [word_0])
  have w1 : ∀ inb, arg5.view.readAt (Elt F) (Rect.unit (s := S1x160x4096) ![0, 0, (Scalar.indexCast (Scalar.muli (Scalar.addi (Scalar.muli 2#32 (Scf.iv 0#32 1#32 k.val)) 1#32) 512#32)).toNat] S1x80x512.size inb).toLoadRect X_arg5 = vOf (arg5.view.read (Elt F) X_arg5) 0 (2 * k.val + 1) := rd_v _ _ _ _ _ (by rw [word_1])
  have w1' : ∀ inb, arg5.view.readAt (Elt F) (Rect.unit (s := S1x160x4096) ![0, 80, (Scalar.indexCast (Scalar.muli (Scalar.addi (Scalar.muli 2#32 (Scf.iv 0#32 1#32 k.val)) 1#32) 512#32)).toNat] S1x80x512.size inb).toLoadRect X_arg5 = vOf (arg5.view.read (Elt F) X_arg5) 1 (2 * k.val + 1) := rd_v _ _ _ _ _ (by rw [word_1])
  have q0 : ∀ inb, arg3.view.readAt (Elt F) (Rect.unit (s := S1x256x2048) ![0, 0, 0] S1x128x2048.size inb).toLoadRect X_arg3 = qOf (arg3.view.read (Elt F) X_arg3) 0 := rd_q _ _ 0 _ rfl
  have q1 : ∀ inb, arg3.view.readAt (Elt F) (Rect.unit (s := S1x256x2048) ![0, 128, 0] S1x128x2048.size inb).toLoadRect X_arg3 = qOf (arg3.view.read (Elt F) X_arg3) 1 := rd_q _ _ 1 _ rfl
  unfold trip_k0_t1
  dsimp only
  sl_unfold_words
  constructor
  · refine (tile_skip _ _ _ _ _ _ (0 : Fin 3) (by decide)).trans ((tile_hit _ _ _ _ _ _ rfl).trans ?_)
    exact mC _ _ _ _ ((cov_skip _ (0 : Fin 3) _ _ _ _ (by decide)).trans ((cov_hit _ _ _ _ _).trans (sc_of _ _ _ _ (k1 _) (q0 _)))) ((cov_skip _ (0 : Fin 3) _ _ _ _ (by decide)).trans ((cov_hit _ _ _ _ _).trans (mA _ _ _ _ hs0 hm0)))
  · refine (tile_hit _ _ _ _ _ _ rfl).trans ?_
    exact mD _ _ _ _ ((cov_hit _ _ _ _ _).trans (sc5 _ _ _ _ (k1' _) (q1 _))) ((cov_skip _ (0 : Fin 3) _ _ _ _ (by decide)).trans ((cov_hit _ _ _ _ _).trans (mB _ _ _ _ hs1 hm1)))
  · refine (tile_skip _ _ _ _ _ _ (0 : Fin 3) (by decide)).trans ((tile_hit _ _ _ _ _ _ rfl).trans ?_)
    exact aC _ _ _ _ _ ((cov_skip _ (0 : Fin 3) _ _ _ _ (by decide)).trans ((cov_hit _ _ _ _ _).trans (sc_of _ _ _ _ (k1 _) (q0 _)))) ((cov_skip _ (0 : Fin 3) _ _ _ _ (by decide)).trans ((cov_hit _ _ _ _ _).trans (mA _ _ _ _ hs0 hm0))) ((cov_skip _ (0 : Fin 3) _ _ _ _ (by decide)).trans ((cov_hit _ _ _ _ _).trans (aA _ _ _ _ _ hs0 hm0 ha0 (w0 _)))) (w1 _)
  · refine (tile_hit _ _ _ _ _ _ rfl).trans ?_
    exact aD _ _ _ _ _ ((cov_hit _ _ _ _ _).trans (sc5 _ _ _ _ (k1' _) (q1 _))) ((cov_skip _ (0 : Fin 3) _ _ _ _ (by decide)).trans ((cov_hit _ _ _ _ _).trans (mB _ _ _ _ hs1 hm1))) ((cov_skip _ (0 : Fin 3) _ _ _ _ (by decide)).trans ((cov_hit _ _ _ _ _).trans (aB _ _ _ _ _ hs1 hm1 ha1 (w0' _)))) (w1' _)
  · refine (tile_skip _ _ _ _ _ _ (0 : Fin 3) (by decide)).trans ((tile_hit _ _ _ _ _ _ rfl).trans ?_)
    exact sc17 _ _ _ _ (k2 _) (q0 _)
  · refine (tile_hit _ _ _ _ _ _ rfl).trans ?_
    exact sc18 _ _ _ _ (k2' _) (q1 _)

end Cert.KernelIdeal.Mla
-- ==== Proof.MlaBody.lean ====
module

public import proofs.«01_k».proof.Proof.MlaRun
public import Idealize.ShloMosaic.Lib.VecWindow

@[expose] public section

set_option maxRecDepth 16384

noncomputable section

/-! The kernel's body, part by part: what each part leaves in the scratch, tile by tile. -/

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- After the first seven chunks' scores are consumed up to `j` (head 0) and `j'` (head 1) chunks, with chunk 7's scores held. -/
structure Fin7 (arg7 : Memref sig .tc .vmem S2x1x2048 .f32) (arg8 : Memref sig .tc .vmem S2x80x2048 .f32) (arg10 : Memref sig .tc .vmem S2x512x2048 .f32)
    (x0 : Vec F S1x256x2048 .bf16) (x1 : Vec F S1x4096x256 .bf16) (x2 : Vec F S1x160x4096 .bf16) (j j' : ℕ)
    (f7 : arg7.view.ty.Contents (Elt F)) (f8 : arg8.view.ty.Contents (Elt F)) (f10 : arg10.view.ty.Contents (Elt F)) : Prop where
  m0 : tM arg7 0 (by decide) f7 = Mx x0 x1 0 j
  m1 : tM arg7 1 (by decide) f7 = Mx x0 x1 1 j'
  a0 : tA arg8 0 (by decide) f8 = Ac x0 x1 x2 0 j
  a1 : tA arg8 1 (by decide) f8 = Ac x0 x1 x2 1 j'
  s0 : tS arg10 0 (by decide) f10 = Sc x0 x1 0 7
  s1 : tS arg10 1 (by decide) f10 = Sc x0 x1 1 7

/-- Before the loop: maxima and accumulators at their initial values, head 0's first scores stored. -/
structure Ini (arg7 : Memref sig .tc .vmem S2x1x2048 .f32) (arg8 : Memref sig .tc .vmem S2x80x2048 .f32) (arg9 : Memref sig .tc .vmem S2x512x2048 .f32)
    (x0 : Vec F S1x256x2048 .bf16) (x1 : Vec F S1x4096x256 .bf16)
    (f7 : arg7.view.ty.Contents (Elt F)) (f8 : arg8.view.ty.Contents (Elt F)) (f9 : arg9.view.ty.Contents (Elt F)) : Prop where
  m : arg7.view.read (Elt F) f7 = fun _ => Scalar.ofBits .f32 0xFF800000#32
  a : arg8.view.read (Elt F) f8 = fun _ => Scalar.ofBits .f32 0x00000000#32
  s0 : tS arg9 0 (by decide) f9 = Sc x0 x1 0 0

section
variable (c : Dev nD) (E : Set ℕ) (i : grid0.Coords) (arg3 : Memref sig .tc .vmem S1x256x2048 .bf16) (harg3 : arg3.IsWhole) (arg4 : Memref sig .tc .vmem S1x4096x256 .bf16) (harg4 : arg4.IsWhole) (arg5 : Memref sig .tc .vmem S1x160x4096 .bf16) (harg5 : arg5.IsWhole) (arg6 : Memref sig .tc .vmem S1x2048x128 .bf16) (harg6 : arg6.IsWhole) (arg7 : Memref sig .tc .vmem S2x1x2048 .f32) (harg7 : arg7.IsWhole) (arg8 : Memref sig .tc .vmem S2x80x2048 .f32) (harg8 : arg8.IsWhole) (arg9 : Memref sig .tc .vmem S2x512x2048 .f32) (harg9 : arg9.IsWhole) (arg10 : Memref sig .tc .vmem S2x512x2048 .f32) (harg10 : arg10.IsWhole)
  (X3 : BufTy.Contents (Elt F) arg3.view.ty) (X4 : BufTy.Contents (Elt F) arg4.view.ty) (X5 : BufTy.Contents (Elt F) arg5.view.ty)
  (f7 : BufTy.Contents (Elt F) arg7.view.ty) (f8 : BufTy.Contents (Elt F) arg8.view.ty) (f9 : BufTy.Contents (Elt F) arg9.view.ty) (f10 : BufTy.Contents (Elt F) arg10.view.ty)

local notation "x0" => arg3.view.read (Elt F) X3
local notation "x1" => arg4.view.read (Elt F) X4
local notation "x2" => arg5.view.read (Elt F) X5

/-- The scratch and inputs held at some contents of the property. -/
abbrev Held (P : BufTy.Contents (Elt F) arg7.view.ty → BufTy.Contents (Elt F) arg8.view.ty → BufTy.Contents (Elt F) arg9.view.ty → BufTy.Contents (Elt F) arg10.view.ty → Prop) : sProp 𝕄 :=
  iprop(∃ f7, ∃ f8, ∃ f9, ∃ f10, Trip_k0_t1 (F := F) c arg3 arg4 arg5 arg7 arg8 arg9 arg10 X3 X4 X5 f7 f8 f9 f10 ∗ ⌜P f7 f8 f9 f10⌝)

theorem part8 (h : St arg7 arg8 arg9 x0 x1 x2 6 f7 f8 f9) (h0 : tS arg10 0 (by decide) f10 = Sc x0 x1 0 7) (h1 : tS arg10 1 (by decide) f10 = Sc x0 x1 1 7) :
    Trip_k0_t1 (F := F) c arg3 arg4 arg5 arg7 arg8 arg9 arg10 X3 X4 X5 f7 f8 f9 f10
      ⊢ wp frame (wpE (defs₀ (F := F)) Variants.none (c : Thread nD τ) none) E (k0_part8 (F := F) i arg3 harg3 arg4 harg4 arg5 harg5 arg6 harg6 arg7 harg7 arg8 harg8 arg9 harg9 arg10 harg10 (k0_pay37 (Sc x0 x1 0 6)) (Mx x0 x1 0 6))
        (fun w => Held c arg3 arg4 arg5 arg7 arg8 arg9 arg10 X3 X4 X5 fun f7 f8 _ f10 => w = ⟨k0_pay43 (Mx x0 x1 1 6), k0_pay44 (Sc x0 x1 1 6) (Mx x0 x1 1 6), k0_pay45 (Sc x0 x1 1 6) (Mx x0 x1 1 6)⟩ ∧ Fin7 arg7 arg8 arg10 x0 x1 x2 7 6 f7 f8 f10) := by
  obtain ⟨hm0, hm1, ha0, ha1, hs0, hs1⟩ := h
  simp only [k0_part8_eq_skeleton]
  iintro ⟨HR_arg3, HR_arg4, HR_arg5, HW_arg7, HW_arg8, HW_arg9, HW_arg10⟩
  sl_exec
  sl_step
  iexists _, _, _, _
  isplitl
  · isplitl [HR_arg3]; · iexact HR_arg3
    isplitl [HR_arg4]; · iexact HR_arg4
    isplitl [HR_arg5]; · iexact HR_arg5
    isplitl [HW_arg7]; · iexact HW_arg7
    isplitl [HW_arg8]; · iexact HW_arg8
    isplitl [HW_arg9]; · iexact HW_arg9
    iexact HW_arg10
  ipureintro
  refine ⟨rfl, ⟨(tile_hit _ _ _ _ _ _ rfl).trans ?_, (tile_skip _ _ _ _ _ _ (0 : Fin 3) (by decide)).trans hm1, (tile_hit _ _ _ _ _ _ rfl).trans ?_, (tile_skip _ _ _ _ _ _ (0 : Fin 3) (by decide)).trans ha1, h0, h1⟩⟩
  · exact mE _ _ _ _ rfl rfl
  · exact aE _ _ _ _ _ rfl rfl rfl (rd_v _ _ 0 6 _ rfl _)

theorem part9 (h : Fin7 arg7 arg8 arg10 x0 x1 x2 7 6 f7 f8 f10) :
    Trip_k0_t1 (F := F) c arg3 arg4 arg5 arg7 arg8 arg9 arg10 X3 X4 X5 f7 f8 f9 f10
      ⊢ wp frame (wpE (defs₀ (F := F)) Variants.none (c : Thread nD τ) none) E (k0_part9 (F := F) i arg3 harg3 arg4 harg4 arg5 harg5 arg6 harg6 arg7 harg7 arg8 harg8 arg9 harg9 arg10 harg10 (k0_pay43 (Mx x0 x1 1 6)) (k0_pay44 (Sc x0 x1 1 6) (Mx x0 x1 1 6)) (k0_pay45 (Sc x0 x1 1 6) (Mx x0 x1 1 6)))
        (fun w => Held c arg3 arg4 arg5 arg7 arg8 arg9 arg10 X3 X4 X5 fun f7 f8 _ f10 => w = ⟨k0_pay50 (Sc x0 x1 0 7) (Mx x0 x1 0 7), k0_pay51 (Sc x0 x1 0 7) (Mx x0 x1 0 7), k0_pay52 (Sc x0 x1 0 7) (Mx x0 x1 0 7) (Ac x0 x1 x2 0 7)⟩ ∧ Fin7 arg7 arg8 arg10 x0 x1 x2 7 7 f7 f8 f10) := by
  obtain ⟨hm0, hm1, ha0, ha1, hs0, hs1⟩ := h
  simp only [k0_part9_eq_skeleton]
  iintro ⟨HR_arg3, HR_arg4, HR_arg5, HW_arg7, HW_arg8, HW_arg9, HW_arg10⟩
  sl_exec
  sl_step
  iexists _, _, _, _
  isplitl
  · isplitl [HR_arg3]; · iexact HR_arg3
    isplitl [HR_arg4]; · iexact HR_arg4
    isplitl [HR_arg5]; · iexact HR_arg5
    isplitl [HW_arg7]; · iexact HW_arg7
    isplitl [HW_arg8]; · iexact HW_arg8
    isplitl [HW_arg9]; · iexact HW_arg9
    iexact HW_arg10
  ipureintro
  refine ⟨?_, ⟨(tile_skip _ _ _ _ _ _ (0 : Fin 3) (by decide)).trans hm0, (tile_hit _ _ _ _ _ _ rfl).trans ?_, (tile_skip _ _ _ _ _ _ (0 : Fin 3) (by decide)).trans ha0, (tile_hit _ _ _ _ _ _ rfl).trans ?_, hs0, hs1⟩⟩
  · rfl
  · exact mF _ _ _ _ rfl rfl
  · exact aF _ _ _ _ _ rfl rfl rfl (rd_v _ _ 1 6 _ rfl _)

theorem part10 (h : Fin7 arg7 arg8 arg10 x0 x1 x2 7 7 f7 f8 f10) :
    Trip_k0_t1 (F := F) c arg3 arg4 arg5 arg7 arg8 arg9 arg10 X3 X4 X5 f7 f8 f9 f10
      ⊢ wp frame (wpE (defs₀ (F := F)) Variants.none (c : Thread nD τ) none) E (k0_part10 (F := F) i arg3 harg3 arg4 harg4 arg5 harg5 arg6 harg6 arg7 harg7 arg8 harg8 arg9 harg9 arg10 harg10 (k0_pay50 (Sc x0 x1 0 7) (Mx x0 x1 0 7)) (k0_pay51 (Sc x0 x1 0 7) (Mx x0 x1 0 7)) (k0_pay52 (Sc x0 x1 0 7) (Mx x0 x1 0 7) (Ac x0 x1 x2 0 7)))
        (fun w => Held c arg3 arg4 arg5 arg7 arg8 arg9 arg10 X3 X4 X5 fun f7 f8 _ f10 => w = ⟨k0_pay57 (Sc x0 x1 1 7) (Mx x0 x1 1 7), k0_pay58 (Sc x0 x1 1 7) (Mx x0 x1 1 7) (Ac x0 x1 x2 1 7), k0_pay59 (Sc x0 x1 1 7) (Mx x0 x1 1 7) (vOf x2 1 7)⟩ ∧ Fin7 arg7 arg8 arg10 x0 x1 x2 8 7 f7 f8 f10) := by
  obtain ⟨hm0, hm1, ha0, ha1, hs0, hs1⟩ := h
  have hv : ∀ inb, arg5.view.readAt (Elt F) (Rect.unit (s := S1x160x4096) ![0, 80, 3584] S1x80x512.size inb).toLoadRect X5 = vOf x2 1 7 := rd_v _ _ 1 7 _ rfl
  have hv0 : ∀ inb, arg5.view.readAt (Elt F) (Rect.unit (s := S1x160x4096) ![0, 0, 3584] S1x80x512.size inb).toLoadRect X5 = vOf x2 0 7 := rd_v _ _ 0 7 _ rfl
  simp only [k0_part10_eq_skeleton]
  iintro ⟨HR_arg3, HR_arg4, HR_arg5, HW_arg7, HW_arg8, HW_arg9, HW_arg10⟩
  sl_exec
  sl_step
  iexists _, _, _, _
  isplitl
  · isplitl [HR_arg3]; · iexact HR_arg3
    isplitl [HR_arg4]; · iexact HR_arg4
    isplitl [HR_arg5]; · iexact HR_arg5
    isplitl [HW_arg7]; · iexact HW_arg7
    isplitl [HW_arg8]; · iexact HW_arg8
    isplitl [HW_arg9]; · iexact HW_arg9
    iexact HW_arg10
  ipureintro
  refine ⟨?_, ⟨(tile_hit _ _ _ _ _ _ rfl).trans ?_, (tile_skip _ _ _ _ _ _ (0 : Fin 3) (by decide)).trans hm1, (tile_hit _ _ _ _ _ _ rfl).trans ?_, (tile_skip _ _ _ _ _ _ (0 : Fin 3) (by decide)).trans ha1, hs0, hs1⟩⟩
  · rfl
  · exact mG _ _ _ _ rfl rfl
  · exact aG _ _ _ _ _ rfl rfl rfl rfl

theorem part6  :
    Trip_k0_t1 (F := F) c arg3 arg4 arg5 arg7 arg8 arg9 arg10 X3 X4 X5 f7 f8 f9 f10
      ⊢ wp frame (wpE (defs₀ (F := F)) Variants.none (c : Thread nD τ) none) E (k0_part6 (F := F) i arg3 harg3 arg4 harg4 arg5 harg5 arg6 harg6 arg7 harg7 arg8 harg8 arg9 harg9 arg10 harg10)
        (fun w => Held c arg3 arg4 arg5 arg7 arg8 arg9 arg10 X3 X4 X5 fun f7 f8 f9 _ => w.1 = k0_pay32 (kOf x1 1 0) (qOf x0 1) ∧ Ini arg7 arg8 arg9 x0 x1 f7 f8 f9) := by
  simp only [k0_part6_eq_skeleton]
  iintro ⟨HR_arg3, HR_arg4, HR_arg5, HW_arg7, HW_arg8, HW_arg9, HW_arg10⟩
  sl_exec
  sl_step
  iexists _, _, _, _
  isplitl
  · isplitl [HR_arg3]; · iexact HR_arg3
    isplitl [HR_arg4]; · iexact HR_arg4
    isplitl [HR_arg5]; · iexact HR_arg5
    isplitl [HW_arg7]; · iexact HW_arg7
    isplitl [HW_arg8]; · iexact HW_arg8
    isplitl [HW_arg9]; · iexact HW_arg9
    iexact HW_arg10
  ipureintro
  refine ⟨?_, ⟨(View.read_writes_full _ _ _ _ _).trans ?_, (View.read_writes_full _ _ _ _ _).trans ?_, (tile_hit _ _ _ _ _ _ rfl).trans ?_⟩⟩
  · exact congrArg₂ k0_pay32 (rd_k _ _ 1 0 _ rfl _) (rd_q _ _ 1 _ rfl _)
  · rfl
  · rfl
  · exact sc31 _ _ _ _ (rd_k _ _ 0 0 _ rfl _) (rd_q _ _ 0 _ rfl _)

theorem st_pb (𝒱 : Variants) (bd : Option 𝒱.V) (v24 : FVec F S512x2048 .f32) (v25 : Vec F S1x512x2048 .f32)
    (h : St arg7 arg8 arg9 x0 x1 x2 0 f7 f8 f9) (n : ℕ) (hn : n ≤ k0_t1_loop.trips) :
    St arg7 arg8 arg9 x0 x1 x2 (2 * n)
      (arg7.view.writes (Elt F) f7 (pb_k0_t1 (F := F) 𝒱 c bd i arg3 harg3 arg4 harg4 arg5 harg5 arg6 harg6 arg7 harg7 arg8 harg8 arg9 harg9 arg10 harg10 v24 v25 X3 X4 X5 f7 f8 f9 f10 n).1)
      (arg8.view.writes (Elt F) f8 (pb_k0_t1 (F := F) 𝒱 c bd i arg3 harg3 arg4 harg4 arg5 harg5 arg6 harg6 arg7 harg7 arg8 harg8 arg9 harg9 arg10 harg10 v24 v25 X3 X4 X5 f7 f8 f9 f10 n).2.1)
      (arg9.view.writes (Elt F) f9 (pb_k0_t1 (F := F) 𝒱 c bd i arg3 harg3 arg4 harg4 arg5 harg5 arg6 harg6 arg7 harg7 arg8 harg8 arg9 harg9 arg10 harg10 v24 v25 X3 X4 X5 f7 f8 f9 f10 n).2.2.1) := by
  induction n with
  | zero => exact h
  | succ n ih =>
    have e := pb_k0_t1_succ (F := F) 𝒱 c bd i arg3 harg3 arg4 harg4 arg5 harg5 arg6 harg6 arg7 harg7 arg8 harg8 arg9 harg9 arg10 harg10 v24 v25 X3 X4 X5 f7 f8 f9 f10 ⟨n, hn⟩
    have t := st_trip 𝒱 c bd i arg3 harg3 arg4 harg4 arg5 harg5 arg6 harg6 arg7 harg7 arg8 harg8 arg9 harg9 arg10 harg10 v24 v25 X3 X4 X5 ⟨n, hn⟩ _ _ _ (arg10.view.writes (Elt F) f10 (pb_k0_t1 (F := F) 𝒱 c bd i arg3 harg3 arg4 harg4 arg5 harg5 arg6 harg6 arg7 harg7 arg8 harg8 arg9 harg9 arg10 harg10 v24 v25 X3 X4 X5 f7 f8 f9 f10 n).2.2.2) (ih (Nat.le_of_succ_le hn))
    rw [← View.writes_append, ← View.writes_append, ← View.writes_append] at t
    rw [e]
    exact t

end

end Cert.KernelIdeal.Mla
-- ==== Proof.MlaBody2.lean ====
module

public import proofs.«01_k».proof.Proof.MlaBody

@[expose] public section

set_option maxRecDepth 16384

noncomputable section

/-! The kernel's body, whole. -/

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section
variable (c : Dev nD) (E : Set ℕ) (i : grid0.Coords) (arg3 : Memref sig .tc .vmem S1x256x2048 .bf16) (harg3 : arg3.IsWhole) (arg4 : Memref sig .tc .vmem S1x4096x256 .bf16) (harg4 : arg4.IsWhole) (arg5 : Memref sig .tc .vmem S1x160x4096 .bf16) (harg5 : arg5.IsWhole) (arg6 : Memref sig .tc .vmem S1x2048x128 .bf16) (harg6 : arg6.IsWhole) (arg7 : Memref sig .tc .vmem S2x1x2048 .f32) (harg7 : arg7.IsWhole) (arg8 : Memref sig .tc .vmem S2x80x2048 .f32) (harg8 : arg8.IsWhole) (arg9 : Memref sig .tc .vmem S2x512x2048 .f32) (harg9 : arg9.IsWhole) (arg10 : Memref sig .tc .vmem S2x512x2048 .f32) (harg10 : arg10.IsWhole)
  (X3 : BufTy.Contents (Elt F) arg3.view.ty) (X4 : BufTy.Contents (Elt F) arg4.view.ty) (X5 : BufTy.Contents (Elt F) arg5.view.ty)
  (f7 : BufTy.Contents (Elt F) arg7.view.ty) (f8 : BufTy.Contents (Elt F) arg8.view.ty) (f9 : BufTy.Contents (Elt F) arg9.view.ty) (f10 : BufTy.Contents (Elt F) arg10.view.ty)

local notation "x0" => arg3.view.read (Elt F) X3
local notation "x1" => arg4.view.read (Elt F) X4
local notation "x2" => arg5.view.read (Elt F) X5

theorem part7 (v25 : Vec F S1x512x2048 .f32) (h : Ini arg7 arg8 arg9 x0 x1 f7 f8 f9) :
    Trip_k0_t1 (F := F) c arg3 arg4 arg5 arg7 arg8 arg9 arg10 X3 X4 X5 f7 f8 f9 f10
      ⊢ wp frame (wpE (defs₀ (F := F)) Variants.none (c : Thread nD τ) none) E (k0_part7 (F := F) i arg3 harg3 arg4 harg4 arg5 harg5 arg6 harg6 arg7 harg7 arg8 harg8 arg9 harg9 arg10 harg10 (k0_pay32 (kOf x1 1 0) (qOf x0 1)) v25)
        (fun w => Held c arg3 arg4 arg5 arg7 arg8 arg9 arg10 X3 X4 X5 fun f7 f8 f9 f10 => w = ⟨k0_pay37 (Sc x0 x1 0 6), (Mx x0 x1 0 6)⟩ ∧ St arg7 arg8 arg9 x0 x1 x2 6 f7 f8 f9 ∧ tS arg10 0 (by decide) f10 = Sc x0 x1 0 7 ∧ tS arg10 1 (by decide) f10 = Sc x0 x1 1 7) := by
  simp only [k0_part7_eq_skeleton]
  iintro ⟨HR_arg3, HR_arg4, HR_arg5, HW_arg7, HW_arg8, HW_arg9, HW_arg10⟩
  sl_exec
  sl_step
  iexists _, _, _, _
  isplitl
  · isplitl [HR_arg3]; · iexact HR_arg3
    isplitl [HR_arg4]; · iexact HR_arg4
    isplitl [HR_arg5]; · iexact HR_arg5
    isplitl [HW_arg7]; · iexact HW_arg7
    isplitl [HW_arg8]; · iexact HW_arg8
    isplitl [HW_arg9]; · iexact HW_arg9
    iexact HW_arg10
  ipureintro
  have h0 : St arg7 arg8 arg9 x0 x1 x2 0 f7 f8 (arg9.view.writes (Elt F) f9
      [⟨Rect.unit ![1, 0, 0] S1x512x2048.size inb_S2x512x2048_S1x512x2048_1_0_0, k0_pay33 (k0_pay32 (kOf x1 1 0) (qOf x0 1))⟩]) :=
    ⟨funext fun x => congrFun h.m _, funext fun x => congrFun h.m _, funext fun x => congrFun h.a _, funext fun x => congrFun h.a _,
      (tile_skip _ _ _ _ _ _ (0 : Fin 3) (by decide)).trans h.s0, (tile_hit _ _ _ _ _ _ rfl).trans (sc33 _ _ _ _ rfl rfl)⟩
  have hS := st_pb c i arg3 harg3 arg4 harg4 arg5 harg5 arg6 harg6 arg7 harg7 arg8 harg8 arg9 harg9 arg10 harg10 X3 X4 X5 f7 f8 (arg9.view.writes (Elt F) f9
      [⟨Rect.unit ![1, 0, 0] S1x512x2048.size inb_S2x512x2048_S1x512x2048_1_0_0, k0_pay33 (k0_pay32 (kOf x1 1 0) (qOf x0 1))⟩]) f10 Variants.none none (k0_pay32 (kOf x1 1 0) (qOf x0 1)) v25
    h0 k0_t1_loop.trips le_rfl
  rw [← View.writes_append] at hS
  refine ⟨?_, hS, ?_, ?_⟩
  · have e1 := hS.s0
    have e2 := hS.m0
    exact (congrArg₂ (fun a b => (⟨a, b⟩ : Σ' (_ : FVec F S512x2048 .f32), Vec F S1x1x2048 .f32)) (congrArg k0_pay37 e1) e2)
  · exact (tile_skip _ _ _ _ _ _ (0 : Fin 3) (by decide)).trans ((tile_hit _ _ _ _ _ _ rfl).trans (sc35 _ _ _ _ (rd_k _ _ 0 7 _ rfl _) (rd_q _ _ 0 _ rfl _)))
  · exact (tile_hit _ _ _ _ _ _ rfl).trans (sc36 _ _ _ _ (rd_k _ _ 1 7 _ rfl _) (rd_q _ _ 1 _ rfl _))

/-- One part of the body, then the rest of it. -/
theorem chain {α β : Type} {p : Prog (TpuEff nD τ sig (Elt F) Λ₀ .tc) α} {k : α → Prog (TpuEff nD τ sig (Elt F) Λ₀ .tc) β} {A R : sProp 𝕄} {Q : α → sProp 𝕄} {K : β → sProp 𝕄}
    (h : A ⊢ wp frame (wpE (defs₀ (F := F)) Variants.none (c : Thread nD τ) none) E p Q)
    (hk : ∀ w, iprop(Q w ∗ R) ⊢ wp frame (wpE (defs₀ (F := F)) Variants.none (c : Thread nD τ) none) E (k w) K) :
    iprop(A ∗ R) ⊢ wp frame (wpE (defs₀ (F := F)) Variants.none (c : Thread nD τ) none) E (p >>= k) K := by
  rw [wp_bind]
  iintro ⟨HA, HR⟩
  iapply (wp_wand_r frame (wpE (defs₀ (F := F)) Variants.none (c : Thread nD τ) none) E)
  isplitl [HA]
  · iapply h; iexact HA
  · iintro %w HQ
    iapply (hk w)
    isplitl [HQ]; · iexact HQ
    iexact HR

/-- The property held may be used in proving what follows. -/
theorem held {P : BufTy.Contents (Elt F) arg7.view.ty → BufTy.Contents (Elt F) arg8.view.ty → BufTy.Contents (Elt F) arg9.view.ty → BufTy.Contents (Elt F) arg10.view.ty → Prop} {R W : sProp 𝕄}
    (h : ∀ f7 f8 f9 f10, P f7 f8 f9 f10 → iprop(Trip_k0_t1 (F := F) c arg3 arg4 arg5 arg7 arg8 arg9 arg10 X3 X4 X5 f7 f8 f9 f10 ∗ R) ⊢ W) :
    iprop(Held c arg3 arg4 arg5 arg7 arg8 arg9 arg10 X3 X4 X5 P ∗ R) ⊢ W := by
  iintro ⟨⟨%g7, %g8, %g9, %g10, HT, %hP⟩, HR⟩
  iapply (h g7 g8 g9 g10 hP)
  isplitl [HT]; · iexact HT
  iexact HR

/-- The whole body on whole buffers: the output block ends at the two heads' normalised accumulators. -/
theorem body_run (f6 : BufTy.Contents (Elt F) arg6.view.ty) :
    iprop(Trip_k0_t1 (F := F) c arg3 arg4 arg5 arg7 arg8 arg9 arg10 X3 X4 X5 f7 f8 f9 f10 ∗ (arg6.view.loc (c : Thread nD τ) ↦[arg6.view.set]{fullShare} f6))
      ⊢ wp frame (wpE (defs₀ (F := F)) Variants.none (c : Thread nD τ) none) E (cc0_mla_attn (F := F) i arg3 harg3 arg4 harg4 arg5 harg5 arg6 harg6 arg7 harg7 arg8 harg8 arg9 harg9 arg10 harg10)
        (fun _ => iprop(Held c arg3 arg4 arg5 arg7 arg8 arg9 arg10 X3 X4 X5 (fun _ _ _ _ => True) ∗ (∃ f, (arg6.view.loc (c : Thread nD τ) ↦[arg6.view.set]{fullShare} f) ∗ ⌜arg6.view.read (Elt F) f = k0_pay3 (Ac x0 x1 x2 0 8) (Ac x0 x1 x2 1 8)⌝))) := by
  simp only [cc0_mla_attn_eq_skeleton]
  unfold cc0_mla_attn_skel
  refine chain c E (part6 c E i arg3 harg3 arg4 harg4 arg5 harg5 arg6 harg6 arg7 harg7 arg8 harg8 arg9 harg9 arg10 harg10 X3 X4 X5 f7 f8 f9 f10) fun w => held c arg3 arg4 arg5 arg7 arg8 arg9 arg10 X3 X4 X5 fun f7 f8 f9 f10 h => ?_
  obtain ⟨w1, w2⟩ := w
  obtain ⟨rfl, h⟩ := h
  refine chain c E (part7 c E i arg3 harg3 arg4 harg4 arg5 harg5 arg6 harg6 arg7 harg7 arg8 harg8 arg9 harg9 arg10 harg10 X3 X4 X5 f7 f8 f9 f10 _ h) fun w => held c arg3 arg4 arg5 arg7 arg8 arg9 arg10 X3 X4 X5 fun f7 f8 f9 f10 h => ?_
  obtain ⟨rfl, h, h0, h1⟩ := h
  refine chain c E (part8 c E i arg3 harg3 arg4 harg4 arg5 harg5 arg6 harg6 arg7 harg7 arg8 harg8 arg9 harg9 arg10 harg10 X3 X4 X5 f7 f8 f9 f10 h h0 h1) fun w => held c arg3 arg4 arg5 arg7 arg8 arg9 arg10 X3 X4 X5 fun f7 f8 f9 f10 h => ?_
  obtain ⟨rfl, h⟩ := h
  refine chain c E (part9 c E i arg3 harg3 arg4 harg4 arg5 harg5 arg6 harg6 arg7 harg7 arg8 harg8 arg9 harg9 arg10 harg10 X3 X4 X5 f7 f8 f9 f10 h) fun w => held c arg3 arg4 arg5 arg7 arg8 arg9 arg10 X3 X4 X5 fun f7 f8 f9 f10 h => ?_
  obtain ⟨rfl, h⟩ := h
  refine chain c E (part10 c E i arg3 harg3 arg4 harg4 arg5 harg5 arg6 harg6 arg7 harg7 arg8 harg8 arg9 harg9 arg10 harg10 X3 X4 X5 f7 f8 f9 f10 h) fun w => held c arg3 arg4 arg5 arg7 arg8 arg9 arg10 X3 X4 X5 fun f7 f8 f9 f10 h => ?_
  obtain ⟨rfl, ⟨hm0, hm1, ha0, ha1, hs0, hs1⟩⟩ := h
  iintro ⟨⟨HR_arg3, HR_arg4, HR_arg5, HW_arg7, HW_arg8, HW_arg9, HW_arg10⟩, HO⟩
  sl_exec
  sl_step
  isplitl [HR_arg3 HR_arg4 HR_arg5 HW_arg7 HW_arg8 HW_arg9 HW_arg10]
  · iexists _, _, _, _
    isplitl
    · isplitl [HR_arg3]; · iexact HR_arg3
      isplitl [HR_arg4]; · iexact HR_arg4
      isplitl [HR_arg5]; · iexact HR_arg5
      isplitl [HW_arg7]; · iexact HW_arg7
      isplitl [HW_arg8]; · iexact HW_arg8
      isplitl [HW_arg9]; · iexact HW_arg9
      iexact HW_arg10
    ipureintro; trivial
  · iexists _
    isplitl
    · iexact HO
    ipureintro
    refine (View.read_writes_full _ _ _ _ _).trans ?_
    exact congrArg (k0_pay3 _) ((cov_hit _ _ _ _ _).trans (aH x0 x1 x2 1 7 rfl rfl rfl rfl))

end

end Cert.KernelIdeal.Mla
-- ==== Proof.MlaLaunch.lean ====
module

public import proofs.«01_k».proof.Proof.MlaBody2
public import proofs.«01_k».proof.Proof.Gen.KernelIdeal.Frame.Runs
public import Idealize.ShloMosaic.Lib.Claim

@[expose] public section

set_option maxRecDepth 16384

noncomputable section

/-! The run of the attention kernel: each grid point writes the two heads' normalised accumulators. -/

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What one grid point leaves in its output block, from its blocks of queries, keys and values. -/
def outOf (x0 : Vec F S1x256x2048 .bf16) (x1 : Vec F S1x4096x256 .bf16) (x2 : Vec F S1x160x4096 .bf16) : Vec F S1x2048x128 .bf16 :=
  k0_pay3 (Ac x0 x1 x2 0 8) (Ac x0 x1 x2 1 8)

/-- The body's triple on owned buffers. -/
theorem body_owns (c : Dev nD) (i : grid0.Coords) (arg3 : Memref sig .tc .vmem S1x256x2048 .bf16) (harg3 : arg3.IsWhole) (arg4 : Memref sig .tc .vmem S1x4096x256 .bf16) (harg4 : arg4.IsWhole) (arg5 : Memref sig .tc .vmem S1x160x4096 .bf16) (harg5 : arg5.IsWhole) (arg6 : Memref sig .tc .vmem S1x2048x128 .bf16) (harg6 : arg6.IsWhole) (arg7 : Memref sig .tc .vmem S2x1x2048 .f32) (harg7 : arg7.IsWhole) (arg8 : Memref sig .tc .vmem S2x80x2048 .f32) (harg8 : arg8.IsWhole) (arg9 : Memref sig .tc .vmem S2x512x2048 .f32) (harg9 : arg9.IsWhole) (arg10 : Memref sig .tc .vmem S2x512x2048 .f32) (harg10 : arg10.IsWhole)
    (x0 : Vec F S1x256x2048 .bf16) (x1 : Vec F S1x4096x256 .bf16) (x2 : Vec F S1x160x4096 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outOf x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attn i arg3 harg3 arg4 harg4 arg5 harg5 arg6 harg6 arg7 harg7 arg8 harg8 arg9 harg9 arg10 harg10) K := by
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  iapply (wp_wand_r frame (wpE (defs₀ (F := F)) Variants.none (c : Thread nD τ) none) E)
  isplitl [H0 H1 H2 H3 HS0 HS1 HS2 HS3]
  · iapply (body_run c E i arg3 harg3 arg4 harg4 arg5 harg5 arg6 harg6 arg7 harg7 arg8 harg8 arg9 harg9 arg10 harg10 f0 f1 f2 fs0 fs1 fs2 fs3 f3)
    isplitl [H0 H1 H2 HS0 HS1 HS2 HS3]
    · isplitl [H0]; · iexact H0
      isplitl [H1]; · iexact H1
      isplitl [H2]; · iexact H2
      isplitl [HS0]; · iexact HS0
      isplitl [HS1]; · iexact HS1
      isplitl [HS2]; · iexact HS2
      iexact HS3
    iexact H3
  iintro %_ ⟨⟨%g7, %g8, %g9, %g10, ⟨H0, H1, H2, HS0, HS1, HS2, HS3⟩, %_⟩, ⟨%g6, H3, %h3⟩⟩
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro; rw [h3, hf0, hf1, hf2]; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

variable (m : (ℓ : Loc nD τ sig) → Buf (Elt F) ℓ) (ρ : Dev nD → PrngReg)

/-- The pipeline's proof data: inputs keep their blocks, the output block is `outOf` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = outOf (iblk m c 0 t) (iblk m c 1 t) (iblk m c 2 t) := by dsimp only [dats]

theorem bef0 (c : Dev nD) (t : Fin cfg0.N) (d) : (dats m 0 c).before 0 t d = iblk m c 0 t :=
  before0_0_of m (dats m 0 c) (A_eq m c 0) (aft0 m c) t d
theorem bef1 (c : Dev nD) (t : Fin cfg0.N) (d) : (dats m 0 c).before 1 t d = iblk m c 1 t :=
  before0_1_of m (dats m 0 c) (A_eq m c 1) (aft1 m c) t d
theorem bef2 (c : Dev nD) (t : Fin cfg0.N) (d) : (dats m 0 c).before 2 t d = iblk m c 2 t :=
  before0_2_of m (dats m 0 c) (A_eq m c 2) (aft2 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2]
  rw [show (dats m 0 c).Φ t.succ = (dats m 0 c).Φ t.castSucc from rfl,
    show (dats m 0 c).owesAt () t.succ = (dats m 0 c).owesAt () t.castSucc from rfl, aft0, aft1, aft2, aft3]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (body_owns c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.KernelIdeal.Mla

end
-- ==== Proof.Soft.lean ====
module

public import Idealize.ShloMosaic.Lib.Pointwise

@[expose] public section

noncomputable section

/-! Softmax over extended reals: the weights at real scores, computed in one pass by running maxima or by a plain maximum. -/

namespace Cert.Soft

open Idealize.ShloMosaic

/-- The weight of key `n` among `N` keys with base-two scores `σ`. -/
def weight (N : ℕ) (σ : ℕ → ℝ) (n : ℕ) : ℝ := Real.rpow 2 (σ n) / ∑ k : Fin N, Real.rpow 2 (σ k)

theorem neg_inf : Ideal.ofBits FTy.f32 0xFF800000#32 = ⊥ := by simp [Ideal.ofBits, Ideal.ieee]

theorem sum_real {n : ℕ} (f : Fin n → EReal) (g : Fin n → ℝ) (h : ∀ i, f i = (g i : EReal)) : ∑ i, f i = ((∑ i, g i : ℝ) : EReal) := by
  rw [Finset.sum_congr rfl fun i _ => h i]
  induction n with
  | zero => simp
  | succ n ih => rw [Fin.sum_univ_succ, Fin.sum_univ_succ, ih (fun i => f i.succ) (fun i => g i.succ) (fun i => h _), EReal.coe_add]

/-- A sum of extended reals times a real at least zero. -/
theorem sum_mul {n : ℕ} (f : Fin n → EReal) (r : ℝ) (hr : 0 ≤ r) : (∑ i, f i) * (r : EReal) = ∑ i, f i * (r : EReal) := by
  induction n with
  | zero => simp
  | succ n ih =>
    rw [Fin.sum_univ_succ, Fin.sum_univ_succ, EReal.right_distrib_of_nonneg_of_ne_top (by exact_mod_cast hr) (EReal.coe_ne_top r), ih]

theorem fold_max_bot {n : ℕ} (f : Fin (n + 1) → ℝ) : ∃ μ : ℝ, Finset.univ.fold max (⊥ : EReal) (fun i => (f i : EReal)) = μ := by
  have h1 : Finset.univ.fold max (⊥ : EReal) (fun i => (f i : EReal)) = Finset.univ.sup fun i => (f i : EReal) := rfl
  obtain ⟨i, -, hi⟩ := Finset.exists_mem_eq_sup (Finset.univ : Finset (Fin (n + 1))) Finset.univ_nonempty fun i => (f i : EReal)
  exact ⟨f i, h1.trans hi⟩

/-- What is known after `n` keys: a real reference point (none before the first key) and the sum of the values weighted relative to it. -/
structure Upto (σ : ℕ → ℝ) (M : EReal) (n : ℕ) : Prop where
  real : n ≠ 0 → ∃ μ : ℝ, M = μ
  bot : n = 0 → M = ⊥

theorem exp2_sub (a b : ℝ) : Ideal.exp2 ((a : EReal) - (b : EReal)) = ((Real.rpow 2 (a - b) : ℝ) : EReal) := by
  rw [← EReal.coe_sub, Ideal.exp2_coe]

/-- One chunk of `c` keys added to the running maximum and the running sum. -/
theorem step (σ : ℕ → ℝ) (v : ℕ → EReal) (c n : ℕ) (hc : 0 < c) (M A : EReal) (hM : Upto σ M n)
    (hA : ∀ μ : ℝ, n ≠ 0 → M = μ → A = ∑ k : Fin n, v k * ((Real.rpow 2 (σ k - μ) : ℝ) : EReal)) (hA0 : n = 0 → A = 0) (M' : EReal)
    (hM' : M' = max M (Finset.univ.fold max (⊥ : EReal) fun i : Fin c => (σ (n + i) : EReal))) :
    Upto σ M' (n + c) ∧ ∀ μ : ℝ, M' = μ →
      A * Ideal.exp2 (M - M') + ∑ i : Fin c, v (n + i) * Ideal.exp2 ((σ (n + i) : EReal) - M') = ∑ k : Fin (n + c), v k * ((Real.rpow 2 (σ k - μ) : ℝ) : EReal) := by
  obtain ⟨κ, hκ⟩ : ∃ κ : ℝ, Finset.univ.fold max (⊥ : EReal) (fun i : Fin c => (σ (n + i) : EReal)) = κ := by
    obtain ⟨c, rfl⟩ : ∃ d, c = d + 1 := ⟨c - 1, by omega⟩
    exact fold_max_bot fun i : Fin (c + 1) => σ (n + i)
  rw [hκ] at hM'
  refine ⟨⟨fun _ => ?_, fun h => by omega⟩, fun μ hμ => ?_⟩
  · by_cases hn : n = 0
    · exact ⟨κ, by rw [hM', hM.bot hn]; simp⟩
    · obtain ⟨ν, hν⟩ := hM.real hn
      exact ⟨max ν κ, by rw [hM', hν]; exact (EReal.coe_strictMono.monotone.map_max).symm⟩
  · rw [hμ, Fin.sum_univ_add]
    congr 1
    · by_cases hn : n = 0
      · subst hn; rw [hA0 rfl]; simp
      · obtain ⟨ν, hν⟩ := hM.real hn
        rw [hA ν hn hν, hν, exp2_sub, sum_mul _ (Real.rpow 2 (ν - μ)) (Real.rpow_nonneg (by norm_num) _)]
        refine Finset.sum_congr rfl fun k _ => ?_
        rw [mul_assoc, ← EReal.coe_mul]
        congr 2
        show Real.rpow 2 _ * Real.rpow 2 _ = Real.rpow 2 _
        refine (Real.rpow_add (by norm_num : (0 : ℝ) < 2) _ _).symm.trans ?_
        exact congrArg (fun y => Real.rpow 2 y) (by simp only [Fin.val_castAdd]; ring)

/-- The running sums over `J` chunks, normalised at the end, are the softmax-weighted sum of the values. -/
theorem online (σ : ℕ → ℝ) (v : ℕ → EReal) (c J : ℕ) (hc : 0 < c) (M A L : ℕ → EReal) (hM0 : M 0 = ⊥) (hA0 : A 0 = 0) (hL0 : L 0 = 0)
    (hM : ∀ j < J + 1, M (j + 1) = max (M j) (Finset.univ.fold max (⊥ : EReal) fun i : Fin c => (σ (c * j + i) : EReal)))
    (hA : ∀ j < J + 1, A (j + 1) = A j * Ideal.exp2 (M j - M (j + 1)) + ∑ i : Fin c, v (c * j + i) * Ideal.exp2 ((σ (c * j + i) : EReal) - M (j + 1)))
    (hL : ∀ j < J + 1, L (j + 1) = L j * Ideal.exp2 (M j - M (j + 1)) + ∑ i : Fin c, 1 * Ideal.exp2 ((σ (c * j + i) : EReal) - M (j + 1))) :
    A (J + 1) * Ideal.div 1 (L (J + 1)) = ∑ k : Fin (c * (J + 1)), v k * ((weight (c * (J + 1)) σ k : ℝ) : EReal) := by
  have key : ∀ (w : ℕ → EReal) (B : ℕ → EReal), B 0 = 0 →
      (∀ j < J + 1, B (j + 1) = B j * Ideal.exp2 (M j - M (j + 1)) + ∑ i : Fin c, w (c * j + i) * Ideal.exp2 ((σ (c * j + i) : EReal) - M (j + 1))) →
      ∀ j ≤ J + 1, Upto σ (M j) (c * j) ∧ ∀ μ : ℝ, M j = μ → c * j ≠ 0 → B j = ∑ k : Fin (c * j), w k * ((Real.rpow 2 (σ k - μ) : ℝ) : EReal) := by
    intro w B hB0 hB j
    induction j with
    | zero => intro _; exact ⟨⟨fun h => (h (by simp)).elim, fun _ => hM0⟩, fun _ _ h => (h (by simp)).elim⟩
    | succ j ih =>
      intro hj
      obtain ⟨h1, h2⟩ := ih (by omega)
      obtain ⟨s1, s2⟩ := step σ w c (c * j) hc (M j) (B j) h1 (fun μ hn hμ => h2 μ hμ hn)
        (fun h => by have : j = 0 := by rcases Nat.mul_eq_zero.1 h with h | h <;> omega
                     rw [this, hB0]) (M (j + 1)) (hM j (by omega))
      refine ⟨s1, fun μ hμ _ => ?_⟩
      rw [hB j (by omega)]
      exact s2 μ hμ
  have hpos : c * (J + 1) ≠ 0 := by positivity
  obtain ⟨hU, hAv⟩ := key v A hA0 hA (J + 1) le_rfl
  obtain ⟨-, hLv⟩ := key (fun _ => 1) L hL0 hL (J + 1) le_rfl
  obtain ⟨μ, hμ⟩ := hU.real hpos
  rw [hAv μ hμ hpos, hLv μ hμ hpos]
  set N := c * (J + 1) with hN
  have hl : ∑ k : Fin N, (1 : EReal) * ((Real.rpow 2 (σ k - μ) : ℝ) : EReal) = ((∑ k : Fin N, Real.rpow 2 (σ k - μ) : ℝ) : EReal) :=
    sum_real _ _ fun k => by rw [one_mul]
  have p2 : ∀ x : ℝ, 0 < Real.rpow 2 x := fun x => Real.rpow_pos_of_pos (by norm_num) x
  have hne : (Finset.univ : Finset (Fin N)).Nonempty := ⟨⟨0, by omega⟩, Finset.mem_univ _⟩
  have hlpos : 0 < ∑ k : Fin N, Real.rpow 2 (σ k - μ) := Finset.sum_pos (fun k _ => p2 _) hne
  have hspos : 0 < ∑ k : Fin N, Real.rpow 2 (σ k) := Finset.sum_pos (fun k _ => p2 _) hne
  rw [hl]
  have hd : Ideal.div 1 ((∑ k : Fin N, Real.rpow 2 (σ k - μ) : ℝ) : EReal) = (((∑ k : Fin N, Real.rpow 2 (σ k - μ))⁻¹ : ℝ) : EReal) := by
    unfold Ideal.div
    rw [if_neg (by exact_mod_cast hlpos.ne'), one_mul, EReal.coe_inv]
  rw [hd, sum_mul _ _ (inv_nonneg.2 hlpos.le)]
  refine Finset.sum_congr rfl fun k _ => ?_
  rw [mul_assoc, ← EReal.coe_mul]
  congr 2
  have hs : ∀ x : ℝ, Real.rpow 2 (x - μ) = Real.rpow 2 x * (Real.rpow 2 μ)⁻¹ := fun x => by
    have := Real.rpow_sub (by norm_num : (0 : ℝ) < 2) x μ
    rw [div_eq_mul_inv] at this; exact this
  unfold weight
  rw [Finset.sum_congr rfl fun (k : Fin N) _ => hs (σ k), ← Finset.sum_mul, hs]
  have := (p2 μ).ne'
  field_simp

/-- The softmax weights by a plain maximum: exponentials of the scores times `log 2`, shifted by a real, over their sum. -/
theorem plain (N : ℕ) (σ : ℕ → ℝ) (M : ℝ) (k : Fin N) :
    Ideal.div (Ideal.exp (((σ k * Real.log 2 : ℝ) : EReal) - (M : EReal))) (∑ n : Fin N, Ideal.exp (((σ n * Real.log 2 : ℝ) : EReal) - (M : EReal))) = ((weight N σ k : ℝ) : EReal) := by
  have he : ∀ x : ℝ, Ideal.exp (((x * Real.log 2 : ℝ) : EReal) - (M : EReal)) = ((Real.rpow 2 x * Real.exp (-M) : ℝ) : EReal) := fun x => by
    rw [← EReal.coe_sub]
    show ((Real.exp (x * Real.log 2 - M) : ℝ) : EReal) = _
    congr 1
    rw [sub_eq_add_neg, Real.exp_add]
    congr 1
    show _ = (2 : ℝ) ^ x
    rw [Real.rpow_def_of_pos (by norm_num), mul_comm]
  rw [he, sum_real _ _ fun n => he (σ n)]
  have p2 : ∀ x : ℝ, 0 < Real.rpow 2 x := fun x => Real.rpow_pos_of_pos (by norm_num) x
  have hspos : 0 < ∑ k : Fin N, Real.rpow 2 (σ k) := Finset.sum_pos (fun k _ => p2 _) ⟨k, Finset.mem_univ _⟩
  have hE := Real.exp_pos (-M)
  unfold Ideal.div
  rw [← Finset.sum_mul, if_neg (by exact_mod_cast (mul_pos hspos hE).ne'), ← EReal.coe_inv, ← EReal.coe_mul]
  congr 1
  unfold weight
  field_simp

end Cert.Soft

end
-- ==== Proof.MlaIdeal.lean ====
module

public import proofs.«01_k».proof.Proof.MlaLaunch
public import Idealize.ShloMosaic.Lib.Pipeline.ValueKit
public import Idealize.ShloMosaic.Lib.Pointwise
public import proofs.«01_k».proof.Proof.Soft

@[expose] public section

set_option maxRecDepth 16384

noncomputable section

/-! The attention block at exact arithmetic, entry by entry. -/

namespace Cert.KernelIdeal.Mla

open Idealize.ShloMosaic
open Cert.KernelIdeal Cert.KernelIdeal.Gen

open Cert.Soft

theorem sc_at (x0 : FVec Ideal S1x256x2048 .bf16) (x1 : FVec Ideal S1x4096x256 .bf16) (h j : ℕ) (i : Fin 512) (c : Fin 2048) :
    Sc (F := Ideal) x0 x1 h j (ix3 (n0 := 1) (n1 := 512) (n2 := 2048) 0 i c)
      = ∑ x : Fin 128, x1 (ix3 (n0 := 1) (n1 := 4096) (n2 := 256) 0 ⟨(512 * j + i.val) % 4096, Nat.mod_lt _ (by decide)⟩ ⟨(128 * h + x.val) % 256, Nat.mod_lt _ (by decide)⟩)
          * x0 (ix3 (n0 := 1) (n1 := 256) (n2 := 2048) 0 ⟨(128 * h + x.val) % 256, Nat.mod_lt _ (by decide)⟩ c) := by
  unfold Sc
  pointwise [k0_pay4, kOf, qOf]

theorem mx_at (s : FVec Ideal S1x512x2048 .f32) (b : FVec Ideal S1x1x2048 .f32) (c : Fin 2048) :
    k0_pay10 (F := Ideal) (k0_pay6 s) (k0_pay7 b) (ix3 (n0 := 1) (n1 := 1) (n2 := 2048) 0 0 c)
      = max (b (ix3 (n0 := 1) (n1 := 1) (n2 := 2048) 0 0 c)) (Finset.univ.fold max (⊥ : EReal) fun x : Fin 512 => s (ix3 (n0 := 1) (n1 := 512) (n2 := 2048) 0 x c)) := by
  pointwise [k0_pay10, k0_pay8, k0_pay6, k0_pay7]
  rw [neg_inf]

theorem ac_at (s : FVec Ideal S1x512x2048 .f32) (b : FVec Ideal S1x1x2048 .f32) (d : FVec Ideal S1x80x2048 .f32) (v : FVec Ideal S1x80x512 .bf16) (r : Fin 80) (c : Fin 2048) :
    k0_pay9 (F := Ideal) (k0_pay6 s) (k0_pay7 b) d v (ix3 (n0 := 1) (n1 := 80) (n2 := 2048) 0 r c)
      = (show EReal from d (ix3 (n0 := 1) (n1 := 80) (n2 := 2048) 0 r c)) * Ideal.exp2 ((show EReal from b (ix3 (n0 := 1) (n1 := 1) (n2 := 2048) 0 0 c)) - k0_pay10 (F := Ideal) (k0_pay6 s) (k0_pay7 b) (ix3 (n0 := 1) (n1 := 1) (n2 := 2048) 0 0 c))
        + ∑ x : Fin 512, (show EReal from v (ix3 (n0 := 1) (n1 := 80) (n2 := 512) 0 r x)) * Ideal.exp2 ((show EReal from s (ix3 (n0 := 1) (n1 := 512) (n2 := 2048) 0 x c)) - k0_pay10 (F := Ideal) (k0_pay6 s) (k0_pay7 b) (ix3 (n0 := 1) (n1 := 1) (n2 := 2048) 0 0 c)) := by
  rw [mx_at]
  pointwise [k0_pay9, k0_pay8, k0_pay6, k0_pay7]
  rw [neg_inf]
  rfl

theorem out_at (a b : FVec Ideal S1x80x2048 .f32) (c : Fin 2048) (d : Fin 128) :
    k0_pay3 (F := Ideal) a b (ix3 (n0 := 1) (n1 := 2048) (n2 := 128) 0 c d)
      = if h : d.val < 64 then (show EReal from a (ix3 (n0 := 1) (n1 := 80) (n2 := 2048) 0 ⟨d.val, by omega⟩ c)) * Ideal.div 1 (a (ix3 (n0 := 1) (n1 := 80) (n2 := 2048) 0 64 c))
        else (show EReal from b (ix3 (n0 := 1) (n1 := 80) (n2 := 2048) 0 ⟨d.val - 64, by omega⟩ c)) * Ideal.div 1 (b (ix3 (n0 := 1) (n1 := 80) (n2 := 2048) 0 64 c)) := by
  pointwise [k0_pay3]

section
variable (x0 : FVec Ideal S1x256x2048 .bf16) (x1 : FVec Ideal S1x4096x256 .bf16) (x2 : FVec Ideal S1x160x4096 .bf16)
  (a0 : S1x256x2048.Idx → ℝ) (a1 : S1x4096x256.Idx → ℝ) (h0 : ∀ i, x0 i = (a0 i : EReal)) (h1 : ∀ i, x1 i = (a1 i : EReal))

/-- The real score of key `n` for query `c` in head `h` of the block. -/
def sig' (a0 : S1x256x2048.Idx → ℝ) (a1 : S1x4096x256.Idx → ℝ) (h : ℕ) (c : Fin 2048) (n : ℕ) : ℝ :=
  ∑ x : Fin 128, a1 (ix3 (n0 := 1) (n1 := 4096) (n2 := 256) 0 ⟨n % 4096, Nat.mod_lt _ (by decide)⟩ ⟨(128 * h + x.val) % 256, Nat.mod_lt _ (by decide)⟩)
    * a0 (ix3 (n0 := 1) (n1 := 256) (n2 := 2048) 0 ⟨(128 * h + x.val) % 256, Nat.mod_lt _ (by decide)⟩ c)

include h0 h1 in
theorem sc_real (h j : ℕ) (i : Fin 512) (c : Fin 2048) :
    Sc (F := Ideal) x0 x1 h j (ix3 (n0 := 1) (n1 := 512) (n2 := 2048) 0 i c) = ((sig' a0 a1 h c (512 * j + i) : ℝ) : EReal) := by
  rw [sc_at]
  refine sum_real _ _ fun x => ?_
  rw [h0, h1, EReal.coe_mul]

include h0 h1 in
theorem ratio (h : ℕ) (hh : h < 2) (hv : ∀ n, x2 (ix3 (n0 := 1) (n1 := 160) (n2 := 4096) 0 ⟨(80 * h + 64) % 160, Nat.mod_lt _ (by decide)⟩ n) = (1 : EReal)) (r : Fin 80) (c : Fin 2048) :
    (show EReal from Ac (F := Ideal) x0 x1 x2 h 8 (ix3 (n0 := 1) (n1 := 80) (n2 := 2048) 0 r c)) * Ideal.div 1 (Ac (F := Ideal) x0 x1 x2 h 8 (ix3 (n0 := 1) (n1 := 80) (n2 := 2048) 0 64 c))
      = ∑ k : Fin 4096, (show EReal from x2 (ix3 (n0 := 1) (n1 := 160) (n2 := 4096) 0 ⟨(80 * h + r.val) % 160, Nat.mod_lt _ (by decide)⟩ ⟨k.val % 4096, Nat.mod_lt _ (by decide)⟩)) * ((weight 4096 (sig' a0 a1 h c) k : ℝ) : EReal) := by
  have hM : ∀ j < 7 + 1, Mx (F := Ideal) x0 x1 h (j + 1) (ix3 (n0 := 1) (n1 := 1) (n2 := 2048) 0 0 c)
      = max (Mx (F := Ideal) x0 x1 h j (ix3 (n0 := 1) (n1 := 1) (n2 := 2048) 0 0 c)) (Finset.univ.fold max (⊥ : EReal) fun i : Fin 512 => ((sig' a0 a1 h c (512 * j + i) : ℝ) : EReal)) := by
    intro j _
    refine (mx_at _ _ c).trans ?_
    congr 2
    funext i
    exact sc_real x0 x1 a0 a1 h0 h1 h j i c
  have hA : ∀ r : Fin 80, ∀ j < 7 + 1, Ac (F := Ideal) x0 x1 x2 h (j + 1) (ix3 (n0 := 1) (n1 := 80) (n2 := 2048) 0 r c)
      = (show EReal from Ac (F := Ideal) x0 x1 x2 h j (ix3 (n0 := 1) (n1 := 80) (n2 := 2048) 0 r c)) * Ideal.exp2 ((show EReal from Mx (F := Ideal) x0 x1 h j (ix3 (n0 := 1) (n1 := 1) (n2 := 2048) 0 0 c)) - Mx (F := Ideal) x0 x1 h (j + 1) (ix3 (n0 := 1) (n1 := 1) (n2 := 2048) 0 0 c))
        + ∑ i : Fin 512, (show EReal from x2 (ix3 (n0 := 1) (n1 := 160) (n2 := 4096) 0 ⟨(80 * h + r.val) % 160, Nat.mod_lt _ (by decide)⟩ ⟨(512 * j + i.val) % 4096, Nat.mod_lt _ (by decide)⟩))
            * Ideal.exp2 (((sig' a0 a1 h c (512 * j + i) : ℝ) : EReal) - Mx (F := Ideal) x0 x1 h (j + 1) (ix3 (n0 := 1) (n1 := 1) (n2 := 2048) 0 0 c)) := by
    intro r j _
    refine (ac_at _ _ _ _ r c).trans ?_
    congr 1
    refine Finset.sum_congr rfl fun i _ => ?_
    exact congrArg (fun y : EReal => _ * Ideal.exp2 (y - _)) (sc_real x0 x1 a0 a1 h0 h1 h j i c)
  exact online (sig' a0 a1 h c) (fun n => x2 (ix3 (n0 := 1) (n1 := 160) (n2 := 4096) 0 ⟨(80 * h + r.val) % 160, Nat.mod_lt _ (by decide)⟩ ⟨n % 4096, Nat.mod_lt _ (by decide)⟩)) 512 7 (by decide)
    (fun j => Mx (F := Ideal) x0 x1 h j (ix3 (n0 := 1) (n1 := 1) (n2 := 2048) 0 0 c)) (fun j => Ac (F := Ideal) x0 x1 x2 h j (ix3 (n0 := 1) (n1 := 80) (n2 := 2048) 0 r c))
    (fun j => Ac (F := Ideal) x0 x1 x2 h j (ix3 (n0 := 1) (n1 := 80) (n2 := 2048) 0 64 c)) neg_inf (by show Ideal.ofBits FTy.f32 0x00000000#32 = 0; simp [Ideal.ofBits, Ideal.ieee]) (by show Ideal.ofBits FTy.f32 0x00000000#32 = 0; simp [Ideal.ofBits, Ideal.ieee]) hM (hA r)
    (fun j hj => (hA 64 j hj).trans (by
      congr 1
      refine Finset.sum_congr rfl fun i _ => ?_
      exact congrArg (fun y : EReal => y * _) (hv _)))

include h0 h1 in
/-- One entry of the block a grid point writes: head `d / 64`'s values weighted by the softmax of its scores. -/
theorem block_at (hv : ∀ h < 2, ∀ n, x2 (ix3 (n0 := 1) (n1 := 160) (n2 := 4096) 0 ⟨(80 * h + 64) % 160, Nat.mod_lt _ (by decide)⟩ n) = (1 : EReal)) (c : Fin 2048) (d : Fin 128) :
    outOf (F := Ideal) x0 x1 x2 (ix3 (n0 := 1) (n1 := 2048) (n2 := 128) 0 c d)
      = ∑ k : Fin 4096, (show EReal from x2 (ix3 (n0 := 1) (n1 := 160) (n2 := 4096) 0 ⟨(80 * (d.val / 64) + d.val % 64) % 160, Nat.mod_lt _ (by decide)⟩ ⟨k.val % 4096, Nat.mod_lt _ (by decide)⟩)) * ((weight 4096 (sig' a0 a1 (d.val / 64) c) k : ℝ) : EReal) := by
  have hd := d.isLt
  refine (out_at _ _ c d).trans ?_
  split
  · rename_i h
    have e : d.val / 64 = 0 := by omega
    have e' : d.val % 64 = d.val := by omega
    rw [e, e']
    exact ratio x0 x1 x2 a0 a1 h0 h1 0 (by decide) (hv 0 (by decide)) ⟨d.val, by omega⟩ c
  · rename_i h
    have e : d.val / 64 = 1 := by omega
    have e' : d.val % 64 = d.val - 64 := by omega
    rw [e, e']
    exact ratio x0 x1 x2 a0 a1 h0 h1 1 (by decide) (hv 1 (by decide)) ⟨d.val - 64, by omega⟩ c

end

end Cert.KernelIdeal.Mla

end
-- ==== Proof.MlaMax.lean ====
module

public import proofs.«01_k».proof.Proof.Gen.ReferenceIdeal.Run
public import proofs.«01_k».proof.Proof.Gen.ReferenceIdeal.Read
public import Idealize.ShloMosaic.Lib.Pointwise
public import proofs.«01_k».proof.Proof.Soft

@[expose] public section

set_option maxRecDepth 16384

noncomputable section

/-! The largest score of a query in the reference attention. -/

namespace Cert.ReferenceIdeal.Mla

open Idealize.ShloMosaic
open Cert.ReferenceIdeal Cert.ReferenceIdeal.Read
open Cert.Soft

variable (x0 : FVec Ideal S8x1024x4096 .bf16) (x1 : FVec Ideal S8x4096x1024 .bf16) (x2 : FVec Ideal S8x640x4096 .bf16) (b h : Fin 8) (q k : Fin 4096)

theorem fold_at {n0 n1 n2 n3 : Nat} (y : FVec Ideal (⟨4, ![n0, n1, n2, n3]⟩ : Shape) .f32) (c : FVec Ideal (⟨0, ![]⟩ : Shape) .f32)
    (hr : (⟨4, ![n0, n1, n2, n3]⟩ : Shape).ReducesTo [3] (⟨3, ![n0, n1, n2]⟩ : Shape)) (hu : 0 < (⟨0, ![]⟩ : Shape).numel) (i : Fin n0) (j : Fin n1) (l : Fin n2) :
    Host.reduce (FloatOps.maximumf (F := Ideal)) y c hr hu (ix3 i j l)
      = Finset.univ.fold max (c (Shape.Idx.first hu) : EReal) fun k : Fin n3 => (y (ix4 i j l k) : EReal) := by
  pointwise

/-- A maximum along the last axis, from minus infinity, of real entries is real. -/
theorem fold_real {n0 n1 n2 n3 : Nat} (y : FVec Ideal (⟨4, ![n0, n1, n2, n3 + 1]⟩ : Shape) .f32) (c : FVec Ideal (⟨0, ![]⟩ : Shape) .f32) (hc : ∀ i, c i = (⊥ : EReal))
    (hr : (⟨4, ![n0, n1, n2, n3 + 1]⟩ : Shape).ReducesTo [3] (⟨3, ![n0, n1, n2]⟩ : Shape)) (hu : 0 < (⟨0, ![]⟩ : Shape).numel) (i : Fin n0) (j : Fin n1) (l : Fin n2)
    (s : Fin (n3 + 1) → ℝ) (hs : ∀ k, y (ix4 i j l k) = (s k : EReal)) (z : FVec Ideal (⟨3, ![n0, n1, n2]⟩ : Shape) .f32) (hz : z (ix3 i j l) = (⊥ : EReal)) :
    ∃ μ : ℝ, maximumf z (Host.reduce (FloatOps.maximumf (F := Ideal)) y c hr hu) (ix3 i j l) = (μ : EReal) := by
  obtain ⟨μ, hμ⟩ := fold_max_bot s
  refine ⟨μ, ?_⟩
  have e : maximumf z (Host.reduce (FloatOps.maximumf (F := Ideal)) y c hr hu) (ix3 i j l)
      = max (z (ix3 i j l) : EReal) (Host.reduce (FloatOps.maximumf (F := Ideal)) y c hr hu (ix3 i j l) : EReal) := rfl
  rw [e, fold_at, hz, hc]
  simp only [hs, hμ]
  exact max_eq_right bot_le

variable (s : Fin 4096 → ℝ)

theorem m_at (hs : ∀ k, val_main_v18 (F := Ideal) x0 x1 (ix4 (n0 := 8) (n1 := 8) (n2 := 4096) (n3 := 4096) b h q k) = (s k : EReal)) :
    ∃ μ : ℝ, val_main_v21 (F := Ideal) x0 x1 (ix3 (n0 := 8) (n1 := 8) (n2 := 4096) b h q) = (μ : EReal) := by
  have e1 : val_main_v20 (F := Ideal) (ix3 (n0 := 8) (n1 := 8) (n2 := 4096) b h q) = (⊥ : EReal) := by
    pointwise [val_main_v20, val_main_cst_1]
    exact neg_inf
  unfold val_main_v21 val_main_v19
  generalize val_main_v18 (F := Ideal) x0 x1 = y at hs
  exact fold_real (n0 := 8) (n1 := 8) (n2 := 4096) (n3 := 4095) y (val_main_cst_0 (F := Ideal)) (fun _ => neg_inf) _ _ b h q s hs _ e1

end Cert.ReferenceIdeal.Mla

end
-- ==== Proof.MlaRef.lean ====
module

public import proofs.«01_k».proof.Proof.Gen.ReferenceIdeal.Run
public import proofs.«01_k».proof.Proof.Gen.ReferenceIdeal.Read
public import Idealize.ShloMosaic.Lib.Pointwise
public import proofs.«01_k».proof.Proof.Soft
public import proofs.«01_k».proof.Proof.MlaMax

@[expose] public section

set_option maxRecDepth 16384

noncomputable section

/-! The reference attention, entry by entry. -/

namespace Cert.ReferenceIdeal.Mla

open Idealize.ShloMosaic
open Cert.ReferenceIdeal Cert.ReferenceIdeal.Read
open Cert.Soft

variable (x0 : FVec Ideal S8x1024x4096 .bf16) (x1 : FVec Ideal S8x4096x1024 .bf16) (x2 : FVec Ideal S8x640x4096 .bf16) (b h : Fin 8) (q k : Fin 4096)

theorem score_at :
    val_main_v18 (F := Ideal) x0 x1 (ix4 (n0 := 8) (n1 := 8) (n2 := 4096) (n3 := 4096) b h q k)
      = ((∑ x : Fin 64, (x0 (ix3 (n0 := 8) (n1 := 1024) (n2 := 4096) b ⟨h.val * 128 + x.val, by omega⟩ q) : EReal) * x1 (ix3 (n0 := 8) (n1 := 4096) (n2 := 1024) b k ⟨h.val * 128 + x.val, by omega⟩))
          + ∑ x : Fin 32, (x0 (ix3 (n0 := 8) (n1 := 1024) (n2 := 4096) b ⟨h.val * 128 + (64 + x.val), by omega⟩ q) : EReal) * x1 (ix3 (n0 := 8) (n1 := 4096) (n2 := 1024) b k ⟨h.val * 128 + (64 + x.val), by omega⟩))
        * Ideal.log (Ideal.ofBits FTy.f32 1073741824#32) := by
  pointwise [val_main_v18, val_main_v17, val_main_v16, val_main_v15, val_main_v14, val_main_v13, val_main_v12, val_main_v11, val_main_v10, val_main_v9, val_main_v4, val_main_v3, val_main_v2, val_main_v1, val_main_v0, val_main_cst]

theorem log_two : Ideal.log (Ideal.ofBits FTy.f32 1073741824#32) = ((Real.log 2 : ℝ) : EReal) := by
  have e : Ideal.ofBits FTy.f32 1073741824#32 = ((2 : ℝ) : EReal) := by
    simp [Ideal.ofBits, Ideal.ieee, -EReal.coe_mul]
    norm_num
  rw [e]
  show (if (2 : ℝ) ≤ 0 then (⊥ : EReal) else ((Real.log 2 : ℝ) : EReal)) = _
  rw [if_neg (by norm_num)]

theorem e_at :
    val_main_v25 (F := Ideal) x0 x1 (ix4 (n0 := 8) (n1 := 8) (n2 := 4096) (n3 := 4096) b h q k)
      = Ideal.exp ((show EReal from val_main_v18 (F := Ideal) x0 x1 (ix4 (n0 := 8) (n1 := 8) (n2 := 4096) (n3 := 4096) b h q k)) - val_main_v21 (F := Ideal) x0 x1 (ix3 (n0 := 8) (n1 := 8) (n2 := 4096) b h q)) := by
  pointwise [val_main_v25, val_main_v24, val_main_v23, val_main_v22]

theorem s_at :
    val_main_v26 (F := Ideal) x0 x1 (ix3 (n0 := 8) (n1 := 8) (n2 := 4096) b h q)
      = ∑ k : Fin 4096, (show EReal from val_main_v25 (F := Ideal) x0 x1 (ix4 (n0 := 8) (n1 := 8) (n2 := 4096) (n3 := 4096) b h q k)) := by
  pointwise [val_main_v26, val_main_cst_2]

theorem p_at :
    val_main_v29 (F := Ideal) x0 x1 (ix4 (n0 := 8) (n1 := 8) (n2 := 4096) (n3 := 4096) b h q k)
      = Ideal.div (val_main_v25 (F := Ideal) x0 x1 (ix4 (n0 := 8) (n1 := 8) (n2 := 4096) (n3 := 4096) b h q k)) (val_main_v26 (F := Ideal) x0 x1 (ix3 (n0 := 8) (n1 := 8) (n2 := 4096) b h q)) := by
  pointwise [val_main_v29, val_main_v28, val_main_v27]

theorem v_at (d : Fin 64) :
    val_main_v8 (F := Ideal) x2 (ix4 (n0 := 8) (n1 := 4096) (n2 := 8) (n3 := 64) b k h d) = x2 (ix3 (n0 := 8) (n1 := 640) (n2 := 4096) b ⟨h.val * 80 + d.val, by omega⟩ k) := by
  pointwise [val_main_v8, val_main_v7, val_main_v6, val_main_v5]

theorem o_at (d : Fin 512) :
    val_main_v33 (F := Ideal) x0 x1 x2 (ix3 (n0 := 8) (n1 := 4096) (n2 := 512) b q d)
      = ∑ k : Fin 4096, (show EReal from val_main_v8 (F := Ideal) x2 (ix4 (n0 := 8) (n1 := 4096) (n2 := 8) (n3 := 64) b k ⟨d.val / 64, by omega⟩ ⟨d.val % 64, by omega⟩))
          * val_main_v29 (F := Ideal) x0 x1 (ix4 (n0 := 8) (n1 := 8) (n2 := 4096) (n3 := 4096) b ⟨d.val / 64, by omega⟩ q k) := by
  pointwise [val_main_v33, val_main_v32, val_main_v31, val_main_v30]

/-- A sum over the 128 rows of a head, in its three parts. -/
theorem sum_parts (T : Fin 128 → ℝ) :
    ∑ x : Fin 128, T x = (∑ x : Fin 64, T ⟨x.val, by omega⟩ + ∑ x : Fin 32, T ⟨64 + x.val, by omega⟩) + ∑ x : Fin 32, T ⟨96 + x.val, by omega⟩ := by
  have e1 : ∑ x : Fin 128, T x = ∑ x : Fin 64, T ⟨x.val, by omega⟩ + ∑ x : Fin 64, T ⟨64 + x.val, by omega⟩ := Fin.sum_univ_add (a := 64) (b := 64) T
  have e2 : ∑ x : Fin 64, T ⟨64 + x.val, by omega⟩ = ∑ x : Fin 32, T ⟨64 + x.val, by omega⟩ + ∑ x : Fin 32, T ⟨64 + (32 + x.val), by omega⟩ :=
    Fin.sum_univ_add (a := 32) (b := 32) fun x : Fin 64 => T ⟨64 + x.val, by omega⟩
  rw [e1, e2, add_assoc]
  refine congrArg₂ _ rfl (congrArg₂ _ rfl (Finset.sum_congr rfl fun x _ => congrArg T (Fin.ext ?_)))
  show 64 + (32 + x.val) = 96 + x.val
  omega

variable (a0 : S8x1024x4096.Idx → ℝ) (a1 : S8x4096x1024.Idx → ℝ)

theorem row_lt (h : Fin 8) (x : Fin 128) : h.val * 128 + x.val < 1024 := by omega
theorem pad_lt (h : Fin 8) (r : Fin 32) : h.val * 128 + (96 + r.val) < 1024 := by omega
theorem head_lt (d : Fin 512) : d.val / 64 < 8 := by omega
theorem val_lt (d : Fin 512) : d.val / 64 * 80 + d.val % 64 < 640 := by omega
theorem key_lt (n : ℕ) : n % 4096 < 4096 := Nat.mod_lt _ (by norm_num)

/-- The score of query `q` against key `n`, in base two. -/
def sig (n : ℕ) : ℝ :=
  ∑ x : Fin 128, a0 (ix3 (n0 := 8) (n1 := 1024) (n2 := 4096) b ⟨h.val * 128 + x.val, row_lt h x⟩ q) * a1 (ix3 (n0 := 8) (n1 := 4096) (n2 := 1024) b ⟨n % 4096, key_lt n⟩ ⟨h.val * 128 + x.val, row_lt h x⟩)

variable (h0 : ∀ i, x0 i = (a0 i : EReal)) (h1 : ∀ i, x1 i = (a1 i : EReal))
  (hp : ∀ (b h : Fin 8) (r : Fin 32) (q : Fin 4096), x0 (ix3 (n0 := 8) (n1 := 1024) (n2 := 4096) b ⟨h.val * 128 + (96 + r.val), pad_lt h r⟩ q) = (0 : EReal))
include h0 h1 hp

theorem score_real : val_main_v18 (F := Ideal) x0 x1 (ix4 (n0 := 8) (n1 := 8) (n2 := 4096) (n3 := 4096) b h q k) = ((sig b h q a0 a1 k * Real.log 2 : ℝ) : EReal) := by
  rw [score_at, log_two, EReal.coe_mul]
  congr 1
  have z : ∀ r : Fin 32, a0 (ix3 (n0 := 8) (n1 := 1024) (n2 := 4096) b ⟨h.val * 128 + (96 + r.val), by omega⟩ q) = 0 := fun r => by
    have := hp b h r q
    rw [h0] at this
    exact_mod_cast this
  unfold sig
  rw [sum_parts, Finset.sum_eq_zero (s := (Finset.univ : Finset (Fin 32))) (f := fun x : Fin 32 => a0 (ix3 (n0 := 8) (n1 := 1024) (n2 := 4096) b ⟨h.val * 128 + (96 + x.val), by omega⟩ q) * _) (fun r _ => by rw [z r, zero_mul]), add_zero, EReal.coe_add]
  refine congrArg₂ (fun u v : EReal => u + v) (sum_real _ _ fun x => ?_) (sum_real _ _ fun x => ?_)
  · rw [h0, h1, EReal.coe_mul]
    simp only [Nat.mod_eq_of_lt k.isLt]
  · rw [h0, h1, EReal.coe_mul]
    simp only [Nat.mod_eq_of_lt k.isLt]

theorem p_real : val_main_v29 (F := Ideal) x0 x1 (ix4 (n0 := 8) (n1 := 8) (n2 := 4096) (n3 := 4096) b h q k) = ((weight 4096 (sig b h q a0 a1) k : ℝ) : EReal) := by
  obtain ⟨μ, hμ⟩ := m_at x0 x1 b h q _ (fun k => score_real x0 x1 b h q k a0 a1 h0 h1 hp)
  have e : ∀ k, val_main_v25 (F := Ideal) x0 x1 (ix4 (n0 := 8) (n1 := 8) (n2 := 4096) (n3 := 4096) b h q k) = Ideal.exp (((sig b h q a0 a1 k * Real.log 2 : ℝ) : EReal) - μ) := fun k => by
    rw [e_at, hμ, score_real x0 x1 b h q k a0 a1 h0 h1 hp]
  rw [p_at, s_at, e k]
  simp only [e]
  exact plain 4096 _ μ k

theorem ref_at (d : Fin 512) :
    val_main_v33 (F := Ideal) x0 x1 x2 (ix3 (n0 := 8) (n1 := 4096) (n2 := 512) b q d)
      = ∑ k : Fin 4096, (x2 (ix3 (n0 := 8) (n1 := 640) (n2 := 4096) b ⟨d.val / 64 * 80 + d.val % 64, val_lt d⟩ k) : EReal)
          * ((weight 4096 (sig b ⟨d.val / 64, head_lt d⟩ q a0 a1) k : ℝ) : EReal) := by
  rw [o_at]
  refine Finset.sum_congr rfl fun k _ => ?_
  rw [v_at, p_real x0 x1 b _ q k a0 a1 h0 h1 hp]

end Cert.ReferenceIdeal.Mla

end
-- ==== Proof.MlaPre.lean ====
module

public import proofs.«01_k».proof.Pre_mla_layout
public import Idealize.ShloMosaic.Lib.Pointwise
public import Idealize.ShloMosaic.Lib.ReduceAll

@[expose] public section

set_option maxRecDepth 16384

noncomputable section

/-! What the layout of the attention's arguments says, entry by entry. -/

namespace Cert.Pre_mla_layout

open Idealize.ShloMosaic

theorem both {a b : BitVec 1} (h : a &&& b = 1#1) : a = 1#1 ∧ b = 1#1 := by
  revert a b; decide

theorem inf_top : Ideal.ofBits .f32 0x7F800000#32 = (⊤ : EReal) := by
  simp [Ideal.ofBits, Ideal.ieee]

theorem one_real : Ideal.ofBits .f32 0x3F800000#32 = (1 : EReal) := by
  simp [Ideal.ofBits, Ideal.ieee, -EReal.coe_mul]
  norm_num

theorem bit_true (p : Prop) [Decidable p] (h : BitVec.ofBool (decide p) = 1#1) : p := by
  by_contra hp
  rw [decide_eq_false hp] at h
  exact absurd h (by decide)

/-- A number whose absolute value is below infinity is real. -/
theorem real_of_lt (x : EReal) (h : (FloatOps.absf (F := Ideal) (φ := .f32) x : EReal) < ⊤) : ∃ r : ℝ, x = (r : EReal) := by
  induction x using EReal.rec with
  | coe r => exact ⟨r, rfl⟩
  | bot =>
    have e : (FloatOps.absf (F := Ideal) (φ := .f32) (⊥ : EReal) : EReal) = ⊤ := by show max (⊥ : EReal) (-⊥) = ⊤; simp
    exact absurd h (by rw [e]; exact lt_irrefl _)
  | top =>
    have e : (FloatOps.absf (F := Ideal) (φ := .f32) (⊤ : EReal) : EReal) = ⊤ := by show max (⊤ : EReal) (-⊤) = ⊤; simp
    exact absurd h (by rw [e]; exact lt_irrefl _)

variable [Facts] (x0 : FVec Ideal S8x1024x4096 .bf16) (x1 : FVec Ideal S8x4096x1024 .bf16) (x2 : FVec Ideal S8x640x4096 .bf16)

instance : Subsingleton S_.Idx := ⟨fun a b => funext fun i => i.elim0⟩

/-- The four tests behind the layout. -/
theorem parts (h : fn (F := Ideal) x0 x1 x2 = fun _ => 1#1) :
    (∀ i, cmpf .olt (Host.absf ((extf .f32 · Facts.bitsLt_bf16_f32) x0)) (broadcastInDim S8x1024x4096 ![] Facts.bcast_S_S8x1024x4096 (constant (F := Ideal) S_ .f32 0x7F800000#32)) i = 1#1)
    ∧ (∀ i, cmpf .olt (Host.absf ((extf .f32 · Facts.bitsLt_bf16_f32) x1)) (broadcastInDim S8x4096x1024 ![] Facts.bcast_S_S8x4096x1024 (constant (F := Ideal) S_ .f32 0x7F800000#32)) i = 1#1)
    ∧ (∀ i, cmpf .oeq ((extractStridedSlice S8x8x32x4096 ![0, 0, 96, 0] · Facts.slices_S8x8x128x4096_S8x8x32x4096_0_0_96_0) ((extf .f32 · Facts.bitsLt_bf16_f32) (shapeCast S8x8x128x4096 x0 Facts.shapeCasts_S8x1024x4096_S8x8x128x4096)))
        (broadcastInDim S8x8x32x4096 ![] Facts.bcast_S_S8x8x32x4096 (constant (F := Ideal) S_ .f32 0x00000000#32)) i = 1#1)
    ∧ (∀ i, cmpf .oeq (shapeCast S8x8x4096 ((extractStridedSlice S8x8x1x4096 ![0, 0, 64, 0] · Facts.slices_S8x8x80x4096_S8x8x1x4096_0_0_64_0) ((extf .f32 · Facts.bitsLt_bf16_f32) (shapeCast S8x8x80x4096 x2 Facts.shapeCasts_S8x640x4096_S8x8x80x4096))) Facts.shapeCasts_S8x8x1x4096_S8x8x4096)
        (broadcastInDim S8x8x4096 ![] Facts.bcast_S_S8x8x4096 (constant (F := Ideal) S_ .f32 0x3F800000#32)) i = 1#1) := by
  have e := congrFun h (fun i => i.elim0)
  obtain ⟨e1, e4⟩ := both e
  obtain ⟨e2, e3⟩ := both e1
  obtain ⟨e5, e6⟩ := both e2
  exact ⟨Host.reduce_andi_all _ _ _ _ _ e5, Host.reduce_andi_all _ _ _ _ _ e6, Host.reduce_andi_all _ _ _ _ _ e3, Host.reduce_andi_all _ _ _ _ _ e4⟩

theorem q_real (h : fn (F := Ideal) x0 x1 x2 = fun _ => 1#1) (i : Fin 8) (j : Fin 1024) (l : Fin 4096) :
    ∃ r : ℝ, x0 (ix3 i j l) = (r : EReal) := by
  have e := (parts x0 x1 x2 h).1 (ix3 i j l)
  revert e
  pointwise
  intro e
  rw [inf_top] at e
  exact real_of_lt _ (bit_true _ e)

theorem k_real (h : fn (F := Ideal) x0 x1 x2 = fun _ => 1#1) (i : Fin 8) (j : Fin 4096) (l : Fin 1024) :
    ∃ r : ℝ, x1 (ix3 i j l) = (r : EReal) := by
  have e := (parts x0 x1 x2 h).2.1 (ix3 i j l)
  revert e
  pointwise
  intro e
  rw [inf_top] at e
  exact real_of_lt _ (bit_true _ e)

theorem q_pad (h : fn (F := Ideal) x0 x1 x2 = fun _ => 1#1) (i : Fin 8) (j : Fin 8) (r : Fin 32) (l : Fin 4096) :
    x0 (ix3 (n0 := 8) (n1 := 1024) (n2 := 4096) i ⟨j * 128 + (96 + r), by omega⟩ l) = (0 : EReal) := by
  have e := (parts x0 x1 x2 h).2.2.1 (ix4 (n0 := 8) (n1 := 8) (n2 := 32) (n3 := 4096) i j r l)
  revert e
  pointwise
  exact fun e => bit_true _ e

theorem v_one (h : fn (F := Ideal) x0 x1 x2 = fun _ => 1#1) (i : Fin 8) (j : Fin 8) (l : Fin 4096) :
    x2 (ix3 (n0 := 8) (n1 := 640) (n2 := 4096) i ⟨j * 80 + 64, by omega⟩ l) = (1 : EReal) := by
  have e := (parts x0 x1 x2 h).2.2.2 (ix3 (n0 := 8) (n1 := 8) (n2 := 4096) i j l)
  revert e
  pointwise
  exact fun e => bit_true _ e

end Cert.Pre_mla_layout

end
-- ==== Proof.MlaFinal.lean ====
module

public import proofs.«01_k».proof.Proof.MlaIdeal
public import proofs.«01_k».proof.Proof.MlaLaunch
public import proofs.«01_k».proof.Proof.MlaRef
public import proofs.«01_k».proof.Proof.MlaPre
public import Idealize.ShloMosaic.Lib.Pipeline.ValueKit

@[expose] public section

set_option maxRecDepth 16384

noncomputable section

/-! The result array of the attention call: every entry is the reference's. -/

namespace Cert.KernelIdeal.Mla

open Idealize.ShloMosaic Idealize.ShloMosaic.TcCoe Idealize.SL.Sem
open Idealize.ShloMosaic.Pipeline (Dat)
open Cert.KernelIdeal Cert.KernelIdeal.Gen
open Cert.Soft

theorem where_at : ∀ t : Fin cfg0.N, win0_0.index t = ![t.val / 8, t.val / 2 % 4, t.val % 2] ∧ win0_1.index t = ![t.val / 8, 0, t.val / 2 % 4]
    ∧ win0_2.index t = ![t.val / 8, t.val / 2 % 4, 0] ∧ win0_3.index t = ![t.val / 8, t.val % 2, t.val / 2 % 4] ∧ t.val < 64 :=
  (by decide +kernel : ∀ t : Fin grid0.N, _)

variable (m : (ℓ : Loc nD τ sig) → Buf (Elt Ideal) ℓ) (c : Dev nD) (t : Fin cfg0.N)

/-- The three arguments at their own types. -/
abbrev Qa : FVec Ideal Cert.ReferenceIdeal.S8x1024x4096 .bf16 := m ((c : Thread nD τ).loc main_arg0)
abbrev Ka : FVec Ideal Cert.ReferenceIdeal.S8x4096x1024 .bf16 := m ((c : Thread nD τ).loc main_arg1)
abbrev Va : FVec Ideal Cert.ReferenceIdeal.S8x640x4096 .bf16 := m ((c : Thread nD τ).loc main_arg2)

theorem lt64 : t.val < 64 := (where_at t).2.2.2.2

theorem q_blk (i : S1x256x2048.Idx) : (iblk m c 0 t i : EReal)
    = Qa m c (ix3 (n0 := 8) (n1 := 1024) (n2 := 4096) ⟨t.val / 8, by have := lt64 t; omega⟩ ⟨t.val / 2 % 4 * 256 + (i 1).val, by have : (i 1).val < 256 := (i 1).isLt; omega⟩ ⟨t.val % 2 * 2048 + (i 2).val, by have : (i 2).val < 2048 := (i 2).isLt; omega⟩) := by
  blk_ext [iblk, V, where_at t]

theorem k_blk (i : S1x4096x256.Idx) : (iblk m c 1 t i : EReal)
    = Ka m c (ix3 (n0 := 8) (n1 := 4096) (n2 := 1024) ⟨t.val / 8, by have := lt64 t; omega⟩ ⟨(i 1).val, (i 1).isLt⟩ ⟨t.val / 2 % 4 * 256 + (i 2).val, by have : (i 2).val < 256 := (i 2).isLt; omega⟩) := by
  blk_ext [iblk, V, where_at t]

theorem v_blk (i : S1x160x4096.Idx) : (iblk m c 2 t i : EReal)
    = Va m c (ix3 (n0 := 8) (n1 := 640) (n2 := 4096) ⟨t.val / 8, by have := lt64 t; omega⟩ ⟨t.val / 2 % 4 * 160 + (i 1).val, by have : (i 1).val < 160 := (i 1).isLt; omega⟩ ⟨(i 2).val, (i 2).isLt⟩) := by
  blk_ext [iblk, V, where_at t]

variable (hpre : Cert.Pre_mla_layout.Facts)

theorem point (h : Cert.Pre_mla_layout.fn (F := Ideal) (Qa m c) (Ka m c) (Va m c) = fun _ => 1#1) (q : Fin 2048) (d : Fin 128) :
    (outOf (F := Ideal) (iblk m c 0 t) (iblk m c 1 t) (iblk m c 2 t) (ix3 (n0 := 1) (n1 := 2048) (n2 := 128) 0 q d) : EReal)
      = Cert.ReferenceIdeal.Read.val_main_v33 (F := Ideal) (Qa m c) (Ka m c) (Va m c)
          (ix3 (n0 := 8) (n1 := 4096) (n2 := 512) ⟨t.val / 8, by have := lt64 t; omega⟩ ⟨t.val % 2 * 2048 + q.val, by omega⟩ ⟨t.val / 2 % 4 * 128 + d.val, by omega⟩) := by
  have hlt := lt64 t
  choose a0 h0 using Cert.Pre_mla_layout.q_real _ _ _ h
  choose a1 h1 using Cert.Pre_mla_layout.k_real _ _ _ h
  have h0' : ∀ i : Cert.ReferenceIdeal.S8x1024x4096.Idx, Qa m c i = ((fun i : Cert.ReferenceIdeal.S8x1024x4096.Idx => a0 (i 0) (i 1) (i 2)) i : EReal) := fun i => by
    exact (congrArg (Qa m c) (eq_ix3 i)).trans (h0 _ _ _)
  have h1' : ∀ i : Cert.ReferenceIdeal.S8x4096x1024.Idx, Ka m c i = ((fun i : Cert.ReferenceIdeal.S8x4096x1024.Idx => a1 (i 0) (i 1) (i 2)) i : EReal) := fun i => by
    exact (congrArg (Ka m c) (eq_ix3 i)).trans (h1 _ _ _)
  rw [Cert.ReferenceIdeal.Mla.ref_at (Qa m c) (Ka m c) (Va m c) _ _ _ _ h0' h1' fun b h' r q => Cert.Pre_mla_layout.q_pad _ _ _ h b h' r q]
  refine (block_at (iblk m c 0 t) (iblk m c 1 t) (iblk m c 2 t) _ _ (fun i => (q_blk m c t i).trans (h0' _)) (fun i => (k_blk m c t i).trans (h1' _)) ?_ q d).trans ?_
  · intro hd hhd n
    rw [v_blk, ← Cert.Pre_mla_layout.v_one _ _ _ h ⟨t.val / 8, by omega⟩ ⟨t.val / 2 % 4 * 2 + hd, by omega⟩ n]
    refine congrArg (Va m c) ?_
    congr 1
    apply Fin.ext
    show t.val / 2 % 4 * 160 + (80 * hd + 64) % 160 = (t.val / 2 % 4 * 2 + hd) * 80 + 64
    omega
  · refine Finset.sum_congr rfl fun k _ => ?_
    refine congrArg₂ (fun u v : EReal => u * v) ?_ (congrArg (fun s => ((weight 4096 s k : ℝ) : EReal)) ?_)
    · rw [v_blk]
      refine congrArg (Va m c) ?_
      congr 1 <;> apply Fin.ext
      · show t.val / 2 % 4 * 160 + (80 * (d.val / 64) + d.val % 64) % 160 = (t.val / 2 % 4 * 128 + d.val) / 64 * 80 + (t.val / 2 % 4 * 128 + d.val) % 64
        omega
      · show k.val % 4096 = k.val
        omega
    · funext n
      unfold sig' Cert.ReferenceIdeal.Mla.sig
      refine Finset.sum_congr rfl fun x _ => ?_
      rw [mul_comm]
      have e : t.val / 2 % 4 * 256 + (128 * (d.val / 64) + x.val) % 256 = (t.val / 2 % 4 * 128 + d.val) / 64 * 128 + x.val := by omega
      refine congrArg₂ (fun u v : ℝ => u * v) ?_ ?_
      · exact congrArg (fun z => a0 _ z _) (Fin.ext e)
      · exact congrArg (fun z => a1 _ _ z) (Fin.ext e)

theorem final (h : Cert.Pre_mla_layout.fn (F := Ideal) (Qa m c) (Ka m c) (Va m c) = fun _ => 1#1) :
    (dats m 0 c).arrAt 3 (cfgs 0).N = Cert.ReferenceIdeal.Read.val_main_v33 (F := Ideal) (Qa m c) (Ka m c) (Va m c) := by
  refine (dats m 0 c).arrAt_eq_of_covers 3 _ (by decide +kernel) fun t _ y => ?_
  blk_simp
  rw [aft3]
  obtain ⟨z, q, d, rfl⟩ : ∃ (z : Fin 1) (q : Fin 2048) (d : Fin 128), y = ix3 z q d := ⟨y 0, y 1, y 2, eq_ix3 y⟩
  have hz : z = 0 := Fin.ext (by omega)
  subst hz
  refine (point m c t hpre h q d).trans ?_
  blk_ext [where_at t]

end Cert.KernelIdeal.Mla

end
-- ==== Proof.FfnFinal.lean ====
module

public import Idealize.ShloMosaic.Lib.Pipeline.ReadBack
public import proofs.«01_k».proof.Proof.Gen.FfnIdeal.Value
public import proofs.«01_k».proof.Proof.Gen.FfnReferenceIdeal.Read
public import Idealize.ShloMosaic.Lib.Pipeline.ValueKit
public import Idealize.ShloMosaic.Lib.Pointwise

@[expose] public section

set_option maxRecDepth 16384

noncomputable section

/-! The dense feed-forward call: reference and kernel, entry by entry. -/

namespace Cert.FfnReferenceIdeal.Value

open Idealize.ShloMosaic
open Cert.FfnReferenceIdeal Cert.FfnReferenceIdeal.Read

variable (x0 : FVec Ideal S32768x1024 .f32) (x1 : FVec Ideal S1x1024 .f32) (x2 x3 : FVec Ideal S2x1024x3584 .bf16) (x4 : FVec Ideal S2x3584x1024 .bf16)
  (r : Fin 32768) (d : Fin 1024) (f : Fin 3584)

/-- The normalised row. -/
def hid : EReal :=
  (x0 (ix2 (n0 := 32768) (n1 := 1024) r d) : EReal)
    * Ideal.rsqrt (Ideal.div (∑ x : Fin 1024, (x0 (ix2 (n0 := 32768) (n1 := 1024) r x) : EReal) * x0 (ix2 (n0 := 32768) (n1 := 1024) r x)) (Ideal.ofBits FTy.f32 1149239296#32) + Ideal.ofBits FTy.f32 897988541#32)
    * x1 (ix2 (n0 := 1) (n1 := 1024) 0 d)

/-- The gated activation. -/
def act : EReal :=
  (∑ x : Fin 1024, hid x0 x1 r x * x2 (ix3 (n0 := 2) (n1 := 1024) (n2 := 3584) 1 x f))
    * Ideal.logistic (∑ x : Fin 1024, hid x0 x1 r x * x2 (ix3 (n0 := 2) (n1 := 1024) (n2 := 3584) 1 x f))
    * ∑ x : Fin 1024, hid x0 x1 r x * x3 (ix3 (n0 := 2) (n1 := 1024) (n2 := 3584) 1 x f)

theorem hid_at : (val_main_v11 (F := Ideal) x0 x1 (ix2 (n0 := 32768) (n1 := 1024) r d) : EReal) = hid x0 x1 r d := by
  pointwise [hid, val_main_v11, val_main_v10, val_main_v9, val_main_v8, val_main_v7, val_main_v6, val_main_v5, val_main_v4, val_main_v3, val_main_v2, val_main_v1, val_main_v0, val_main_cst, val_main_cst_0, val_main_cst_1]

theorem act_at : (val_main_v24 (F := Ideal) x0 x1 x2 x3 (ix2 (n0 := 32768) (n1 := 3584) r f) : EReal) = act x0 x1 x2 x3 r f := by
  pointwise [act, val_main_v24, val_main_v23, val_main_v22, val_main_call0_v5, val_main_call0_v4, val_main_call0_cst_0, val_main_call0_v3, val_main_call0_v2, val_main_call0_cst, val_main_call0_v1, val_main_call0_v0, val_main_v21,
    val_main_v17, val_main_v16, val_main_v15, val_main_v14, val_main_v13, val_main_v12, hid_at]
  rfl

theorem out_at : (val_main_v26 (F := Ideal) x0 x1 x2 x3 x4 (ix2 (n0 := 32768) (n1 := 1024) r d) : EReal)
    = (x0 (ix2 (n0 := 32768) (n1 := 1024) r d) : EReal) + ∑ x : Fin 3584, act x0 x1 x2 x3 r x * x4 (ix3 (n0 := 2) (n1 := 3584) (n2 := 1024) 1 x d) := by
  pointwise [val_main_v26, val_main_v25, val_main_v20, val_main_v19, val_main_v18, act_at]

end Cert.FfnReferenceIdeal.Value

namespace Cert.FfnIdeal.Value

open Idealize.ShloMosaic Idealize.ShloMosaic.TcCoe Idealize.SL.Sem
open Idealize.ShloMosaic.Pipeline (Dat)
open Cert.FfnIdeal Cert.FfnIdeal.Gen

theorem idx : ∀ t : Fin cfg0.N, win0_0.index t = ![t.val / 7, 0] ∧ win0_1.index t = ![0, 0] ∧ win0_2.index t = ![1, 0, t.val % 7] ∧ win0_3.index t = ![1, 0, t.val % 7]
    ∧ win0_4.index t = ![1, t.val % 7, 0] ∧ win0_5.index t = ![t.val / 7, 0] ∧ t.val < 224 :=
  (by decide +kernel : ∀ t : Fin grid0.N, _)

variable (m : (ℓ : Loc nD τ sig) → Buf (Elt Ideal) ℓ) (c : Dev nD)

abbrev X : FVec Ideal Cert.FfnReferenceIdeal.S32768x1024 .f32 := m ((c : Thread nD τ).loc main_arg0)
abbrev G : FVec Ideal Cert.FfnReferenceIdeal.S1x1024 .f32 := m ((c : Thread nD τ).loc main_arg1)
abbrev Wg : FVec Ideal Cert.FfnReferenceIdeal.S2x1024x3584 .bf16 := m ((c : Thread nD τ).loc main_arg2)
abbrev Wu : FVec Ideal Cert.FfnReferenceIdeal.S2x1024x3584 .bf16 := m ((c : Thread nD τ).loc main_arg3)
abbrev Wd : FVec Ideal Cert.FfnReferenceIdeal.S2x3584x1024 .bf16 := m ((c : Thread nD τ).loc main_arg4)

theorem lt224 (t : Fin cfg0.N) : t.val < 224 := (idx t).2.2.2.2.2.2

theorem row_lt {n : ℕ} (hn : n < 224) (a : Fin 1024) : n / 7 * 1024 + a.val < 32768 := by omega
theorem col_lt (n : ℕ) (k : Fin 512) : n % 7 * 512 + k.val < 3584 := by omega

/-- The row of the hidden state that row `a` of the tile at point `t` is. -/
abbrev row (t : Fin cfg0.N) (a : Fin 1024) : Fin 32768 := ⟨t.val / 7 * 1024 + a.val, row_lt (lt224 t) a⟩
abbrev col (t : Fin cfg0.N) (k : Fin 512) : Fin 3584 := ⟨t.val % 7 * 512 + k.val, col_lt t.val k⟩

open Cert.FfnReferenceIdeal.Value (hid act)

/-- What point `t` adds to entry `(a, d)` of its tile. -/
def part (t : Fin cfg0.N) (a d : Fin 1024) : EReal :=
  ∑ k : Fin 512, act (X m c) (G m c) (Wg m c) (Wu m c) (row t a) (col t k) * Wd m c (ix3 (n0 := 2) (n1 := 3584) (n2 := 1024) 1 (col t k) d)

theorem pay1_at (t : Fin cfg0.N) (a b : Fin 1024) :
    (k0_pay1 (F := Ideal) (iblk m c 0 t) (iblk m c 1 t) (ix2 (n0 := 1024) (n1 := 1024) a b) : EReal) = hid (X m c) (G m c) (row t a) b := by
  pointwise [k0_pay1, Cert.FfnReferenceIdeal.Value.hid]
  blk_point [iblk, V, idx t]

theorem pay3_at (t : Fin cfg0.N) (acc : FVec Ideal S1024x1024 .f32) (H : FVec Ideal S1024x1024 .bf16)
    (hH : ∀ a b : Fin 1024, (H (ix2 (n0 := 1024) (n1 := 1024) a b) : EReal) = hid (X m c) (G m c) (row t a) b) (a d : Fin 1024) :
    (k0_pay3 (F := Ideal) acc H (iblk m c 2 t) (iblk m c 3 t) (iblk m c 4 t) (ix2 (n0 := 1024) (n1 := 1024) a d) : EReal)
      = (acc (ix2 (n0 := 1024) (n1 := 1024) a d) : EReal) + part m c t a d := by
  pointwise [k0_pay3, part, Cert.FfnReferenceIdeal.Value.act, hH]
  blk_point [iblk, V, idx t]

theorem hid_step (n : ℕ) (h : n + 1 < cfg0.N) (h7 : ¬(n + 1) % 7 = 0) :
    (outsAt0 m c (n + 1) h).2.1 = (outsAt0 m c n (Nat.lt_of_succ_lt h)).2.1 := by
  by_cases h6 : (n + 1) % 7 = 6
  · rw [outsAt0_C m c ⟨n + 1, h⟩ h7 h6]; rfl
  · rw [outsAt0_B m c ⟨n + 1, h⟩ h7 h6]; rfl

/-- The hidden scratch holds the normalised rows of the tile at every point. -/
theorem hid_all (n : ℕ) : ∀ (h : n < cfg0.N) (a b : Fin 1024),
    ((outsAt0 m c n h).2.1 (ix2 (n0 := 1024) (n1 := 1024) a b) : EReal) = hid (X m c) (G m c) (row ⟨n, h⟩ a) b := by
  induction n with
  | zero =>
    intro h a b
    rw [outsAt0_A m c ⟨0, h⟩ rfl (by show ¬(0 % 7 = 6); decide)]
    frame_out
    exact pay1_at m c ⟨0, h⟩ a b
  | succ n ih =>
    intro h a b
    by_cases h7 : (n + 1) % 7 = 0
    · rw [outsAt0_A m c ⟨n + 1, h⟩ h7 (by show ¬((n + 1) % 7 = 6); omega)]
      frame_out
      exact pay1_at m c ⟨n + 1, h⟩ a b
    · rw [hid_step m c n h h7, ih (Nat.lt_of_succ_lt h) a b]
      refine congrArg (fun r => hid (X m c) (G m c) r b) (Fin.ext ?_)
      show n / 7 * 1024 + a.val = (n + 1) / 7 * 1024 + a.val
      omega

theorem hid_before (t : Fin cfg0.N) (h7 : ¬t.val % 7 = 0) (a b : Fin 1024) :
    ((outsAt0 m c (t.val - 1) (Nat.lt_of_le_of_lt (Nat.sub_le _ _) t.isLt)).2.1 (ix2 (n0 := 1024) (n1 := 1024) a b) : EReal) = hid (X m c) (G m c) (row t a) b := by
  rw [hid_all m c (t.val - 1) _ a b]
  refine congrArg (fun r => hid (X m c) (G m c) r b) (Fin.ext ?_)
  show (t.val - 1) / 7 * 1024 + a.val = t.val / 7 * 1024 + a.val
  omega

theorem acc_reset (t : Fin cfg0.N) (h7 : t.val % 7 = 0) (i : S1024x1024.Idx) :
    ((outsAt0 m c t.val t.isLt).2.2 i : EReal) = 0 + part m c t (i 0) (i 1) := by
  rw [outsAt0_A m c t h7 (by omega)]
  frame_out
  rw [eq_ix2 i]
  exact (pay3_at m c t _ _ (pay1_at m c t) _ _).trans (congrArg (· + part m c t (i 0) (i 1)) (by pointwise [k0_pay2]))

theorem acc_step (t : Fin cfg0.N) (h7 : ¬t.val % 7 = 0) (i : S1024x1024.Idx) :
    ((outsAt0 m c t.val t.isLt).2.2 i : EReal) = (outsAt0 m c (t.val - 1) (Nat.lt_of_le_of_lt (Nat.sub_le _ _) t.isLt)).2.2 i + part m c t (i 0) (i 1) := by
  by_cases h6 : t.val % 7 = 6
  · rw [outsAt0_C m c t h7 h6]
    frame_out
    rw [read_unread_whole, read_unread_whole, eq_ix2 i]
    exact pay3_at m c t _ _ (hid_before m c t h7) _ _
  · rw [outsAt0_B m c t h7 h6]
    frame_out
    rw [read_unread_whole, read_unread_whole, eq_ix2 i]
    exact pay3_at m c t _ _ (hid_before m c t h7) _ _

theorem out_last (t : Fin cfg0.N) (h6 : t.val % 7 = 6) (i : S1024x1024.Idx) :
    ((outsAt0 m c t.val t.isLt).1 i : EReal) = (show EReal from iblk m c 0 t i) + (outsAt0 m c t.val t.isLt).2.2 i := by
  have h7 : ¬t.val % 7 = 0 := by omega
  rw [outsAt0_C m c t h7 h6]
  frame_out
  pointwise [k0_pay4]

theorem final : (dats m 0 c).arrAt 5 cfg0.N
    = Cert.FfnReferenceIdeal.Read.val_main_v26 (F := Ideal) (X m c) (G m c) (Wg m c) (Wu m c) (Wd m c) := by
  refine (dats m 0 c).arrAt_eq_of_covers 5 _ (by decide +kernel) fun t hf y => ?_
  blk_simp
  have h6 : t.val % 7 = 6 := (flush0_5 t).mp hf
  rw [after0_5]
  refine (out_last m c t h6 _).trans ?_
  rw [Pipeline.eq_sum_fin_of_reset_step_apply_of_flush (fun n h => (outsAt0 m c n h).2.2) 7 (fun _ => (0 : EReal)) (fun t i => part m c t (i 0) (i 1))
    (fun t h i => acc_reset m c t h i) (fun t h i => acc_step m c t h i) t h6 _, zero_add]
  refine Eq.trans ?_ ((congrArg _ (eq_ix2 _)).trans (Cert.FfnReferenceIdeal.Value.out_at _ _ _ _ _ _ _)).symm
  have e0 : (win0_5.blk t).view.emb y 0 = row t (y 0) := Fin.ext (by blk_simp [idx t])
  have e1 : (win0_5.blk t).view.emb y 1 = y 1 := Fin.ext (by blk_simp [idx t])
  rw [e0, e1]
  refine congrArg₂ (· + ·) ?_ ?_
  · show (iblk m c 0 t y : EReal) = _
    blk_ext [iblk, V, idx t]
  · unfold part
    refine Fin.sum_mul_add_congr fun s k hl => ?_
    have er : row ⟨7 * (t.val / 7) + s.val, Pipeline.run_point_lt_of_flush t h6 s⟩ (y 0) = row t (y 0) := Fin.ext (by
      show (7 * (t.val / 7) + s.val) / 7 * 1024 + (y 0).val = t.val / 7 * 1024 + (y 0).val
      have := s.isLt
      omega)
    have ec : col ⟨7 * (t.val / 7) + s.val, Pipeline.run_point_lt_of_flush t h6 s⟩ k = ⟨s.val * 512 + k.val, hl⟩ := Fin.ext (by
      show (7 * (t.val / 7) + s.val) % 7 * 512 + k.val = s.val * 512 + k.val
      have := s.isLt
      omega)
    rw [er, ec]

end Cert.FfnIdeal.Value
-- ==== Proof.MixFinal.lean ====
module

public import proofs.«01_k».proof.Proof.Gen.MixIdeal.Value
public import proofs.«01_k».proof.Proof.Gen.MixReferenceIdeal.Read
public import Idealize.ShloMosaic.Lib.Pipeline.ValueKit
public import Idealize.ShloMosaic.Lib.Pointwise

@[expose] public section

set_option maxRecDepth 16384

noncomputable section

/-! The gated output projection: reference and kernel, entry by entry. -/

namespace Cert.MixReferenceIdeal.Value

open Idealize.ShloMosaic
open Cert.MixReferenceIdeal Cert.MixReferenceIdeal.Read

variable (x0 : FVec Ideal S32768x1024 .f32) (x1 x2 x3 : FVec Ideal S32768x512 .bf16) (x4 : FVec Ideal S32768x4224 .bf16)
  (x5 : FVec Ideal S4x3x512x1024 .bf16) (x6 : FVec Ideal S4x1024x1024 .bf16) (r : Fin 32768) (d : Fin 1024)

/-- What each row mixes: three branch products, each under its gate. -/
def mixed (x : Fin 1024) : EReal :=
  Ideal.logistic (x4 (ix2 (n0 := 32768) (n1 := 4224) r ⟨x.val, by omega⟩)) * (∑ k : Fin 512, (x1 (ix2 (n0 := 32768) (n1 := 512) r k) : EReal) * x5 (ix4 (n0 := 4) (n1 := 3) (n2 := 512) (n3 := 1024) 1 0 k x))
    + Ideal.logistic (x4 (ix2 (n0 := 32768) (n1 := 4224) r ⟨1024 + x.val, by omega⟩)) * (∑ k : Fin 512, (x2 (ix2 (n0 := 32768) (n1 := 512) r k) : EReal) * x5 (ix4 (n0 := 4) (n1 := 3) (n2 := 512) (n3 := 1024) 1 1 k x))
    + Ideal.logistic (x4 (ix2 (n0 := 32768) (n1 := 4224) r ⟨2048 + x.val, by omega⟩)) * (∑ k : Fin 512, (x3 (ix2 (n0 := 32768) (n1 := 512) r k) : EReal) * x5 (ix4 (n0 := 4) (n1 := 3) (n2 := 512) (n3 := 1024) 1 2 k x))

theorem gate_at (i : Fin 3) : (val_main_v8 (F := Ideal) x4 (ix3 (n0 := 32768) (n1 := 3) (n2 := 1024) r i d) : EReal)
    = Ideal.logistic (x4 (ix2 (n0 := 32768) (n1 := 4224) r ⟨i.val * 1024 + d.val, by omega⟩)) := by
  pointwise [val_main_v8, val_main_v7, val_main_v6, val_main_v5, val_main_v4, val_main_v3, val_main_v2, val_main_v1, val_main_v0, val_main_cst, val_main_cst_0]
  rfl

theorem mixed_at : (val_main_v37 (F := Ideal) x1 x2 x3 x4 x5 (ix2 (n0 := 32768) (n1 := 1024) r d) : EReal) = mixed x1 x2 x3 x4 x5 r d := by
  pointwise [mixed, val_main_v37, val_main_v36, val_main_v35, val_main_v34, val_main_v33, val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v11, val_main_v10, val_main_v9, gate_at]

theorem out_at : (val_main_v39 (F := Ideal) x0 x1 x2 x3 x4 x5 x6 (ix2 (n0 := 32768) (n1 := 1024) r d) : EReal)
    = (x0 (ix2 (n0 := 32768) (n1 := 1024) r d) : EReal) + ∑ x : Fin 1024, mixed x1 x2 x3 x4 x5 r x * x6 (ix3 (n0 := 4) (n1 := 1024) (n2 := 1024) 1 x d) := by
  pointwise [val_main_v39, val_main_v38, val_main_v14, val_main_v13, val_main_v12, mixed_at]
end Cert.MixReferenceIdeal.Value
namespace Cert.MixIdeal.Value

open Idealize.ShloMosaic Idealize.ShloMosaic.TcCoe Idealize.SL.Sem
open Idealize.ShloMosaic.Pipeline (Dat)
open Cert.MixIdeal Cert.MixIdeal.Gen

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![1, 0, 0, 0] ∧ win0_6.index t = ![1, 0, 0] ∧ win0_7.index t = ![t.val, 0] ∧ t.val < 64 :=
  (by decide +kernel : ∀ t : Fin grid0.N, _)

variable (m : (ℓ : Loc nD τ sig) → Buf (Elt Ideal) ℓ) (c : Dev nD)

theorem p_blk (t : Fin cfg0.N) (i : S512x3072.Idx) : (X0_4 m c t i : EReal)
    = (m ((c : Thread nD τ).loc main_arg4) : FVec Ideal S32768x4224 .bf16) (ix2 (n0 := 32768) (n1 := 4224) ⟨t.val * 512 + (i 0).val, by have := (idx t).2.2.2.2.2.2.2.2; have : (i 0).val < 512 := (i 0).isLt; omega⟩ ⟨(i 1).val, by have : (i 1).val < 3072 := (i 1).isLt; omega⟩) := by
  unfold X0_4 Pipeline.Window.fill
  rw [dif_pos (moved0_4 t i)]
  blk_ext [iblk, V, idx t]

theorem final : (dats m 0 c).arrAt 7 cfg0.N
    = Cert.MixReferenceIdeal.Read.val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  unfold outsAt0
  frame_out
  rw [eq_ix2 y]
  refine Eq.trans ?_ ((congrArg _ (eq_ix2 _)).trans (Cert.MixReferenceIdeal.Value.out_at _ _ _ _ _ _ _ _ _)).symm
  pointwise [k0_pay1, k0_pay2, Cert.MixReferenceIdeal.Value.mixed, p_blk]
  blk_point [iblk, V, idx t]

end Cert.MixIdeal.Value
-- ==== Proof.InProjRef.lean ====
module

public import proofs.«01_k».proof.Proof.Gen.InProjReferenceIdeal.Read
public import Idealize.ShloMosaic.Lib.Pipeline.ValueKit
public import Idealize.ShloMosaic.Lib.Pointwise

@[expose] public section

set_option maxRecDepth 16384

noncomputable section

namespace Cert.InProjReferenceIdeal.Value

open Idealize.ShloMosaic
open Cert.InProjReferenceIdeal Cert.InProjReferenceIdeal.Read

variable (x0 : FVec Ideal S32768x1024 .f32) (x1 : FVec Ideal S1x1024 .f32) (x2 : FVec Ideal S4x1024x4224 .bf16) (x3 : FVec Ideal S4x512x1024 .bf16) (x4 : FVec Ideal S4x128x1024 .bf16)
  (x5 x6 : FVec Ideal S32768x128 .f32) (x7 x8 : FVec Ideal S48x32768 .f32) (r : Fin 32768)

/-- The normalised row. -/
def hid (d : Fin 1024) : EReal :=
  (x0 (ix2 (n0 := 32768) (n1 := 1024) r d) : EReal)
    * Ideal.rsqrt (Ideal.div (∑ x : Fin 1024, (x0 (ix2 (n0 := 32768) (n1 := 1024) r x) : EReal) * x0 (ix2 (n0 := 32768) (n1 := 1024) r x)) (Ideal.ofBits FTy.f32 1149239296#32) + Ideal.ofBits FTy.f32 897988541#32)
    * x1 (ix2 (n0 := 1) (n1 := 1024) 0 d)

/-- A column of the joint projection. -/
def proj (c : Fin 4224) : EReal := ∑ x : Fin 1024, hid x0 x1 r x * x2 (ix3 (n0 := 4) (n1 := 1024) (n2 := 4224) 1 x c)

/-- A column of the window queries' projection. -/
def projQ (c : Fin 512) : EReal := ∑ x : Fin 1024, hid x0 x1 r x * x3 (ix3 (n0 := 4) (n1 := 512) (n2 := 1024) 1 c x)

/-- A column of the window values' projection. -/
def projV (c : Fin 128) : EReal := ∑ x : Fin 1024, hid x0 x1 r x * x4 (ix3 (n0 := 4) (n1 := 128) (n2 := 1024) 1 c x)

theorem hid_at (d : Fin 1024) : (val_main_v11 (F := Ideal) x0 x1 (ix2 (n0 := 32768) (n1 := 1024) r d) : EReal) = hid x0 x1 r d := by
  pointwise [hid, val_main_v11, val_main_v10, val_main_v9, val_main_v8, val_main_v7, val_main_v6, val_main_v5, val_main_v4, val_main_v3, val_main_v2, val_main_v1, val_main_v0, val_main_cst, val_main_cst_0, val_main_cst_1]

theorem proj_at (c : Fin 4224) : (val_main_v15 (F := Ideal) x0 x1 x2 (ix2 (n0 := 32768) (n1 := 4224) r c) : EReal) = proj x0 x1 x2 r c := by
  pointwise [proj, val_main_v15, val_main_v14, val_main_v13, val_main_v12, hid_at]

theorem projQ_at (c : Fin 512) : (val_main_v58 (F := Ideal) x0 x1 x3 (ix2 (n0 := 32768) (n1 := 512) r c) : EReal) = projQ x0 x1 x3 r c := by
  pointwise [projQ, val_main_v58, val_main_v57, val_main_v56, val_main_v55, val_main_v54, hid_at]

theorem projV_at (c : Fin 128) : (val_main_v99 (F := Ideal) x0 x1 x4 (ix2 (n0 := 32768) (n1 := 128) r c) : EReal) = projV x0 x1 x4 r c := by
  pointwise [projV, val_main_v99, val_main_v98, val_main_v97, val_main_v96, val_main_v95, hid_at]

theorem tok_gates (c : Fin 3072) : (val_main_v53 (F := Ideal) x0 x1 x2 x5 x6 (ix2 (n0 := 32768) (n1 := 4224) r ⟨c.val, by omega⟩) : EReal) = proj x0 x1 x2 r ⟨c.val, by omega⟩ := by
  pointwise [val_main_v53, val_main_v52, val_main_v16, proj_at]

theorem tok_rest (c : Fin 512) : (val_main_v53 (F := Ideal) x0 x1 x2 x5 x6 (ix2 (n0 := 32768) (n1 := 4224) r ⟨3712 + c.val, by omega⟩) : EReal) = proj x0 x1 x2 r ⟨3712 + c.val, by omega⟩ := by
  pointwise [val_main_v53, val_main_v52, val_main_v19, proj_at]
  rw [dif_neg (by omega), dif_neg (by omega), dif_neg (by omega)]
  exact congrArg (proj x0 x1 x2 r) (Fin.ext (by show 3712 + (3712 + c.val - 3072 - 512 - 128) = 3712 + c.val; omega))

theorem of_128 : Ideal.ofBits FTy.f32 1124073472#32 = ((128 : ℝ) : EReal) := by
  simp [Ideal.ofBits, Ideal.ieee, -EReal.coe_mul]; norm_num

theorem of_two : Ideal.ofBits FTy.f32 1073741824#32 = ((2 : ℝ) : EReal) := by
  simp [Ideal.ofBits, Ideal.ieee, -EReal.coe_mul]; norm_num

theorem of_eighth : Ideal.ofBits FTy.f32 1040187392#32 = ((1 / 8 : ℝ) : EReal) := by
  simp [Ideal.ofBits, Ideal.ieee, -EReal.coe_mul]; norm_num

/-- Division by the root of 128 is the product with its inverse. -/
theorem div_root (a : EReal) : Ideal.div a (Ideal.sqrt (Ideal.ofBits FTy.f32 1124073472#32)) = a * (((Real.sqrt 128)⁻¹ : ℝ) : EReal) := by
  rw [of_128, Ideal.sqrt_coe, if_neg (by norm_num), Ideal.div_coe (Real.sqrt_pos.mpr (by norm_num)).ne', one_div]

/-- An eighth, then division by the logarithm of two. -/
theorem div_log (a : EReal) : Ideal.div (a * Ideal.ofBits FTy.f32 1040187392#32) (Ideal.log (Ideal.ofBits FTy.f32 1073741824#32)) = a * (((1 / 8) * (Real.log 2)⁻¹ : ℝ) : EReal) := by
  have hl : Ideal.log (((2 : ℝ) : EReal)) = ((Real.log 2 : ℝ) : EReal) := by
    show (if (2 : ℝ) ≤ 0 then (⊥ : EReal) else ((Real.log 2 : ℝ) : EReal)) = _
    rw [if_neg (by norm_num)]
  rw [of_two, of_eighth, hl, Ideal.div_coe (Real.log_pos (by norm_num)).ne', one_div (Real.log 2), mul_assoc, ← EReal.coe_mul]

theorem tok_q (c : Fin 512) : (val_main_v53 (F := Ideal) x0 x1 x2 x5 x6 (ix2 (n0 := 32768) (n1 := 4224) r ⟨3072 + c.val, by omega⟩) : EReal)
    = proj x0 x1 x2 r ⟨3072 + c.val, by omega⟩ * (((Real.sqrt 128)⁻¹ : ℝ) : EReal) := by
  pointwise [val_main_v53, val_main_v52, val_main_v51, val_main_v50, val_main_v49, val_main_cst_2, val_main_v17, proj_at]
  exact div_root _

/-- The rotary pair: column `c` of the 128 key columns and its partner at distance 32. -/
def rotK (c : Fin 128) : EReal :=
  if c.val % 64 < 32 then
    proj x0 x1 x2 r ⟨3584 + c.val, by omega⟩ * x5 (ix2 (n0 := 32768) (n1 := 128) r c) + proj x0 x1 x2 r ⟨3584 + (c.val + 32), by omega⟩ * x6 (ix2 (n0 := 32768) (n1 := 128) r c)
  else
    proj x0 x1 x2 r ⟨3584 + c.val, by omega⟩ * x5 (ix2 (n0 := 32768) (n1 := 128) r c) + proj x0 x1 x2 r ⟨3584 + (c.val - 32), by omega⟩ * x6 (ix2 (n0 := 32768) (n1 := 128) r c)

theorem rot_lo (g : Fin 2) (l : Fin 32) : (val_main_v33 (F := Ideal) x0 x1 x2 x5 x6 (ix3 (n0 := 32768) (n1 := 2) (n2 := 32) r g l) : EReal)
    = proj x0 x1 x2 r ⟨3584 + (g.val * 64 + l.val), by omega⟩ * x5 (ix2 (n0 := 32768) (n1 := 128) r ⟨g.val * 64 + l.val, by omega⟩)
      + proj x0 x1 x2 r ⟨3584 + (g.val * 64 + 32 + l.val), by omega⟩ * x6 (ix2 (n0 := 32768) (n1 := 128) r ⟨g.val * 64 + l.val, by omega⟩) := by
  pointwise [val_main_v33, val_main_v32, val_main_v31, val_main_v30, val_main_v29, val_main_v28, val_main_v27, val_main_v26, val_main_v25, val_main_v24, val_main_v23, val_main_v22, val_main_v21, val_main_v20, val_main_v18, proj_at]

theorem rot_hi (g : Fin 2) (l : Fin 32) : (val_main_v44 (F := Ideal) x0 x1 x2 x5 x6 (ix3 (n0 := 32768) (n1 := 2) (n2 := 32) r g l) : EReal)
    = proj x0 x1 x2 r ⟨3584 + (g.val * 64 + 32 + l.val), by omega⟩ * x5 (ix2 (n0 := 32768) (n1 := 128) r ⟨g.val * 64 + 32 + l.val, by omega⟩)
      + proj x0 x1 x2 r ⟨3584 + (g.val * 64 + l.val), by omega⟩ * x6 (ix2 (n0 := 32768) (n1 := 128) r ⟨g.val * 64 + 32 + l.val, by omega⟩) := by
  pointwise [val_main_v44, val_main_v43, val_main_v42, val_main_v41, val_main_v40, val_main_v39, val_main_v38, val_main_v37, val_main_v36, val_main_v35, val_main_v34, val_main_v22, val_main_v21, val_main_v20, val_main_v18, proj_at]

theorem rot_at (g : Fin 2) (e : Fin 2) (l : Fin 32) : (val_main_v47 (F := Ideal) x0 x1 x2 x5 x6 (ix4 (n0 := 32768) (n1 := 2) (n2 := 2) (n3 := 32) r g e l) : EReal)
    = if e.val = 0 then (show EReal from val_main_v33 (F := Ideal) x0 x1 x2 x5 x6 (ix3 (n0 := 32768) (n1 := 2) (n2 := 32) r g l)) else val_main_v44 (F := Ideal) x0 x1 x2 x5 x6 (ix3 (n0 := 32768) (n1 := 2) (n2 := 32) r g l) := by
  by_cases he : e.val = 0
  · rw [if_pos he]
    pointwise [val_main_v47, val_main_v46, val_main_v45]
    rw [dif_pos (by omega)]
  · rw [if_neg he]
    pointwise [val_main_v47, val_main_v46, val_main_v45]
    rw [dif_neg (by omega)]

theorem tok_k (c : Fin 128) : (val_main_v53 (F := Ideal) x0 x1 x2 x5 x6 (ix2 (n0 := 32768) (n1 := 4224) r ⟨3584 + c.val, by omega⟩) : EReal) = rotK x0 x1 x2 x5 x6 r c := by
  pointwise [val_main_v53, val_main_v52, val_main_v48, rot_at]
  rw [dif_neg (by omega), dif_neg (by omega), dif_pos (by omega)]
  unfold rotK
  by_cases hc : c.val % 64 < 32
  · rw [if_pos hc, if_pos (by omega), rot_lo]
    blk_point []
    all_goals exact Fin.ext (by dsimp only; omega)
  · rw [if_neg hc, if_neg (by omega), rot_hi]
    blk_point []
    all_goals exact Fin.ext (by dsimp only; omega)

theorem v_val (g : Fin 2) (l : Fin 64) : (val_main_v106 (F := Ideal) x0 x1 x4 (ix2 (n0 := 256) (n1 := 32768) ⟨g.val * 128 + l.val, by omega⟩ r) : EReal)
    = projV x0 x1 x4 r ⟨g.val * 64 + l.val, by omega⟩ := by
  pointwise [val_main_v106, val_main_v105, val_main_v104, val_main_v103, val_main_v102, val_main_v101, val_main_v100, projV_at]
  rw [dif_pos (by omega)]
  exact congrArg (projV x0 x1 x4 r) (Fin.ext (by show g.val * 64 + (g.val * 128 + l.val) % 128 = g.val * 64 + l.val; omega))

theorem v_pad (g : Fin 2) (l : Fin 64) : (val_main_v106 (F := Ideal) x0 x1 x4 (ix2 (n0 := 256) (n1 := 32768) ⟨g.val * 128 + 64 + l.val, by omega⟩ r) : EReal)
    = if l.val = 0 then Ideal.ofBits FTy.f32 0x3F800000#32 else Ideal.ofBits FTy.f32 0x00000000#32 := by
  pointwise [val_main_v106, val_main_v105, val_main_v104, val_main_v103, val_main_v102, val_main_v101, val_main_v100, val_main_cst_5, val_main_cst_6]
  rw [dif_neg (by omega)]
  split_ifs <;> first | omega | rfl

theorem q_lo (h : Fin 8) (l : Fin 32) : (val_main_v94 (F := Ideal) x0 x1 x3 x7 x8 (ix2 (n0 := 512) (n1 := 32768) ⟨h.val * 64 + l.val, by omega⟩ r) : EReal)
    = (projQ x0 x1 x3 r ⟨h.val * 64 + l.val, by omega⟩ * x7 (ix2 (n0 := 48) (n1 := 32768) ⟨l.val, by omega⟩ r)
        - projQ x0 x1 x3 r ⟨h.val * 64 + 32 + l.val, by omega⟩ * x8 (ix2 (n0 := 48) (n1 := 32768) ⟨l.val, by omega⟩ r)) * (((1 / 8) * (Real.log 2)⁻¹ : ℝ) : EReal) := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_cst_3, val_main_cst_4, projQ_at]
  rw [dif_pos (by omega)]
  exact div_log _

theorem q_hi (h : Fin 8) (l : Fin 32) : (val_main_v94 (F := Ideal) x0 x1 x3 x7 x8 (ix2 (n0 := 512) (n1 := 32768) ⟨h.val * 64 + 32 + l.val, by omega⟩ r) : EReal)
    = (projQ x0 x1 x3 r ⟨h.val * 64 + 32 + l.val, by omega⟩ * x7 (ix2 (n0 := 48) (n1 := 32768) ⟨l.val, by omega⟩ r)
        + projQ x0 x1 x3 r ⟨h.val * 64 + l.val, by omega⟩ * x8 (ix2 (n0 := 48) (n1 := 32768) ⟨l.val, by omega⟩ r)) * (((1 / 8) * (Real.log 2)⁻¹ : ℝ) : EReal) := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_cst_3, val_main_cst_4, projQ_at]
  rw [dif_neg (by omega)]
  exact div_log _

/-- An entry of the first result: the window keys rotated, the memory queries scaled, the rest as projected. -/
def tokens (c : Fin 4224) : EReal :=
  if h : 3584 ≤ c.val ∧ c.val < 3712 then rotK x0 x1 x2 x5 x6 r ⟨c.val - 3584, by omega⟩
  else if 3072 ≤ c.val ∧ c.val < 3584 then proj x0 x1 x2 r c * (((Real.sqrt 128)⁻¹ : ℝ) : EReal) else proj x0 x1 x2 r c

theorem tokens_at (c : Fin 4224) : (val_main_v53 (F := Ideal) x0 x1 x2 x5 x6 (ix2 (n0 := 32768) (n1 := 4224) r c) : EReal) = tokens x0 x1 x2 x5 x6 r c := by
  have at_eq : ∀ (k : Fin 4224) (v : EReal), (val_main_v53 (F := Ideal) x0 x1 x2 x5 x6 (ix2 (n0 := 32768) (n1 := 4224) r k) : EReal) = v → k = c →
      (val_main_v53 (F := Ideal) x0 x1 x2 x5 x6 (ix2 (n0 := 32768) (n1 := 4224) r c) : EReal) = v := fun k v h e => e ▸ h
  unfold tokens
  split_ifs with h h'
  · exact at_eq _ _ (tok_k x0 x1 x2 x5 x6 r ⟨c.val - 3584, by omega⟩) (Fin.ext (by show 3584 + (c.val - 3584) = c.val; omega))
  · refine at_eq _ _ ((tok_q x0 x1 x2 x5 x6 r ⟨c.val - 3072, by omega⟩).trans (congrArg (fun k => proj x0 x1 x2 r k * (((Real.sqrt 128)⁻¹ : ℝ) : EReal)) ?_)) ?_ <;>
      exact Fin.ext (by show 3072 + (c.val - 3072) = c.val; omega)
  · by_cases hc : c.val < 3072
    · exact tok_gates x0 x1 x2 x5 x6 r ⟨c.val, hc⟩
    · refine at_eq _ _ ((tok_rest x0 x1 x2 x5 x6 r ⟨c.val - 3712, by omega⟩).trans (congrArg (proj x0 x1 x2 r) ?_)) ?_ <;>
        exact Fin.ext (by show 3712 + (c.val - 3712) = c.val; omega)

/-- An entry of the second result: a rotated and scaled window query. -/
def queries (k : Fin 512) : EReal :=
  (if h : k.val % 64 < 32 then
    projQ x0 x1 x3 r k * x7 (ix2 (n0 := 48) (n1 := 32768) ⟨k.val % 32, by omega⟩ r) - projQ x0 x1 x3 r ⟨k.val + 32, by omega⟩ * x8 (ix2 (n0 := 48) (n1 := 32768) ⟨k.val % 32, by omega⟩ r)
  else
    projQ x0 x1 x3 r k * x7 (ix2 (n0 := 48) (n1 := 32768) ⟨k.val % 32, by omega⟩ r) + projQ x0 x1 x3 r ⟨k.val - 32, by omega⟩ * x8 (ix2 (n0 := 48) (n1 := 32768) ⟨k.val % 32, by omega⟩ r))
  * (((1 / 8) * (Real.log 2)⁻¹ : ℝ) : EReal)

theorem queries_at (k : Fin 512) : (val_main_v94 (F := Ideal) x0 x1 x3 x7 x8 (ix2 (n0 := 512) (n1 := 32768) k r) : EReal) = queries x0 x1 x3 x7 x8 r k := by
  have at_eq : ∀ (i : Fin 512) (v : EReal), (val_main_v94 (F := Ideal) x0 x1 x3 x7 x8 (ix2 (n0 := 512) (n1 := 32768) i r) : EReal) = v → i = k →
      (val_main_v94 (F := Ideal) x0 x1 x3 x7 x8 (ix2 (n0 := 512) (n1 := 32768) k r) : EReal) = v := fun i v h e => e ▸ h
  unfold queries
  by_cases hk : k.val % 64 < 32
  · rw [dif_pos hk]
    refine at_eq _ _ ((q_lo x0 x1 x3 x7 x8 r ⟨k.val / 64, by omega⟩ ⟨k.val % 32, by omega⟩).trans ?_) (Fin.ext (by show k.val / 64 * 64 + k.val % 32 = k.val; omega))
    congr 4 <;> exact Fin.ext (by dsimp only; omega)
  · rw [dif_neg hk]
    refine at_eq _ _ ((q_hi x0 x1 x3 x7 x8 r ⟨k.val / 64, by omega⟩ ⟨k.val % 32, by omega⟩).trans ?_) (Fin.ext (by show k.val / 64 * 64 + 32 + k.val % 32 = k.val; omega))
    congr 4 <;> exact Fin.ext (by dsimp only; omega)

/-- An entry of the third result: a window value, or under each head the row of ones and the rows of zeros. -/
def values (k : Fin 256) : EReal :=
  if k.val % 128 < 64 then projV x0 x1 x4 r ⟨k.val / 128 * 64 + k.val % 64, by omega⟩
  else if k.val % 64 = 0 then Ideal.ofBits FTy.f32 0x3F800000#32 else Ideal.ofBits FTy.f32 0x00000000#32

theorem values_at (k : Fin 256) : (val_main_v106 (F := Ideal) x0 x1 x4 (ix2 (n0 := 256) (n1 := 32768) k r) : EReal) = values x0 x1 x4 r k := by
  have at_eq : ∀ (i : Fin 256) (v : EReal), (val_main_v106 (F := Ideal) x0 x1 x4 (ix2 (n0 := 256) (n1 := 32768) i r) : EReal) = v → i = k →
      (val_main_v106 (F := Ideal) x0 x1 x4 (ix2 (n0 := 256) (n1 := 32768) k r) : EReal) = v := fun i v h e => e ▸ h
  unfold values
  by_cases hk : k.val % 128 < 64
  · rw [if_pos hk]
    exact at_eq _ _ (v_val x0 x1 x4 r ⟨k.val / 128, by omega⟩ ⟨k.val % 64, by omega⟩) (Fin.ext (by show k.val / 128 * 128 + k.val % 64 = k.val; omega))
  · rw [if_neg hk]
    exact at_eq _ _ (v_pad x0 x1 x4 r ⟨k.val / 128, by omega⟩ ⟨k.val % 64, by omega⟩) (Fin.ext (by show k.val / 128 * 128 + 64 + k.val % 64 = k.val; omega))

end Cert.InProjReferenceIdeal.Value
-- ==== Proof.InProjFinal.lean ====
module

public import proofs.«01_k».proof.Proof.InProjRef
public import proofs.«01_k».proof.Proof.Gen.InProjIdeal.Value
public import Idealize.ShloMosaic.Lib.Pipeline.ValueKit
public import Idealize.ShloMosaic.Lib.Pointwise

@[expose] public section

set_option maxRecDepth 16384

noncomputable section

/-! The input projection: the kernel's blocks against the reference, piece by piece. -/

namespace Cert.InProjIdeal.Value

open Idealize.ShloMosaic Idealize.ShloMosaic.TcCoe Idealize.SL.Sem
open Idealize.ShloMosaic.Pipeline (Dat)
open Cert.InProjIdeal Cert.InProjIdeal.Gen
open Cert.InProjReferenceIdeal.Value (hid proj projQ projV rotK)

theorem idx : ∀ t : Fin cfg0.N, win0_0.index t = ![t.val, 0] ∧ win0_1.index t = ![0, 0] ∧ win0_2.index t = ![1, 0, 0] ∧ win0_3.index t = ![1, 0, 0]
    ∧ win0_4.index t = ![1, 0, 0] ∧ win0_5.index t = ![t.val, 0] ∧ win0_6.index t = ![t.val, 0] ∧ win0_7.index t = ![0, t.val] ∧ win0_8.index t = ![0, t.val]
    ∧ win0_9.index t = ![t.val, 0] ∧ win0_10.index t = ![0, t.val] ∧ win0_11.index t = ![0, t.val] ∧ t.val < 64 :=
  (by decide +kernel : ∀ t : Fin grid0.N, _)

theorem lt64 (t : Fin cfg0.N) : t.val < 64 := (idx t).2.2.2.2.2.2.2.2.2.2.2.2

variable (m : (ℓ : Loc nD τ sig) → Buf (Elt Ideal) ℓ) (c : Dev nD)

/-- The row of the whole array that row `p` of block `t` is. -/
abbrev row (t : Fin cfg0.N) (p : Fin 512) : Fin 32768 := ⟨t.val * 512 + p.val, by have := lt64 t; omega⟩

theorem x_at (t : Fin cfg0.N) (p : Fin 512) (d : Fin 1024) : (k0_pay1 (F := Ideal) (iblk m c 0 t) (iblk m c 1 t) (ix2 (n0 := 512) (n1 := 1024) p d) : EReal)
    = hid (m ((c : Thread nD τ).loc main_arg0)) (m ((c : Thread nD τ).loc main_arg1)) (row t p) d := by
  pointwise [k0_pay1, hid]
  blk_point [iblk, V, idx t]

theorem cos_at (t : Fin cfg0.N) (i : S32x512.Idx) : (X0_7 m c t i : EReal)
    = (m ((c : Thread nD τ).loc main_arg7) : FVec Ideal S48x32768 .f32) (ix2 (n0 := 48) (n1 := 32768) ⟨(i 0).val, by have : (i 0).val < 32 := (i 0).isLt; omega⟩ ⟨t.val * 512 + (i 1).val, by have := lt64 t; have : (i 1).val < 512 := (i 1).isLt; omega⟩) := by
  unfold X0_7 Pipeline.Window.fill
  rw [dif_pos (moved0_7 t i)]
  blk_ext [iblk, V, idx t]

theorem sin_at (t : Fin cfg0.N) (i : S32x512.Idx) : (X0_8 m c t i : EReal)
    = (m ((c : Thread nD τ).loc main_arg8) : FVec Ideal S48x32768 .f32) (ix2 (n0 := 48) (n1 := 32768) ⟨(i 0).val, by have : (i 0).val < 32 := (i 0).isLt; omega⟩ ⟨t.val * 512 + (i 1).val, by have := lt64 t; have : (i 1).val < 512 := (i 1).isLt; omega⟩) := by
  unfold X0_8 Pipeline.Window.fill
  rw [dif_pos (moved0_8 t i)]
  blk_ext [iblk, V, idx t]

theorem v_at (t : Fin cfg0.N) (p : Fin 512) (k : Fin 128) : (k0_pay46 (F := Ideal) (k0_pay1 (F := Ideal) (iblk m c 0 t) (iblk m c 1 t)) (iblk m c 4 t) (ix2 (n0 := 128) (n1 := 512) k p) : EReal)
    = projV (m ((c : Thread nD τ).loc main_arg0)) (m ((c : Thread nD τ).loc main_arg1)) (m ((c : Thread nD τ).loc main_arg4)) (row t p) k := by
  pointwise [k0_pay46, projV, x_at]
  refine Finset.sum_congr rfl fun x _ => ?_
  rw [mul_comm]
  blk_point [iblk, V, idx t]

theorem q_at (t : Fin cfg0.N) (p : Fin 512) (k : Fin 512) : (k0_pay13 (F := Ideal) (k0_pay1 (F := Ideal) (iblk m c 0 t) (iblk m c 1 t)) (iblk m c 3 t) (ix2 (n0 := 512) (n1 := 512) k p) : EReal)
    = projQ (m ((c : Thread nD τ).loc main_arg0)) (m ((c : Thread nD τ).loc main_arg1)) (m ((c : Thread nD τ).loc main_arg3)) (row t p) k := by
  pointwise [k0_pay13, projQ, x_at]
  refine Finset.sum_congr rfl fun x _ => ?_
  rw [mul_comm]
  blk_point [iblk, V, idx t]

theorem at256 (f : S256x32768.Idx → EReal) (a : Fin 256) (b : Fin 32768) (j : S256x32768.Idx) (h0 : (j 0).val = a.val) (h1 : (j 1).val = b.val) : f j = f (ix2 (n0 := 256) (n1 := 32768) a b) := by
  rw [eq_ix2 j]
  exact congrArg f (congrArg₂ (ix2 (n0 := 256) (n1 := 32768)) (Fin.ext h0) (Fin.ext h1))

theorem at512 (f : S512x32768.Idx → EReal) (a : Fin 512) (b : Fin 32768) (j : S512x32768.Idx) (h0 : (j 0).val = a.val) (h1 : (j 1).val = b.val) : f j = f (ix2 (n0 := 512) (n1 := 32768) a b) := by
  rw [eq_ix2 j]
  exact congrArg f (congrArg₂ (ix2 (n0 := 512) (n1 := 32768)) (Fin.ext h0) (Fin.ext h1))

theorem at4224 (f : S32768x4224.Idx → EReal) (a : Fin 32768) (b : Fin 4224) (j : S32768x4224.Idx) (h0 : (j 0).val = a.val) (h1 : (j 1).val = b.val) : f j = f (ix2 (n0 := 32768) (n1 := 4224) a b) := by
  rw [eq_ix2 j]
  exact congrArg f (congrArg₂ (ix2 (n0 := 32768) (n1 := 4224)) (Fin.ext h0) (Fin.ext h1))

theorem m_named : (Named.named (F := Ideal) Cert.InProjIdeal.κ "m_scale" (φ := .f32) 0x3DB504F3#32 : EReal) = (((Real.sqrt 128)⁻¹ : ℝ) : EReal) :=
  IdealRules.named_const.ideal_named_scalar _ _ _ _ rfl

theorem q_named : (Named.named (F := Ideal) Cert.InProjIdeal.κ "q_scale" (φ := .f32) 0x3E38AA3B#32 : EReal) = (((1 / 8) * (Real.log 2)⁻¹ : ℝ) : EReal) :=
  IdealRules.named_const.ideal_named_scalar _ _ _ _ rfl

theorem first_row : ∀ l : Fin 64, IntOp.cmpi CmpIPredicate.eq (BitVec.ofNat 32 l.val) 0#32 = if l.val = 0 then 1#1 else 0#1 := by decide +kernel

theorem pad_at (x : S64x512.Idx) : (k0_pay47 (F := Ideal) x : EReal) = if (x 0).val = 0 then Ideal.ofBits FTy.f32 0x3F800000#32 else Ideal.ofBits FTy.f32 0x00000000#32 := by
  pointwise [k0_pay47]
  rw [first_row (x 0)]
  split_ifs
  · show (((BitVec.setWidth 32 1#1).toInt : ℝ) : EReal) = 1
    simp
  · show (((BitVec.setWidth 32 0#1).toInt : ℝ) : EReal) = 0
    simp

/-- Which lanes turn forward: the first half of each 64. -/
theorem half_lane : ∀ l : Fin 128,
    IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32)
              0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32 = if l.val % 64 < 32 then 1#1 else 0#1 := by decide +kernel

theorem w_at (t : Fin cfg0.N) (p : Fin 512) (k : Fin 4224) : (∑ x : Fin 1024, (k0_pay1 (F := Ideal) (iblk m c 0 t) (iblk m c 1 t) (ix2 (n0 := 512) (n1 := 1024) p x) : EReal) * iblk m c 2 t (ix3 (n0 := 1) (n1 := 1024) (n2 := 4224) 0 x k))
    = proj (m ((c : Thread nD τ).loc main_arg0)) (m ((c : Thread nD τ).loc main_arg1)) (m ((c : Thread nD τ).loc main_arg2)) (row t p) k := by
  unfold proj
  refine Finset.sum_congr rfl fun x _ => ?_
  rw [x_at]
  blk_point [iblk, V, idx t]

theorem keys_at (t : Fin cfg0.N) (p : Fin 512) (l : Fin 256) : (k0_pay9 (F := Ideal) (k0_pay1 (F := Ideal) (iblk m c 0 t) (iblk m c 1 t)) (View.ld (iblk m c 2 t) (Rect.unit ![0, 0, 3584] ![1, 1024, 256] inb_S1x1024x4224_S1x1024x256_0_0_3584)) (ix2 (n0 := 512) (n1 := 256) p l) : EReal)
    = proj (m ((c : Thread nD τ).loc main_arg0)) (m ((c : Thread nD τ).loc main_arg1)) (m ((c : Thread nD τ).loc main_arg2)) (row t p) ⟨3584 + l.val, by omega⟩ := by
  pointwise [k0_pay9, proj, x_at]
  blk_point [iblk, V, idx t]

theorem key_at (t : Fin cfg0.N) (p : Fin 512) (l : Fin 128) : (k0_pay10 (F := Ideal) (k0_pay1 (F := Ideal) (iblk m c 0 t) (iblk m c 1 t)) (iblk m c 5 t) (iblk m c 6 t) (iota .tc S512x128 32 [1] iota_S512x128_d1_w32) (View.ld (iblk m c 2 t) (Rect.unit ![0, 0, 3584] ![1, 1024, 256] inb_S1x1024x4224_S1x1024x256_0_0_3584)) (ix2 (n0 := 512) (n1 := 128) p l) : EReal)
    = rotK (m ((c : Thread nD τ).loc main_arg0)) (m ((c : Thread nD τ).loc main_arg1)) (m ((c : Thread nD τ).loc main_arg2)) (m ((c : Thread nD τ).loc main_arg5)) (m ((c : Thread nD τ).loc main_arg6)) (row t p) l := by
  pointwise [k0_pay10, keys_at]
  rw [half_lane l]
  unfold rotK
  by_cases hl : l.val % 64 < 32
  · rw [if_pos hl, if_pos hl]
    show (_ * _ + _ * _ : EReal) = _
    blk_point [iblk, V, idx t]
    exact congrArg₂ (fun a b : EReal => a * b) (congrArg (proj _ _ _ _) (Fin.ext (by show 3584 + ((l.val + 128 - 96) % 128) = 3584 + (l.val + 32); omega))) rfl
  · rw [if_neg hl, if_neg hl]
    show (_ * _ + _ * _ : EReal) = _
    blk_point [iblk, V, idx t]
    exact congrArg₂ (fun a b : EReal => a * b) (congrArg (proj _ _ _ _) (Fin.ext (by show 3584 + ((l.val + 128 - 32) % 128) = 3584 + (l.val - 32); omega))) rfl

theorem final11 : (dats m 0 c).arrAt 11 cfg0.N
    = Cert.InProjReferenceIdeal.Read.val_main_v106 (F := Ideal) (m ((c : Thread nD τ).loc main_arg0)) (m ((c : Thread nD τ).loc main_arg1)) (m ((c : Thread nD τ).loc main_arg4)) := by
  refine (dats m 0 c).arrAt_eq_of_covers 11 _ (by decide +kernel) fun t hf y => ?_
  blk_simp
  rw [after0_11]
  unfold outsAt0
  frame_out
  have hy0 : (y 0).val < 256 := (y 0).isLt
  have hy1 : (y 1).val < 512 := (y 1).isLt
  have := lt64 t
  refine Eq.trans ?_ ((at256 _ ⟨(y 0).val, hy0⟩ ⟨t.val * 512 + (y 1).val, by omega⟩ _ ?_ ?_).trans (Cert.InProjReferenceIdeal.Value.values_at _ _ _ _ _)).symm
  rotate_left
  · blk_simp [idx t]
  · blk_simp [idx t]
  canon_tiles x hx
  all_goals
    unfold Cert.InProjReferenceIdeal.Value.values
    first
    | rw [if_neg (by dsimp only; omega)]
      refine (pad_at x).trans ?_
      split_ifs <;> first | rfl | (exfalso; dsimp only at *; omega)
    | rw [if_pos (by dsimp only; omega)]
      pointwise [k0_pay48, k0_pay49, v_at]
      blk_point []
      try exact Fin.ext (by dsimp only; omega)
theorem final10 : (dats m 0 c).arrAt 10 cfg0.N
    = Cert.InProjReferenceIdeal.Read.val_main_v94 (F := Ideal) (m ((c : Thread nD τ).loc main_arg0)) (m ((c : Thread nD τ).loc main_arg1)) (m ((c : Thread nD τ).loc main_arg3)) (m ((c : Thread nD τ).loc main_arg7)) (m ((c : Thread nD τ).loc main_arg8)) := by
  refine (dats m 0 c).arrAt_eq_of_covers 10 _ (by decide +kernel) fun t hf y => ?_
  blk_simp
  rw [after0_10]
  unfold outsAt0
  frame_out
  have hy0 : (y 0).val < 512 := (y 0).isLt
  have hy1 : (y 1).val < 512 := (y 1).isLt
  have := lt64 t
  refine Eq.trans ?_ ((at512 _ ⟨(y 0).val, hy0⟩ ⟨t.val * 512 + (y 1).val, by omega⟩ _ ?_ ?_).trans (Cert.InProjReferenceIdeal.Value.queries_at _ _ _ _ _ _ _)).symm
  rotate_left
  · blk_simp [idx t]
  · blk_simp [idx t]
  canon_tiles x hx
  all_goals
    unfold Cert.InProjReferenceIdeal.Value.queries
    rw [← q_named]
    first
    | rw [dif_pos (by dsimp only; omega)]
    | rw [dif_neg (by dsimp only; omega)]
    pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, q_at, cos_at, sin_at]
    blk_point []
    try exact Fin.ext (by dsimp only; omega)
theorem final9 : (dats m 0 c).arrAt 9 cfg0.N
    = Cert.InProjReferenceIdeal.Read.val_main_v53 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 9 _ (by decide +kernel) fun t hf y => ?_
  blk_simp
  rw [after0_9]
  unfold outsAt0
  frame_out
  have hy0 : (y 0).val < 512 := (y 0).isLt
  have hy1 : (y 1).val < 4224 := (y 1).isLt
  have := lt64 t
  refine Eq.trans ?_ ((at4224 _ ⟨t.val * 512 + (y 0).val, by omega⟩ ⟨(y 1).val, hy1⟩ _ ?_ ?_).trans (Cert.InProjReferenceIdeal.Value.tokens_at _ _ _ _ _ _ _)).symm
  rotate_left
  · blk_simp [idx t]
  · blk_simp [idx t]
  canon_tiles x hx using (View.cover_of_tiledBy _ ![512, 128] (by sl_kernel_rfl) y)
  case piece2 =>
    unfold Cert.InProjReferenceIdeal.Value.tokens
    rw [dif_pos (by dsimp only; omega)]
    refine (congrArg _ (eq_ix2 x)).trans ((key_at m c t _ _).trans ?_)
    congr 1
    · exact Fin.ext (by show t.val * 512 + (x 0).val = t.val * 512 + (y 0).val; omega)
    · exact Fin.ext (by show (x 1).val = (y 1).val - 3584; omega)
  case piece1 =>
    unfold Cert.InProjReferenceIdeal.Value.tokens
    rw [dif_neg (by dsimp only; omega), if_neg (by dsimp only; omega)]
    pointwise [k0_pay11]
    refine (keys_at m c t _ _).trans ?_
    have hr : row t (x 0) = (⟨t.val * 512 + (y 0).val, by omega⟩ : Fin 32768) := Fin.ext (by show t.val * 512 + (x 0).val = t.val * 512 + (y 0).val; omega)
    rw [hr]
    exact congrArg (proj _ _ _ _) (Fin.ext (by show 3584 + (128 + (x 1).val) = (y 1).val; omega))
  all_goals
    unfold Cert.InProjReferenceIdeal.Value.tokens
    rw [dif_neg (by dsimp only; omega)]
    first
    | rw [if_neg (by dsimp only; omega)]
    | rw [if_pos (by dsimp only; omega), ← m_named]
    unfold proj
    pointwise [k0_pay2, k0_pay3, k0_pay4, k0_pay5, k0_pay6, k0_pay7, k0_pay8, k0_pay12, x_at]
    blk_point [iblk, V, idx t]

end Cert.InProjIdeal.Value
-- ==== Proof.MemKvFinal.lean ====
module

public import proofs.«01_k».proof.Proof.Gen.MemKvIdeal.Value
public import proofs.«01_k».proof.Proof.Gen.MemKvReferenceIdeal.Read
public import Idealize.ShloMosaic.Lib.Pipeline.ValueKit
public import Idealize.ShloMosaic.Lib.Pointwise

@[expose] public section

set_option maxRecDepth 16384

noncomputable section

/-! The memory's keys and values: reference and kernel, entry by entry. -/

namespace Cert.MemKvReferenceIdeal.Value

open Idealize.ShloMosaic
open Cert.MemKvReferenceIdeal Cert.MemKvReferenceIdeal.Read

variable (x0 : FVec Ideal S2048x1024 .f32) (x1 : FVec Ideal S1x1024 .f32) (x2 : FVec Ideal S4x1024x1024 .bf16) (r : Fin 2048) (l : Fin 4) (d : Fin 1024)

/-- An entry of the normalised memory. -/
def hid : EReal :=
  x0 (ix2 (n0 := 2048) (n1 := 1024) r d) * Ideal.rsqrt (Ideal.div (∑ x : Fin 1024, (x0 (ix2 (n0 := 2048) (n1 := 1024) r x) : EReal) * x0 (ix2 (n0 := 2048) (n1 := 1024) r x)) (Ideal.ofBits FTy.f32 0x44800000#32) + Ideal.ofBits FTy.f32 0x358637BD#32)
    * x1 (ix2 (n0 := 1) (n1 := 1024) 0 d)

theorem hid_at : (val_main_v11 (F := Ideal) x0 x1 (ix2 (n0 := 2048) (n1 := 1024) r d) : EReal) = hid x0 x1 r d := by
  pointwise [hid, val_main_v11, val_main_v10, val_main_v9, val_main_v8, val_main_v7, val_main_v6, val_main_v5, val_main_v4, val_main_v3, val_main_v2, val_main_v1, val_main_v0, val_main_cst, val_main_cst_0, val_main_cst_1]

theorem out_at : (val_main_v15 (F := Ideal) x0 x1 x2 (ix3 (n0 := 4) (n1 := 2048) (n2 := 1024) l r d) : EReal)
    = ∑ x : Fin 1024, hid x0 x1 r x * x2 (ix3 (n0 := 4) (n1 := 1024) (n2 := 1024) l x d) := by
  pointwise [val_main_v15, val_main_v14, val_main_v13, val_main_v12, hid_at]
  exact Finset.sum_congr rfl fun x _ => mul_comm _ _

end Cert.MemKvReferenceIdeal.Value

namespace Cert.MemKvIdeal.Value

open Idealize.ShloMosaic Idealize.ShloMosaic.TcCoe Idealize.SL.Sem
open Idealize.ShloMosaic.Pipeline (Dat)
open Cert.MemKvIdeal Cert.MemKvIdeal.Gen

theorem idx : ∀ t : Fin cfg0.N, win0_0.index t = ![0, 0] ∧ win0_1.index t = ![0, 0] ∧ win0_2.index t = ![t.val, 0, 0] ∧ win0_3.index t = ![t.val, 0, 0] ∧ t.val < 4 :=
  (by decide +kernel : ∀ t : Fin grid0.N, _)

variable (m : (ℓ : Loc nD τ sig) → Buf (Elt Ideal) ℓ) (c : Dev nD)

theorem final : (dats m 0 c).arrAt 3 cfg0.N
    = Cert.MemKvReferenceIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  rw [eq_ix3 y]
  refine Eq.trans ?_ ((congrArg _ (eq_ix3 _)).trans (Cert.MemKvReferenceIdeal.Value.out_at _ _ _ _ _ _)).symm
  pointwise [k0_pay1, Cert.MemKvReferenceIdeal.Value.hid]
  blk_point [iblk, V, idx t]

end Cert.MemKvIdeal.Value
-- ==== Proof.MemAttnRef.lean ====
module

public import proofs.«01_k».proof.Pre_mem_finite
public import proofs.«01_k».proof.Proof.Gen.MemAttnReferenceIdeal.Read
public import proofs.«01_k».proof.Proof.MlaPre
public import proofs.«01_k».proof.Proof.Soft
public import proofs.«01_k».proof.Proof.MlaMax
public import Idealize.ShloMosaic.Lib.Pointwise
public import Idealize.ShloMosaic.Lib.ReduceAll

@[expose] public section

set_option maxRecDepth 16384

noncomputable section

/-! The reference attention over the memory, entry by entry, and what its precondition says. -/

namespace Cert.Pre_mem_finite

open Idealize.ShloMosaic
open Cert.Pre_mla_layout (both inf_top bit_true real_of_lt)

variable [Facts] (x0 : FVec Ideal S32768x4224 .bf16) (x1 : FVec Ideal S4x2048x1024 .bf16)

instance : Subsingleton S_.Idx := ⟨fun a b => funext fun i => i.elim0⟩

/-- The two tests behind the precondition. -/
theorem parts (h : fn (F := Ideal) x0 x1 = fun _ => 1#1) :
    (∀ i, cmpf .olt (Host.absf ((extf .f32 · Facts.bitsLt_bf16_f32) ((extractStridedSlice S32768x512 ![0, 3072] · Facts.slices_S32768x4224_S32768x512_0_3072) x0))) (broadcastInDim S32768x512 ![] Facts.bcast_S_S32768x512 (constant (F := Ideal) S_ .f32 0x7F800000#32)) i = 1#1)
    ∧ (∀ i, cmpf .olt (Host.absf ((extf .f32 · Facts.bitsLt_bf16_f32) (shapeCast S2048x512 ((extractStridedSlice S1x2048x512 ![1, 0, 0] · Facts.slices_S4x2048x1024_S1x2048x512_1_0_0) x1) Facts.shapeCasts_S1x2048x512_S2048x512))) (broadcastInDim S2048x512 ![] Facts.bcast_S_S2048x512 (constant (F := Ideal) S_ .f32 0x7F800000#32)) i = 1#1) := by
  obtain ⟨e1, e2⟩ := both (congrFun h (fun i => i.elim0))
  exact ⟨Host.reduce_andi_all _ _ _ _ _ e1, Host.reduce_andi_all _ _ _ _ _ e2⟩

/-- The memory queries are real. -/
theorem q_real (h : fn (F := Ideal) x0 x1 = fun _ => 1#1) (r : Fin 32768) (d : Fin 512) :
    ∃ v : ℝ, x0 (ix2 (n0 := 32768) (n1 := 4224) r ⟨3072 + d.val, by omega⟩) = (v : EReal) := by
  have e := (parts x0 x1 h).1 (ix2 (n0 := 32768) (n1 := 512) r d)
  revert e
  pointwise
  intro e
  rw [inf_top] at e
  exact real_of_lt _ (bit_true _ e)

/-- The memory keys are real. -/
theorem k_real (h : fn (F := Ideal) x0 x1 = fun _ => 1#1) (r : Fin 2048) (d : Fin 512) :
    ∃ v : ℝ, x1 (ix3 (n0 := 4) (n1 := 2048) (n2 := 1024) 1 r ⟨d.val, by omega⟩) = (v : EReal) := by
  have e := (parts x0 x1 h).2 (ix2 (n0 := 2048) (n1 := 512) r d)
  revert e
  pointwise
  intro e
  rw [inf_top] at e
  exact real_of_lt _ (bit_true _ e)

end Cert.Pre_mem_finite

namespace Cert.Soft

open Idealize.ShloMosaic

/-- The largest of the scores. -/
def top {n : ℕ} (S : Fin n → EReal) : EReal := Finset.univ.fold max (⊥ : EReal) S

/-- The probability that a softmax gives one score. -/
def soft {n : ℕ} (S : Fin n → EReal) (k : Fin n) : EReal :=
  Ideal.div (Ideal.exp (S k - top S)) (∑ i : Fin n, Ideal.exp (S i - top S))

/-- A maximum along the last axis, from minus infinity, is the largest entry. -/
theorem fold_top {n0 n1 n2 n3 : Nat} (y : FVec Ideal (⟨4, ![n0, n1, n2, n3]⟩ : Shape) .f32) (c : FVec Ideal (⟨0, ![]⟩ : Shape) .f32) (hc : ∀ i, c i = (⊥ : EReal))
    (hr : (⟨4, ![n0, n1, n2, n3]⟩ : Shape).ReducesTo [3] (⟨3, ![n0, n1, n2]⟩ : Shape)) (hu : 0 < (⟨0, ![]⟩ : Shape).numel) (i : Fin n0) (j : Fin n1) (l : Fin n2)
    (S : Fin n3 → EReal) (hs : ∀ k, y (ix4 i j l k) = S k) (z : FVec Ideal (⟨3, ![n0, n1, n2]⟩ : Shape) .f32) (hz : z (ix3 i j l) = (⊥ : EReal)) :
    maximumf z (Host.reduce (FloatOps.maximumf (F := Ideal)) y c hr hu) (ix3 i j l) = top S := by
  have e : maximumf z (Host.reduce (FloatOps.maximumf (F := Ideal)) y c hr hu) (ix3 i j l)
      = max (z (ix3 i j l) : EReal) (Host.reduce (FloatOps.maximumf (F := Ideal)) y c hr hu (ix3 i j l) : EReal) := rfl
  rw [e, Cert.ReferenceIdeal.Mla.fold_at, hz, hc]
  simp only [hs]
  exact max_eq_right bot_le

/-- For real scores it is also the exponential times the reciprocal of the sum. -/
theorem soft_mul {n : ℕ} (S : Fin (n + 1) → EReal) (σ : Fin (n + 1) → ℝ) (h : ∀ k, S k = (σ k : EReal)) (k : Fin (n + 1)) :
    Ideal.exp (S k - top S) * Ideal.div 1 (∑ i : Fin (n + 1), Ideal.exp (S i - top S)) = soft S k := by
  obtain ⟨μ, hμ⟩ := fold_max_bot σ
  have ht : top S = (μ : EReal) := by
    unfold top
    rw [show S = fun i => (σ i : EReal) from funext h]
    exact hμ
  have he : ∀ i, Ideal.exp (S i - top S) = ((Real.exp (σ i - μ) : ℝ) : EReal) := fun i => by
    rw [ht, h, ← EReal.coe_sub]
    rfl
  have hs : (∑ i : Fin (n + 1), Ideal.exp (S i - top S)) ≠ 0 := by
    rw [sum_real _ _ he]
    have : 0 < ∑ i : Fin (n + 1), Real.exp (σ i - μ) := Finset.sum_pos (fun i _ => Real.exp_pos _) Finset.univ_nonempty
    exact_mod_cast this.ne'
  unfold soft Ideal.div
  rw [if_neg hs, if_neg hs, one_mul]

end Cert.Soft

namespace Cert.MemAttnReferenceIdeal.Value

open Idealize.ShloMosaic
open Cert.MemAttnReferenceIdeal Cert.MemAttnReferenceIdeal.Read
open Cert.Soft

variable (x0 : FVec Ideal S32768x4224 .bf16) (x1 : FVec Ideal S4x2048x1024 .bf16) (b : Fin 8) (h : Fin 4) (q : Fin 4096)

/-- The score of a query against a memory row. -/
def score (k : Fin 256) : EReal := ∑ x : Fin 128, (x0 (ix2 (n0 := 32768) (n1 := 4224) ⟨b.val * 4096 + q.val, by omega⟩ ⟨3072 + (h.val * 128 + x.val), by omega⟩) : EReal) * x1 (ix3 (n0 := 4) (n1 := 2048) (n2 := 1024) 1 ⟨b.val * 256 + k.val, by omega⟩ ⟨h.val * 128 + x.val, by omega⟩)

theorem score_eq : score x0 x1 b h q = fun k : Fin 256 => ∑ x : Fin 128, (x0 (ix2 (n0 := 32768) (n1 := 4224) ⟨b.val * 4096 + q.val, by omega⟩ ⟨3072 + (h.val * 128 + x.val), by omega⟩) : EReal) * x1 (ix3 (n0 := 4) (n1 := 2048) (n2 := 1024) 1 ⟨b.val * 256 + k.val, by omega⟩ ⟨h.val * 128 + x.val, by omega⟩) := rfl

theorem score_at (k : Fin 256) : (val_main_v11 (F := Ideal) x0 x1 (ix4 (n0 := 8) (n1 := 4) (n2 := 4096) (n3 := 256) b h q k) : EReal) = score x0 x1 b h q k := by
  pointwise [score, val_main_v11, val_main_v8, val_main_v7, val_main_v6, val_main_v5, val_main_v4, val_main_v3, val_main_v2, val_main_v1, val_main_v0]

theorem top_at : (val_main_v14 (F := Ideal) x0 x1 (ix3 (n0 := 8) (n1 := 4) (n2 := 4096) b h q) : EReal) = top (score x0 x1 b h q) := by
  have e1 : (val_main_v13 (F := Ideal) (ix3 (n0 := 8) (n1 := 4) (n2 := 4096) b h q) : EReal) = ⊥ := by
    pointwise [val_main_v13, val_main_cst_0]
    exact neg_inf
  have e2 := score_at x0 x1 b h q
  unfold val_main_v14 val_main_v12
  generalize val_main_v11 (F := Ideal) x0 x1 = y at e2
  exact fold_top (n0 := 8) (n1 := 4) (n2 := 4096) (n3 := 256) y (val_main_cst (F := Ideal)) (fun _ => neg_inf) _ _ b h q _ e2 _ e1

theorem exp_at (k : Fin 256) : (val_main_v18 (F := Ideal) x0 x1 (ix4 (n0 := 8) (n1 := 4) (n2 := 4096) (n3 := 256) b h q k) : EReal) = Ideal.exp (score x0 x1 b h q k - top (score x0 x1 b h q)) := by
  pointwise [val_main_v18, val_main_v17, val_main_v16, val_main_v15, score_at, top_at]

theorem prob_at (k : Fin 256) : (val_main_v22 (F := Ideal) x0 x1 (ix4 (n0 := 8) (n1 := 4) (n2 := 4096) (n3 := 256) b h q k) : EReal) = soft (score x0 x1 b h q) k := by
  pointwise [soft, val_main_v22, val_main_v21, val_main_v20, val_main_v19, val_main_cst_1, exp_at]

theorem out_at (d : Fin 512) : (val_main_v26 (F := Ideal) x0 x1 (ix3 (n0 := 8) (n1 := 4096) (n2 := 512) b q d) : EReal)
    = ∑ k : Fin 256, soft (score x0 x1 b ⟨d.val / 128, by omega⟩ q) k * x1 (ix3 (n0 := 4) (n1 := 2048) (n2 := 1024) 1 ⟨b.val * 256 + k.val, by omega⟩ ⟨512 + d.val, by omega⟩) := by
  pointwise [val_main_v26, val_main_v25, val_main_v24, val_main_v23, val_main_v10, val_main_v9, val_main_v6, val_main_v5, val_main_v4, val_main_v3, prob_at]
  refine Finset.sum_congr rfl fun k _ => (mul_comm _ _).trans ?_
  congr 3
  exact Fin.ext (by dsimp only; omega)

variable [Cert.Pre_mem_finite.Facts]

/-- Under the precondition every score is real. -/
theorem score_real (hp : Cert.Pre_mem_finite.fn (F := Ideal) x0 x1 = fun _ => 1#1) (k : Fin 256) : ∃ v : ℝ, score x0 x1 b h q k = (v : EReal) := by
  choose u hu using fun x : Fin 128 => Cert.Pre_mem_finite.q_real x0 x1 hp ⟨b.val * 4096 + q.val, by omega⟩ ⟨h.val * 128 + x.val, by omega⟩
  choose w hw using fun x : Fin 128 => Cert.Pre_mem_finite.k_real x0 x1 hp ⟨b.val * 256 + k.val, by omega⟩ ⟨h.val * 128 + x.val, by omega⟩
  exact ⟨_, sum_real _ (fun x => u x * w x) fun x => by rw [EReal.coe_mul, ← hu x, ← hw x]⟩

end Cert.MemAttnReferenceIdeal.Value
-- ==== Proof.MemAttnFinal.lean ====
module

public import proofs.«01_k».proof.Proof.Gen.MemAttnIdeal.Value
public import proofs.«01_k».proof.Proof.MemAttnRef
public import Idealize.ShloMosaic.Lib.Pipeline.ValueKit

@[expose] public section

set_option maxRecDepth 16384

noncomputable section

/-! The attention over the memory, its blocks against the reference. -/

namespace Cert.MemAttnIdeal.Value

open Idealize.ShloMosaic Idealize.ShloMosaic.TcCoe Idealize.SL.Sem
open Idealize.ShloMosaic.Pipeline (Dat)
open Cert.MemAttnIdeal Cert.MemAttnIdeal.Gen
open Cert.Soft

theorem idx : ∀ t : Fin cfg0.N, win0_0.index t = ![t.val / 8, t.val % 8, 6] ∧ win0_1.index t = ![1, t.val / 8, 0] ∧ win0_2.index t = ![t.val / 8, t.val % 8, 0] ∧ t.val < 64 :=
  (by decide +kernel : ∀ t : Fin grid0.N, _)

variable (m : (ℓ : Loc nD τ sig) → Buf (Elt Ideal) ℓ) (c : Dev nD)

/-- The array of queries: the argument with its tokens in sequences. -/
theorem V_p : V m c main_v0 = shapeCast S8x4096x4224 (m ((c : Thread nD τ).loc main_arg0) : FVec Ideal S32768x4224 .bf16) shapeCasts_S32768x4224_S8x4096x4224 := by
  unfold_abbrev_sides
  after_results
  rfl

theorem p_at (b : Fin 8) (q : Fin 4096) (d : Fin 4224) : (V m c main_v0 (ix3 (n0 := 8) (n1 := 4096) (n2 := 4224) b q d) : EReal)
    = (m ((c : Thread nD τ).loc main_arg0) : FVec Ideal S32768x4224 .bf16) (ix2 (n0 := 32768) (n1 := 4224) ⟨b.val * 4096 + q.val, by omega⟩ d) := by
  rw [V_p]
  exact shapeCast_apply (s := S32768x4224) (m ((c : Thread nD τ).loc main_arg0) : FVec Ideal S32768x4224 .bf16) shapeCasts_S32768x4224_S8x4096x4224 _ _ (by rewrite [Shape.rowMajor_val_two, Shape.rowMajor_val_three]; rfl)

theorem kv_at (t : Fin cfg0.N) (k : Fin 256) (d : Fin 1024) : (iblk m c 1 t (ix3 (n0 := 1) (n1 := 256) (n2 := 1024) 0 k d) : EReal)
    = (m ((c : Thread nD τ).loc main_arg1) : FVec Ideal S4x2048x1024 .bf16) (ix3 (n0 := 4) (n1 := 2048) (n2 := 1024) 1 ⟨t.val / 8 * 256 + k.val, by have := (idx t).2.2.2; omega⟩ d) := by
  have ht := (idx t).2.2.2
  rw [← V_main_arg1 m c]
  generalize hV : V m c = W
  unfold iblk
  rw [hV]
  blk_ext [idx t]

theorem q_blk (t : Fin cfg0.N) (i : S1x512x512.Idx) : (X0_0 m c t i : EReal)
    = (m ((c : Thread nD τ).loc main_arg0) : FVec Ideal S32768x4224 .bf16) (ix2 (n0 := 32768) (n1 := 4224) ⟨t.val / 8 * 4096 + (t.val % 8 * 512 + (i 1).val), by have := (idx t).2.2.2; have : (i 1).val < 512 := (i 1).isLt; omega⟩ ⟨3072 + (i 2).val, by have : (i 2).val < 512 := (i 2).isLt; omega⟩) := by
  have ht := (idx t).2.2.2
  have h1 : (i 1).val < 512 := (i 1).isLt
  have h2 : (i 2).val < 512 := (i 2).isLt
  unfold X0_0 Pipeline.Window.fill
  rw [dif_pos (moved0_0 t i)]
  refine Eq.trans ?_ (p_at m c ⟨t.val / 8, by omega⟩ ⟨t.val % 8 * 512 + (i 1).val, by omega⟩ ⟨3072 + (i 2).val, by omega⟩)
  generalize hV : V m c = W
  unfold iblk
  rw [hV]
  blk_ext [idx t]

theorem blk_idx (t : Fin cfg0.N) (y : ((cfg0.win 2).xblock (cfg0.grid.coords t)).Idx) : ((cfg0.win 2).blk t).view.emb y
    = ix3 (n0 := 8) (n1 := 4096) (n2 := 512) ⟨t.val / 8, by have := (idx t).2.2.2; omega⟩ ⟨t.val % 8 * 512 + (y 1).val, by have : (y 1).val < 512 := (y 1).isLt; omega⟩ ⟨(y 2).val, (y 2).isLt⟩ := by
  have ht := (idx t).2.2.2
  have hy0 : (y 0).val < 1 := (y 0).isLt
  have hy1 : (y 1).val < 512 := (y 1).isLt
  have hy2 : (y 2).val < 512 := (y 2).isLt
  blk_ext [idx t]

theorem final [Cert.Pre_mem_finite.Facts] (hp : Cert.Pre_mem_finite.fn (F := Ideal) (m ((c : Thread nD τ).loc main_arg0)) (m ((c : Thread nD τ).loc main_arg1)) = fun _ => 1#1) : (dats m 0 c).arrAt 2 cfg0.N
    = Cert.MemAttnReferenceIdeal.Read.val_main_v26 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  have hy0 : (y 0).val < 1 := (y 0).isLt
  have hy1 : (y 1).val < 512 := (y 1).isLt
  have hy2 : (y 2).val < 512 := (y 2).isLt
  have ht := (idx t).2.2.2
  refine Eq.trans ?_ ((congrArg _ (blk_idx t y)).trans (Cert.MemAttnReferenceIdeal.Value.out_at _ _ ⟨t.val / 8, by omega⟩ ⟨t.val % 8 * 512 + (y 1).val, by omega⟩ ⟨(y 2).val, hy2⟩)).symm
  choose σ hσ using fun k => Cert.MemAttnReferenceIdeal.Value.score_real _ _ ⟨t.val / 8, by omega⟩ ⟨(y 2).val / 128, by omega⟩ ⟨t.val % 8 * 512 + (y 1).val, by omega⟩ hp k
  have soft_eq := Cert.Soft.soft_mul _ σ hσ
  simp only [← soft_eq, ← neg_inf, top]
  simp only [Cert.MemAttnReferenceIdeal.Value.score_eq]
  clear soft_eq hσ
  canon_tiles x hx
  all_goals
    have hq : (y 2).val / 128 * 128 = (y 2).val - (x 2).val := by omega
    pointwise [k0_pay1, k0_pay2, k0_pay3, k0_pay4, k0_pay5, k0_pay6, k0_pay7, k0_pay8, q_blk, kv_at, hq]
    blk_point []

end Cert.MemAttnIdeal.Value
-- ==== Proof.MlaPrepRef.lean ====
module

public import proofs.«01_k».proof.Pre_rope_layout
public import proofs.«01_k».proof.Proof.Gen.MlaPrepReferenceIdeal.Read
public import proofs.«01_k».proof.Proof.MlaPre
public import proofs.«01_k».proof.Proof.InProjRef
public import Idealize.ShloMosaic.Lib.Pipeline.ValueKit
public import Idealize.ShloMosaic.Lib.Pointwise
public import Idealize.ShloMosaic.Lib.ReduceAll

@[expose] public section

set_option maxRecDepth 16384

noncomputable section

/-! The reference preparation of the latent queries, keys and values, entry by entry, and what its precondition says. -/

namespace Cert.Pre_rope_layout

open Idealize.ShloMosaic
open Cert.Pre_mla_layout (both bit_true)

instance : Subsingleton S_.Idx := ⟨fun a b => funext fun i => i.elim0⟩

variable [Facts] (x0 : FVec Ideal S32768x4224 .bf16) (x1 : FVec Ideal S1x256 .f32) (x2 : FVec Ideal S1x128 .f32) (x3 : FVec Ideal S1024x256 .bf16) (x4 : FVec Ideal S128x1024 .bf16) (x5 : FVec Ideal S640x128 .bf16)
  (x6 x7 : FVec Ideal S32768x128 .f32) (x8 x9 : FVec Ideal S48x32768 .f32)

/-- The two tests behind the precondition. -/
theorem parts (h : fn (F := Ideal) x0 x1 x2 x3 x4 x5 x6 x7 x8 x9 = fun _ => 1#1) :
    (∀ i, cmpf .oeq ((extf .f32 · Facts.bitsLt_bf16_f32) ((extractStridedSlice S32768x96 ![0, 3744] · Facts.slices_S32768x4224_S32768x96_0_3744) x0)) (broadcastInDim S32768x96 ![] Facts.bcast_S_S32768x96 (constant (F := Ideal) S_ .f32 0x00000000#32)) i = 1#1)
    ∧ (∀ i, cmpf .oeq ((extractStridedSlice S32768x16 ![0, 96] · Facts.slices_S32768x128_S32768x16_0_96) x7) (broadcastInDim S32768x16 ![] Facts.bcast_S_S32768x16 (constant (F := Ideal) S_ .f32 0x00000000#32)) i = 1#1) := by
  obtain ⟨e1, e2⟩ := both (congrFun h (fun i => i.elim0))
  exact ⟨Host.reduce_andi_all _ _ _ _ _ e1, Host.reduce_andi_all _ _ _ _ _ e2⟩

/-- The columns after the rope key are zero. -/
theorem p_zero (h : fn (F := Ideal) x0 x1 x2 x3 x4 x5 x6 x7 x8 x9 = fun _ => 1#1) (r : Fin 32768) (d : Fin 96) :
    x0 (ix2 (n0 := 32768) (n1 := 4224) r ⟨3744 + d.val, by omega⟩) = (0 : EReal) := by
  have e := (parts x0 x1 x2 x3 x4 x5 x6 x7 x8 x9 h).1 (ix2 (n0 := 32768) (n1 := 96) r d)
  revert e
  pointwise
  exact fun e => bit_true _ e

/-- The sixteen sines after the rope's are zero. -/
theorem s_zero (h : fn (F := Ideal) x0 x1 x2 x3 x4 x5 x6 x7 x8 x9 = fun _ => 1#1) (r : Fin 32768) (d : Fin 16) :
    x7 (ix2 (n0 := 32768) (n1 := 128) r ⟨96 + d.val, by omega⟩) = (0 : EReal) := by
  have e := (parts x0 x1 x2 x3 x4 x5 x6 x7 x8 x9 h).2 (ix2 (n0 := 32768) (n1 := 16) r d)
  revert e
  pointwise
  exact fun e => bit_true _ e

end Cert.Pre_rope_layout

namespace Cert.MlaPrepReferenceIdeal.Value

open Idealize.ShloMosaic
open Cert.MlaPrepReferenceIdeal Cert.MlaPrepReferenceIdeal.Read

variable (x0 : FVec Ideal S32768x4224 .bf16) (x1 : FVec Ideal S1x256 .f32) (x2 : FVec Ideal S1x128 .f32) (x3 : FVec Ideal S1024x256 .bf16) (x4 : FVec Ideal S128x1024 .bf16) (x5 : FVec Ideal S640x128 .bf16)
  (x6 x7 : FVec Ideal S32768x128 .f32) (x8 x9 : FVec Ideal S48x32768 .f32) (r : Fin 32768)

/-- An entry of a token's columns. -/
abbrev tok (k : Nat) (hk : k < 4224) : EReal := x0 (ix2 (n0 := 32768) (n1 := 4224) r ⟨k, hk⟩)

/-- The normalised latent query. -/
def hidQ (d : Fin 256) : EReal :=
  tok x0 r (3840 + d.val) (by omega) * Ideal.rsqrt (Ideal.div (∑ x : Fin 256, tok x0 r (3840 + x.val) (by omega) * tok x0 r (3840 + x.val) (by omega)) (Ideal.ofBits FTy.f32 0x43800000#32) + Ideal.ofBits FTy.f32 0x358637BD#32)
    * x1 (ix2 (n0 := 1) (n1 := 256) 0 d)

/-- The normalised latent key. -/
def hidK (d : Fin 128) : EReal :=
  tok x0 r (4096 + d.val) (by omega) * Ideal.rsqrt (Ideal.div (∑ x : Fin 128, tok x0 r (4096 + x.val) (by omega) * tok x0 r (4096 + x.val) (by omega)) (Ideal.ofBits FTy.f32 0x43000000#32) + Ideal.ofBits FTy.f32 0x358637BD#32)
    * x2 (ix2 (n0 := 1) (n1 := 128) 0 d)

/-- A coordinate of the queries before the rotation. -/
def projQ (k : Fin 1024) : EReal := ∑ x : Fin 256, hidQ x0 x1 r x * x3 (ix2 (n0 := 1024) (n1 := 256) k x)

/-- A coordinate of the keys before the rope key is added. -/
def projK (k : Fin 1024) : EReal := ∑ x : Fin 128, hidK x0 x2 r x * x4 (ix2 (n0 := 128) (n1 := 1024) x k)

/-- A coordinate of the values before the ones are added. -/
def projV (k : Fin 640) : EReal := ∑ x : Fin 128, hidK x0 x2 r x * x5 (ix2 (n0 := 640) (n1 := 128) k x)

theorem hidQ_at (d : Fin 256) : (val_main_v15 (F := Ideal) x0 x1 (ix2 (n0 := 32768) (n1 := 256) r d) : EReal) = hidQ x0 x1 r d := by
  pointwise [hidQ, val_main_v15, val_main_v14, val_main_v13, val_main_v12, val_main_v11, val_main_v10, val_main_v9, val_main_v8, val_main_v7, val_main_v6, val_main_v5, val_main_v4, val_main_v1, val_main_v0, val_main_cst, val_main_cst_0, val_main_cst_1]

theorem hidK_at (d : Fin 128) : (val_main_v27 (F := Ideal) x0 x2 (ix2 (n0 := 32768) (n1 := 128) r d) : EReal) = hidK x0 x2 r d := by
  pointwise [hidK, val_main_v27, val_main_v26, val_main_v25, val_main_v24, val_main_v23, val_main_v22, val_main_v21, val_main_v20, val_main_v19, val_main_v18, val_main_v17, val_main_v16, val_main_v3, val_main_v2, val_main_cst_2, val_main_cst_3, val_main_cst_4]

theorem projQ_at (k : Fin 1024) : (val_main_v30 (F := Ideal) x0 x1 x3 (ix2 (n0 := 32768) (n1 := 1024) r k) : EReal) = projQ x0 x1 x3 r k := by
  pointwise [projQ, val_main_v30, val_main_v29, val_main_v28, hidQ_at]

theorem projK_at (k : Fin 1024) : (val_main_v78 (F := Ideal) x0 x2 x4 (ix2 (n0 := 32768) (n1 := 1024) r k) : EReal) = projK x0 x2 x4 r k := by
  pointwise [projK, val_main_v78, val_main_v77, hidK_at]

theorem projV_at (k : Fin 640) : (val_main_v91 (F := Ideal) x0 x2 x5 (ix2 (n0 := 32768) (n1 := 640) r k) : EReal) = projV x0 x2 x5 r k := by
  pointwise [projV, val_main_v91, val_main_v90, val_main_v89, hidK_at]

/-- The rope key, by its lane in a head. -/
def rope (l : Fin 128) : EReal :=
  if h : 64 ≤ l.val ∧ l.val < 80 then
    tok x0 r (3648 + l.val) (by omega) * x6 (ix2 (n0 := 32768) (n1 := 128) r l) + tok x0 r (3664 + l.val) (by omega) * x7 (ix2 (n0 := 32768) (n1 := 128) r l)
  else if h : 80 ≤ l.val ∧ l.val < 96 then
    tok x0 r (3648 + l.val) (by omega) * x6 (ix2 (n0 := 32768) (n1 := 128) r l) + tok x0 r (3632 + l.val) (by omega) * x7 (ix2 (n0 := 32768) (n1 := 128) r l)
  else 0

theorem rope_at (l : Fin 32) : (val_main_v76 (F := Ideal) x0 x6 x7 (ix2 (n0 := 32768) (n1 := 32) r l) : EReal) = rope x0 x6 x7 r ⟨64 + l.val, by omega⟩ := by
  unfold rope
  pointwise [val_main_v76, val_main_v75, val_main_v74, val_main_v73, val_main_v72, val_main_v71, val_main_v70, val_main_v69, val_main_v68, val_main_v67, val_main_v66, val_main_v65, val_main_v64, val_main_v63, val_main_v62]
  have hlt := l.isLt
  by_cases h1 : l.val < 16
  · rw [dif_pos h1, dif_pos (show 64 + l.val < 80 by omega)]
    exact congrArg₂ (fun a b : EReal => a + b) (congrArg₂ (fun a b : EReal => a * b) (congrArg (fun i => (x0 (ix2 (n0 := 32768) (n1 := 4224) r i) : EReal)) (Fin.ext (by dsimp only <;> omega))) (congrArg (fun i => (x6 (ix2 (n0 := 32768) (n1 := 128) r i) : EReal)) (Fin.ext (by dsimp only <;> omega)))) (congrArg₂ (fun a b : EReal => a * b) (congrArg (fun i => (x0 (ix2 (n0 := 32768) (n1 := 4224) r i) : EReal)) (Fin.ext (by dsimp only <;> omega))) (congrArg (fun i => (x7 (ix2 (n0 := 32768) (n1 := 128) r i) : EReal)) (Fin.ext (by dsimp only <;> omega))))
  · rw [dif_neg h1, dif_neg (show ¬ 64 + l.val < 80 by omega), dif_pos (show 80 ≤ 64 + l.val ∧ 64 + l.val < 96 by omega)]
    exact congrArg₂ (fun a b : EReal => a + b) (congrArg₂ (fun a b : EReal => a * b) (congrArg (fun i => (x0 (ix2 (n0 := 32768) (n1 := 4224) r i) : EReal)) (Fin.ext (by dsimp only <;> omega))) (congrArg (fun i => (x6 (ix2 (n0 := 32768) (n1 := 128) r i) : EReal)) (Fin.ext (by dsimp only <;> omega)))) (congrArg₂ (fun a b : EReal => a * b) (congrArg (fun i => (x0 (ix2 (n0 := 32768) (n1 := 4224) r i) : EReal)) (Fin.ext (by dsimp only <;> omega))) (congrArg (fun i => (x7 (ix2 (n0 := 32768) (n1 := 128) r i) : EReal)) (Fin.ext (by dsimp only <;> omega))))

theorem key_at (h : Fin 8) (l : Fin 128) : (val_main_v86 (F := Ideal) x0 x2 x4 x6 x7 (ix3 (n0 := 32768) (n1 := 8) (n2 := 128) r h l) : EReal)
    = projK x0 x2 x4 r ⟨h.val * 128 + l.val, by omega⟩ + rope x0 x6 x7 r l := by
  pointwise [val_main_v86, val_main_v85, val_main_v84, val_main_v83, val_main_v82, val_main_v81, val_main_v80, val_main_v79, projK_at, rope_at]
  have none : ¬ (64 ≤ l.val ∧ l.val < 96) → rope x0 x6 x7 r l = 0 := fun hl => by
    unfold rope
    rw [dif_neg (by omega), dif_neg (by omega)]
  by_cases h1 : l.val < 64
  · rw [dif_pos h1, none (by omega), add_zero]
  · rw [dif_neg h1]
    by_cases h2 : l.val - 64 < 32
    · rw [dif_pos h2]
      exact congrArg₂ (fun a b : EReal => a + b) (congrArg (projK x0 x2 x4 r) (Fin.ext (by dsimp only <;> omega))) (congrArg (rope x0 x6 x7 r) (Fin.ext (by dsimp only <;> omega)))
    · rw [dif_neg h2, none (by omega), add_zero]
      exact congrArg (projK x0 x2 x4 r) (Fin.ext (by dsimp only <;> omega))

/-- A coordinate of the keys. -/
def keys (k : Fin 1024) : EReal := projK x0 x2 x4 r k + rope x0 x6 x7 r ⟨k.val % 128, by omega⟩

theorem value_at (h : Fin 8) (l : Fin 80) : (val_main_v98 (F := Ideal) x0 x2 x5 (ix3 (n0 := 32768) (n1 := 8) (n2 := 80) r h l) : EReal)
    = projV x0 x2 x5 r ⟨h.val * 80 + l.val, by omega⟩ + if l.val = 64 then Ideal.ofBits FTy.f32 0x3F800000#32 else 0 := by
  pointwise [val_main_v98, val_main_v97, val_main_v96, val_main_v95, val_main_v94, val_main_v93, val_main_v92, val_main_cst_7, projV_at]
  have hlt := l.isLt
  by_cases h1 : l.val < 64
  · rw [dif_pos h1, if_neg (show ¬ l.val = 64 by omega), add_zero]
  · rw [dif_neg h1]
    by_cases h2 : l.val - 64 < 1
    · rw [dif_pos h2, if_pos (show l.val = 64 by omega)]
      exact congrArg (fun k => projV x0 x2 x5 r k + 1) (Fin.ext (by dsimp only <;> omega))
    · rw [dif_neg h2, if_neg (show ¬ l.val = 64 by omega), add_zero]
      exact congrArg (projV x0 x2 x5 r) (Fin.ext (by dsimp only <;> omega))

/-- A coordinate of the values: the row of ones stands at 64 of each 80. -/
def values (k : Fin 640) : EReal := projV x0 x2 x5 r k + if k.val % 80 = 64 then Ideal.ofBits FTy.f32 0x3F800000#32 else 0

/-- A rotated query, before the scale. -/
def turned (k : Fin 1024) : EReal :=
  if h : 64 ≤ k.val % 128 ∧ k.val % 128 < 80 then
    projQ x0 x1 x3 r k * x8 (ix2 (n0 := 48) (n1 := 32768) ⟨32 + k.val % 16, by omega⟩ r) - projQ x0 x1 x3 r ⟨k.val + 16, by omega⟩ * x9 (ix2 (n0 := 48) (n1 := 32768) ⟨32 + k.val % 16, by omega⟩ r)
  else if h : 80 ≤ k.val % 128 ∧ k.val % 128 < 96 then
    projQ x0 x1 x3 r k * x8 (ix2 (n0 := 48) (n1 := 32768) ⟨32 + k.val % 16, by omega⟩ r) + projQ x0 x1 x3 r ⟨k.val - 16, by omega⟩ * x9 (ix2 (n0 := 48) (n1 := 32768) ⟨32 + k.val % 16, by omega⟩ r)
  else projQ x0 x1 x3 r k

theorem turned_first (k : Fin 1024) (h : 64 ≤ k.val % 128 ∧ k.val % 128 < 80) : turned x0 x1 x3 x8 x9 r k
    = projQ x0 x1 x3 r k * x8 (ix2 (n0 := 48) (n1 := 32768) ⟨32 + k.val % 16, by omega⟩ r) - projQ x0 x1 x3 r ⟨k.val + 16, by omega⟩ * x9 (ix2 (n0 := 48) (n1 := 32768) ⟨32 + k.val % 16, by omega⟩ r) := by
  unfold turned
  rw [dif_pos h]

theorem turned_second (k : Fin 1024) (h : 80 ≤ k.val % 128 ∧ k.val % 128 < 96) : turned x0 x1 x3 x8 x9 r k
    = projQ x0 x1 x3 r k * x8 (ix2 (n0 := 48) (n1 := 32768) ⟨32 + k.val % 16, by omega⟩ r) + projQ x0 x1 x3 r ⟨k.val - 16, by omega⟩ * x9 (ix2 (n0 := 48) (n1 := 32768) ⟨32 + k.val % 16, by omega⟩ r) := by
  unfold turned
  rw [dif_neg (by omega), dif_pos h]

theorem turned_rest (k : Fin 1024) (h : k.val % 128 < 64 ∨ 96 ≤ k.val % 128) : turned x0 x1 x3 x8 x9 r k = projQ x0 x1 x3 r k := by
  unfold turned
  rw [dif_neg (by omega), dif_neg (by omega)]

set_option maxHeartbeats 1000000 in
theorem turned_at (h : Fin 8) (l : Fin 128) : (val_main_v52 (F := Ideal) x0 x1 x3 x8 x9 (ix3 (n0 := 32768) (n1 := 8) (n2 := 128) r h l) : EReal)
    = turned x0 x1 x3 x8 x9 r ⟨h.val * 128 + l.val, by omega⟩ := by
  have hlt := l.isLt
  have hh := h.isLt
  have hk : h.val * 128 + l.val < 1024 := by omega
  have e1 (a : 64 ≤ l.val) (b : l.val < 80) := turned_first x0 x1 x3 x8 x9 r ⟨h.val * 128 + l.val, hk⟩ (by dsimp only; omega)
  have e2 (a : 80 ≤ l.val) (b : l.val < 96) := turned_second x0 x1 x3 x8 x9 r ⟨h.val * 128 + l.val, hk⟩ (by dsimp only; omega)
  have e3 (a : l.val < 64 ∨ 96 ≤ l.val) := turned_rest x0 x1 x3 x8 x9 r ⟨h.val * 128 + l.val, hk⟩ (by dsimp only; omega)
  generalize turned x0 x1 x3 x8 x9 r ⟨h.val * 128 + l.val, hk⟩ = z at e1 e2 e3 ⊢
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, projQ_at]
  by_cases h1 : l.val < 64
  · rw [dif_pos h1]
    exact (e3 (Or.inl h1)).symm
  · rw [dif_neg h1]
    by_cases h2 : l.val - 64 < 16
    · rw [dif_pos h2]
      refine Eq.trans ?_ (e1 (by omega) (by omega)).symm
      exact congrArg₂ (fun a b : EReal => a - b) (congrArg₂ (fun a b : EReal => a * b) (congrArg (projQ x0 x1 x3 r) (Fin.ext (by dsimp only <;> omega))) (congrArg (fun i => (x8 (ix2 (n0 := 48) (n1 := 32768) i r) : EReal)) (Fin.ext (by dsimp only <;> omega)))) (congrArg₂ (fun a b : EReal => a * b) (congrArg (projQ x0 x1 x3 r) (Fin.ext (by dsimp only <;> omega))) (congrArg (fun i => (x9 (ix2 (n0 := 48) (n1 := 32768) i r) : EReal)) (Fin.ext (by dsimp only <;> omega))))
    · rw [dif_neg h2]
      by_cases h3 : l.val - 64 - 16 < 16
      · rw [dif_pos h3]
        refine Eq.trans ?_ (e2 (by omega) (by omega)).symm
        exact congrArg₂ (fun a b : EReal => a + b) (congrArg₂ (fun a b : EReal => a * b) (congrArg (projQ x0 x1 x3 r) (Fin.ext (by dsimp only <;> omega))) (congrArg (fun i => (x8 (ix2 (n0 := 48) (n1 := 32768) i r) : EReal)) (Fin.ext (by dsimp only <;> omega)))) (congrArg₂ (fun a b : EReal => a * b) (congrArg (projQ x0 x1 x3 r) (Fin.ext (by dsimp only <;> omega))) (congrArg (fun i => (x9 (ix2 (n0 := 48) (n1 := 32768) i r) : EReal)) (Fin.ext (by dsimp only <;> omega))))
      · rw [dif_neg h3]
        refine Eq.trans ?_ (e3 (by omega)).symm
        exact (congrArg (projQ x0 x1 x3 r) (Fin.ext (by dsimp only <;> omega)))

theorem of_96 : Ideal.ofBits FTy.f32 1119879168#32 = ((96 : ℝ) : EReal) := by
  simp [Ideal.ofBits, Ideal.ieee, -EReal.coe_mul]; norm_num

/-- Division by the root of 96, then by the logarithm of two. -/
theorem div_scale (a : EReal) : Ideal.div (Ideal.div a (Ideal.sqrt (Ideal.ofBits FTy.f32 1119879168#32))) (Ideal.log (Ideal.ofBits FTy.f32 1073741824#32)) = a * (((Real.sqrt 96)⁻¹ * (Real.log 2)⁻¹ : ℝ) : EReal) := by
  have hl : Ideal.log (((2 : ℝ) : EReal)) = ((Real.log 2 : ℝ) : EReal) := by
    show (if (2 : ℝ) ≤ 0 then (⊥ : EReal) else ((Real.log 2 : ℝ) : EReal)) = _
    rw [if_neg (by norm_num)]
  rw [Cert.InProjReferenceIdeal.Value.of_two, of_96, Ideal.sqrt_coe, if_neg (by norm_num), hl, Ideal.div_coe (Real.sqrt_pos.mpr (by norm_num)).ne', Ideal.div_coe (Real.log_pos (by norm_num)).ne',
    one_div, one_div, mul_assoc, ← EReal.coe_mul]

theorem scaled_at (h : Fin 8) (l : Fin 128) : (val_main_v58 (F := Ideal) x0 x1 x3 x8 x9 (ix3 (n0 := 32768) (n1 := 8) (n2 := 128) r h l) : EReal)
    = turned x0 x1 x3 x8 x9 r ⟨h.val * 128 + l.val, by omega⟩ * (((Real.sqrt 96)⁻¹ * (Real.log 2)⁻¹ : ℝ) : EReal) := by
  pointwise [val_main_v58, val_main_v57, val_main_v56, val_main_v55, val_main_v54, val_main_v53, val_main_cst_5, val_main_cst_6, turned_at]
  exact div_scale _

/-- A coordinate of the queries. -/
def queries (k : Fin 1024) : EReal := turned x0 x1 x3 x8 x9 r k * (((Real.sqrt 96)⁻¹ * (Real.log 2)⁻¹ : ℝ) : EReal)

end Cert.MlaPrepReferenceIdeal.Value
-- ==== Proof.MlaPrepSeq.lean ====
module

public import proofs.«01_k».proof.Proof.MlaPrepRef

@[expose] public section

set_option maxRecDepth 16384

noncomputable section

/-! The three results of the reference by sequence and position. -/

namespace Cert.MlaPrepReferenceIdeal.Value

open Idealize.ShloMosaic
open Cert.MlaPrepReferenceIdeal Cert.MlaPrepReferenceIdeal.Read

variable (x0 : FVec Ideal S32768x4224 .bf16) (x1 : FVec Ideal S1x256 .f32) (x2 : FVec Ideal S1x128 .f32) (x3 : FVec Ideal S1024x256 .bf16) (x4 : FVec Ideal S128x1024 .bf16) (x5 : FVec Ideal S640x128 .bf16)
  (x6 x7 : FVec Ideal S32768x128 .f32) (x8 x9 : FVec Ideal S48x32768 .f32) (r : Fin 32768)

theorem narrow (h : FTy.bits .bf16 < FTy.bits .f32) (x : Ideal .f32) : (FloatOps.truncf (F := Ideal) .bf16 h x : EReal) = x := rfl

theorem idx87 (b : Fin 8) (q : Fin 4096) (k : Fin 1024) : idx_main_v87 (ix3 (n0 := 8) (n1 := 4096) (n2 := 1024) b q k)
    = ix3 (n0 := 32768) (n1 := 8) (n2 := 128) ⟨b.val * 4096 + q.val, by omega⟩ ⟨k.val / 128, by omega⟩ ⟨k.val % 128, by omega⟩ :=
  funext fun a => match a with
  | ⟨0, _⟩ => Fin.ext (by show ((b.val * 4096 + q.val) * 1024 + k.val) / 1024 = b.val * 4096 + q.val; omega)
  | ⟨1, _⟩ => Fin.ext (by show ((b.val * 4096 + q.val) * 1024 + k.val) / 128 % 8 = k.val / 128; omega)
  | ⟨2, _⟩ => Fin.ext (by show ((b.val * 4096 + q.val) * 1024 + k.val) % 128 = k.val % 128; omega)

theorem idx99 (b : Fin 8) (q : Fin 4096) (k : Fin 640) : idx_main_v99 (ix3 (n0 := 8) (n1 := 4096) (n2 := 640) b q k)
    = ix3 (n0 := 32768) (n1 := 8) (n2 := 80) ⟨b.val * 4096 + q.val, by omega⟩ ⟨k.val / 80, by omega⟩ ⟨k.val % 80, by omega⟩ :=
  funext fun a => match a with
  | ⟨0, _⟩ => Fin.ext (by show ((b.val * 4096 + q.val) * 640 + k.val) / 640 = b.val * 4096 + q.val; omega)
  | ⟨1, _⟩ => Fin.ext (by show ((b.val * 4096 + q.val) * 640 + k.val) / 80 % 8 = k.val / 80; omega)
  | ⟨2, _⟩ => Fin.ext (by show ((b.val * 4096 + q.val) * 640 + k.val) % 80 = k.val % 80; omega)

theorem idx59 (b : Fin 8) (q : Fin 4096) (k : Fin 1024) : idx_main_v59 (ix3 (n0 := 8) (n1 := 4096) (n2 := 1024) b q k)
    = ix3 (n0 := 32768) (n1 := 8) (n2 := 128) ⟨b.val * 4096 + q.val, by omega⟩ ⟨k.val / 128, by omega⟩ ⟨k.val % 128, by omega⟩ :=
  funext fun a => match a with
  | ⟨0, _⟩ => Fin.ext (by show ((b.val * 4096 + q.val) * 1024 + k.val) / 1024 = b.val * 4096 + q.val; omega)
  | ⟨1, _⟩ => Fin.ext (by show ((b.val * 4096 + q.val) * 1024 + k.val) / 128 % 8 = k.val / 128; omega)
  | ⟨2, _⟩ => Fin.ext (by show ((b.val * 4096 + q.val) * 1024 + k.val) % 128 = k.val % 128; omega)

theorem idx100 (b : Fin 8) (q : Fin 4096) (k : Fin 640) : idx_main_v100 (ix3 (n0 := 8) (n1 := 640) (n2 := 4096) b k q) = ix3 (n0 := 8) (n1 := 4096) (n2 := 640) b q k :=
  funext fun a => match a with
  | ⟨0, _⟩ => rfl
  | ⟨1, _⟩ => rfl
  | ⟨2, _⟩ => rfl

theorem idx60 (b : Fin 8) (q : Fin 4096) (k : Fin 1024) : idx_main_v60 (ix3 (n0 := 8) (n1 := 1024) (n2 := 4096) b k q) = ix3 (n0 := 8) (n1 := 4096) (n2 := 1024) b q k :=
  funext fun a => match a with
  | ⟨0, _⟩ => rfl
  | ⟨1, _⟩ => rfl
  | ⟨2, _⟩ => rfl

theorem keys_of (h : Fin 8) (l : Fin 128) (k : Fin 1024) (e : h.val * 128 + l.val = k.val) : (val_main_v86 (F := Ideal) x0 x2 x4 x6 x7 (ix3 (n0 := 32768) (n1 := 8) (n2 := 128) r h l) : EReal) = keys x0 x2 x4 x6 x7 r k := by
  rw [key_at]
  unfold keys
  congr 2
  · exact Fin.ext e
  · exact Fin.ext (by dsimp only; omega)

theorem values_of (h : Fin 8) (l : Fin 80) (k : Fin 640) (e : h.val * 80 + l.val = k.val) : (val_main_v98 (F := Ideal) x0 x2 x5 (ix3 (n0 := 32768) (n1 := 8) (n2 := 80) r h l) : EReal) = values x0 x2 x5 r k := by
  rw [value_at]
  unfold values
  have h1 : (if l.val = 64 then Ideal.ofBits FTy.f32 0x3F800000#32 else 0) = if k.val % 80 = 64 then Ideal.ofBits FTy.f32 0x3F800000#32 else 0 := by
    rw [show l.val = k.val % 80 by omega]
  rw [h1]
  exact congrArg (fun i => projV x0 x2 x5 r i + if k.val % 80 = 64 then Ideal.ofBits FTy.f32 0x3F800000#32 else 0) (Fin.ext e)

theorem queries_of (h : Fin 8) (l : Fin 128) (k : Fin 1024) (e : h.val * 128 + l.val = k.val) : (val_main_v58 (F := Ideal) x0 x1 x3 x8 x9 (ix3 (n0 := 32768) (n1 := 8) (n2 := 128) r h l) : EReal) = queries x0 x1 x3 x8 x9 r k := by
  rw [scaled_at]
  unfold queries
  exact congrArg (fun i => turned x0 x1 x3 x8 x9 r i * (((Real.sqrt 96)⁻¹ * (Real.log 2)⁻¹ : ℝ) : EReal)) (Fin.ext e)

theorem keys_at (b : Fin 8) (q : Fin 4096) (k : Fin 1024) : (val_main_v88 (F := Ideal) x0 x2 x4 x6 x7 (ix3 (n0 := 8) (n1 := 4096) (n2 := 1024) b q k) : EReal)
    = keys x0 x2 x4 x6 x7 ⟨b.val * 4096 + q.val, by omega⟩ k := by
  rw [val_main_v88_apply, narrow, val_main_v87_apply, idx87]
  exact keys_of x0 x2 x4 x6 x7 _ _ _ k (by dsimp only; omega)

theorem values_at (b : Fin 8) (q : Fin 4096) (k : Fin 640) : (val_main_v101 (F := Ideal) x0 x2 x5 (ix3 (n0 := 8) (n1 := 640) (n2 := 4096) b k q) : EReal)
    = values x0 x2 x5 ⟨b.val * 4096 + q.val, by omega⟩ k := by
  rw [val_main_v101_apply, narrow, val_main_v100_apply, idx100, val_main_v99_apply, idx99]
  exact values_of x0 x2 x5 _ _ _ k (by dsimp only; omega)

theorem queries_at (b : Fin 8) (q : Fin 4096) (k : Fin 1024) : (val_main_v61 (F := Ideal) x0 x1 x3 x8 x9 (ix3 (n0 := 8) (n1 := 1024) (n2 := 4096) b k q) : EReal)
    = queries x0 x1 x3 x8 x9 ⟨b.val * 4096 + q.val, by omega⟩ k := by
  rw [val_main_v61_apply, narrow, val_main_v60_apply, idx60, val_main_v59_apply, idx59]
  exact queries_of x0 x1 x3 x8 x9 _ _ _ k (by dsimp only; omega)

end Cert.MlaPrepReferenceIdeal.Value
-- ==== Proof.MlaPrepFinal.lean ====
module

public import proofs.«01_k».proof.Proof.MlaPrepSeq
public import proofs.«01_k».proof.Proof.Gen.MlaPrepIdeal.Value
public import Idealize.ShloMosaic.Lib.Pipeline.ValueKit
public import Idealize.ShloMosaic.Lib.Pointwise

@[expose] public section

set_option maxRecDepth 16384

noncomputable section

/-! The preparation of the latent queries, keys and values: the kernel's blocks against the reference, piece by piece. -/

namespace Cert.MlaPrepIdeal.Value

open Idealize.ShloMosaic Idealize.ShloMosaic.TcCoe Idealize.SL.Sem
open Idealize.ShloMosaic.Pipeline (Dat)
open Cert.MlaPrepIdeal Cert.MlaPrepIdeal.Gen
open Cert.MlaPrepReferenceIdeal.Value (hidQ hidK projQ projK projV rope)

theorem idx : ∀ t : Fin cfg0.N, win0_0.index t = ![t.val, 15] ∧ win0_1.index t = ![t.val, 32] ∧ win0_2.index t = ![t.val, 14] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0]
    ∧ win0_10.index t = ![2, t.val] ∧ win0_11.index t = ![2, t.val] ∧ win0_12.index t = ![t.val / 8, 0, t.val % 8] ∧ win0_13.index t = ![t.val / 8, t.val % 8, 0] ∧ win0_14.index t = ![t.val / 8, 0, t.val % 8] ∧ t.val < 64 :=
  (by decide +kernel : ∀ t : Fin grid0.N, _)

theorem lt64 (t : Fin cfg0.N) : t.val < 64 := (idx t).2.2.2.2.2.2.2.2.2.2.2.2.2.2.2

variable (m : (ℓ : Loc nD τ sig) → Buf (Elt Ideal) ℓ) (c : Dev nD)

/-- The row of the whole array that row `p` of block `t` is. -/
abbrev row (t : Fin cfg0.N) (p : Fin 512) : Fin 32768 := ⟨t.val * 512 + p.val, by have := lt64 t; omega⟩

theorem cq_at (t : Fin cfg0.N) (i : S512x256.Idx) : (X0_0 m c t i : EReal)
    = (m ((c : Thread nD τ).loc main_arg0) : FVec Ideal S32768x4224 .bf16) (ix2 (n0 := 32768) (n1 := 4224) ⟨t.val * 512 + (i 0).val, by have := lt64 t; have : (i 0).val < 512 := (i 0).isLt; omega⟩ ⟨3840 + (i 1).val, by have : (i 1).val < 256 := (i 1).isLt; omega⟩) := by
  unfold X0_0 Pipeline.Window.fill
  rw [dif_pos (moved0_0 t i)]
  blk_ext [iblk, V, idx t]

theorem kr_at (t : Fin cfg0.N) (i : S512x256.Idx) : (X0_2 m c t i : EReal)
    = (m ((c : Thread nD τ).loc main_arg0) : FVec Ideal S32768x4224 .bf16) (ix2 (n0 := 32768) (n1 := 4224) ⟨t.val * 512 + (i 0).val, by have := lt64 t; have : (i 0).val < 512 := (i 0).isLt; omega⟩ ⟨3584 + (i 1).val, by have : (i 1).val < 256 := (i 1).isLt; omega⟩) := by
  unfold X0_2 Pipeline.Window.fill
  rw [dif_pos (moved0_2 t i)]
  blk_ext [iblk, V, idx t]

theorem kr_ld (t : Fin cfg0.N) (p : Fin 512) (d : Fin 128) : (View.ld (X0_2 m c t) (Rect.unit ![0, 128] ![512, 128] inb_S512x256_S512x128_0_128) (ix2 (n0 := 512) (n1 := 128) p d) : EReal)
    = (m ((c : Thread nD τ).loc main_arg0) : FVec Ideal S32768x4224 .bf16) (ix2 (n0 := 32768) (n1 := 4224) (row t p) ⟨3712 + d.val, by omega⟩) := by
  pointwise [kr_at]
  blk_point []

theorem ct_at (t : Fin cfg0.N) (a : Fin 16) (p : Fin 512) (i : Fin 48) (h : i.val = 32 + a.val) : (iblk m c 10 t (ix2 (n0 := 16) (n1 := 512) a p) : EReal)
    = (m ((c : Thread nD τ).loc main_arg8) : FVec Ideal S48x32768 .f32) (ix2 (n0 := 48) (n1 := 32768) i (row t p)) := by
  rw [show i = ⟨32 + a.val, by omega⟩ from Fin.ext h]
  blk_ext [iblk, V, idx t]

theorem st_at (t : Fin cfg0.N) (a : Fin 16) (p : Fin 512) (i : Fin 48) (h : i.val = 32 + a.val) : (iblk m c 11 t (ix2 (n0 := 16) (n1 := 512) a p) : EReal)
    = (m ((c : Thread nD τ).loc main_arg9) : FVec Ideal S48x32768 .f32) (ix2 (n0 := 48) (n1 := 32768) i (row t p)) := by
  rw [show i = ⟨32 + a.val, by omega⟩ from Fin.ext h]
  blk_ext [iblk, V, idx t]

theorem hq_at (t : Fin cfg0.N) (p : Fin 512) (d : Fin 256) : (k0_pay3 (F := Ideal) (X0_0 m c t) (iblk m c 3 t) (ix2 (n0 := 512) (n1 := 256) p d) : EReal)
    = hidQ (m ((c : Thread nD τ).loc main_arg0)) (m ((c : Thread nD τ).loc main_arg1)) (row t p) d := by
  pointwise [k0_pay3, hidQ, cq_at]
  blk_point [iblk, V, idx t]

theorem ckv_at (t : Fin cfg0.N) (p : Fin 512) (d : Fin 128) : (iblk m c 1 t (ix2 (n0 := 512) (n1 := 128) p d) : EReal)
    = (m ((c : Thread nD τ).loc main_arg0) : FVec Ideal S32768x4224 .bf16) (ix2 (n0 := 32768) (n1 := 4224) (row t p) ⟨4096 + d.val, by omega⟩) := by
  blk_ext [iblk, V, idx t]

theorem hk_at (t : Fin cfg0.N) (p : Fin 512) (d : Fin 128) : (k0_pay4 (F := Ideal) (iblk m c 1 t) (iblk m c 4 t) (ix2 (n0 := 512) (n1 := 128) p d) : EReal)
    = hidK (m ((c : Thread nD τ).loc main_arg0)) (m ((c : Thread nD τ).loc main_arg2)) (row t p) d := by
  pointwise [k0_pay4, hidK, ckv_at]
  blk_point [iblk, V, idx t]

theorem q_at (t : Fin cfg0.N) (p : Fin 512) (k : Fin 1024) : (k0_pay17 (F := Ideal) (k0_pay3 (F := Ideal) (X0_0 m c t) (iblk m c 3 t)) (iblk m c 5 t) (ix2 (n0 := 1024) (n1 := 512) k p) : EReal)
    = projQ (m ((c : Thread nD τ).loc main_arg0)) (m ((c : Thread nD τ).loc main_arg1)) (m ((c : Thread nD τ).loc main_arg3)) (row t p) k := by
  pointwise [k0_pay17, projQ, hq_at]
  refine Finset.sum_congr rfl fun x _ => ?_
  rw [mul_comm]
  blk_point [iblk, V, idx t]

theorem v_at (t : Fin cfg0.N) (p : Fin 512) (k : Fin 640) : (k0_pay18 (F := Ideal) (k0_pay4 (F := Ideal) (iblk m c 1 t) (iblk m c 4 t)) (iblk m c 7 t) (ix2 (n0 := 640) (n1 := 512) k p) : EReal)
    = projV (m ((c : Thread nD τ).loc main_arg0)) (m ((c : Thread nD τ).loc main_arg2)) (m ((c : Thread nD τ).loc main_arg5)) (row t p) k := by
  pointwise [k0_pay18, projV, hk_at]
  refine Finset.sum_congr rfl fun x _ => ?_
  rw [mul_comm]
  blk_point [iblk, V, idx t]

theorem k_at (t : Fin cfg0.N) (p : Fin 512) (k : Fin 1024) : (k0_pay8 (F := Ideal) (k0_pay4 (F := Ideal) (iblk m c 1 t) (iblk m c 4 t)) (iblk m c 6 t) (ix2 (n0 := 512) (n1 := 1024) p k) : EReal)
    = projK (m ((c : Thread nD τ).loc main_arg0)) (m ((c : Thread nD τ).loc main_arg2)) (m ((c : Thread nD τ).loc main_arg4)) (row t p) k := by
  pointwise [k0_pay8, projK, hk_at]
  blk_point [iblk, V, idx t]

theorem q_named : (Named.named (F := Ideal) Cert.MlaPrepIdeal.κ "q_scale" (φ := .f32) 0x3E16C740#32 : EReal) = (((Real.sqrt 96)⁻¹ * (Real.log 2)⁻¹ : ℝ) : EReal) :=
  IdealRules.named_const.ideal_named_scalar _ _ _ _ rfl

theorem ones_row : ∀ l : Fin 80, IntOp.cmpi CmpIPredicate.eq (BitVec.ofNat 32 l.val) 64#32 = if l.val = 64 then 1#1 else 0#1 := by decide +kernel

theorem ones_at (x : S80x512.Idx) : (k0_pay20 (F := Ideal) (iota .tc S80x512 32 [0] iota_S80x512_d0_w32) k0_pay19 x : EReal) = if (x 0).val = 64 then 1 else 0 := by
  pointwise [k0_pay20, k0_pay19]
  rw [ones_row (x 0)]
  split_ifs
  · show (((BitVec.setWidth 32 1#1).toInt : ℝ) : EReal) = 1
    simp
  · show (((BitVec.setWidth 32 0#1).toInt : ℝ) : EReal) = 0
    simp

/-- Which lanes turn forward: the first half of the rope. -/
theorem first_lane : ∀ l : Fin 128, IntOp.andi (IntOp.cmpi CmpIPredicate.sge (BitVec.ofNat 32 l.val) 64#32) (IntOp.cmpi CmpIPredicate.slt (BitVec.ofNat 32 l.val) 80#32)
    = if 64 ≤ l.val ∧ l.val < 80 then 1#1 else 0#1 := by decide +kernel

theorem rope_tile [Cert.Pre_rope_layout.Facts]
    (x0 : FVec Ideal S32768x4224 .bf16) (x1 : FVec Ideal S1x256 .f32) (x2 : FVec Ideal S1x128 .f32) (x3 : FVec Ideal S1024x256 .bf16) (x4 : FVec Ideal S128x1024 .bf16) (x5 : FVec Ideal S640x128 .bf16)
    (x6 x7 : FVec Ideal S32768x128 .f32) (x8 x9 : FVec Ideal S48x32768 .f32)
    (hp : Cert.Pre_rope_layout.fn (F := Ideal) x0 x1 x2 x3 x4 x5 x6 x7 x8 x9 = fun _ => 1#1)
    (r : Fin 32768) (p : Fin 512) (l : Fin 128) (cs sn : FVec Ideal S512x128 .f32) (kr : FVec Ideal S512x128 .bf16)
    (hc : cs (ix2 (n0 := 512) (n1 := 128) p l) = x6 (ix2 (n0 := 32768) (n1 := 128) r l)) (hs : sn (ix2 (n0 := 512) (n1 := 128) p l) = x7 (ix2 (n0 := 32768) (n1 := 128) r l))
    (hk : ∀ d : Fin 128, kr (ix2 (n0 := 512) (n1 := 128) p d) = x0 (ix2 (n0 := 32768) (n1 := 4224) r ⟨3712 + d.val, by omega⟩)) :
    (k0_pay7 (F := Ideal) cs sn (iota .tc S512x128 32 [1] iota_S512x128_d1_w32) k0_pay5 k0_pay6 kr (ix2 (n0 := 512) (n1 := 128) p l) : EReal) = rope x0 x6 x7 r l := by
  pointwise [k0_pay7, k0_pay5, k0_pay6, hc, hs, hk]
  rw [first_lane l]
  have pz (k : Nat) (hk : k < 4224) (h1 : 3744 ≤ k) (h2 : k < 3840) : (x0 (ix2 (n0 := 32768) (n1 := 4224) r ⟨k, hk⟩) : EReal) = 0 :=
    (congrArg (fun i => (x0 (ix2 (n0 := 32768) (n1 := 4224) r i) : EReal)) (Fin.ext (by show k = 3744 + (k - 3744); omega))).trans (Cert.Pre_rope_layout.p_zero x0 x1 x2 x3 x4 x5 x6 x7 x8 x9 hp r ⟨k - 3744, by omega⟩)
  have hl := l.isLt
  unfold rope
  by_cases h1 : 64 ≤ l.val ∧ l.val < 80
  · rw [if_pos h1, dif_pos h1]
    show (_ * _ + _ * _ : EReal) = _
    exact congrArg₂ (fun a b : EReal => a + b) (congrArg₂ (fun a b : EReal => a * b) (congrArg (fun i => (x0 (ix2 (n0 := 32768) (n1 := 4224) r i) : EReal)) (Fin.ext (by dsimp only <;> omega))) rfl) (congrArg₂ (fun a b : EReal => a * b) (congrArg (fun i => (x0 (ix2 (n0 := 32768) (n1 := 4224) r i) : EReal)) (Fin.ext (by dsimp only <;> omega))) rfl)
  · rw [if_neg h1, dif_neg h1]
    show (_ * _ + _ * _ : EReal) = _
    by_cases h2 : 80 ≤ l.val ∧ l.val < 96
    · rw [dif_pos h2]
      exact congrArg₂ (fun a b : EReal => a + b) (congrArg₂ (fun a b : EReal => a * b) (congrArg (fun i => (x0 (ix2 (n0 := 32768) (n1 := 4224) r i) : EReal)) (Fin.ext (by dsimp only <;> omega))) rfl) (congrArg₂ (fun a b : EReal => a * b) (congrArg (fun i => (x0 (ix2 (n0 := 32768) (n1 := 4224) r i) : EReal)) (Fin.ext (by dsimp only <;> omega))) rfl)
    · rw [dif_neg h2, pz _ _ (by omega) (by omega), zero_mul, zero_add]
      by_cases h3 : 96 ≤ l.val ∧ l.val < 112
      · have hz : (x7 (ix2 (n0 := 32768) (n1 := 128) r l) : EReal) = 0 :=
          (congrArg (fun i => (x7 (ix2 (n0 := 32768) (n1 := 128) r i) : EReal)) (Fin.ext (by show l.val = 96 + (l.val - 96); omega))).trans (Cert.Pre_rope_layout.s_zero x0 x1 x2 x3 x4 x5 x6 x7 x8 x9 hp r ⟨l.val - 96, by omega⟩)
        rw [hz, mul_zero]
      · exact (congrArg (fun a : EReal => a * _) (pz (3712 + ((l.val + 128 - 16) % 128 + 128 - 64) % 128) (by omega) (by omega) (by omega))).trans (zero_mul _)

theorem blk_idx12 (t : Fin cfg0.N) (y : ((cfg0.win 12).xblock (cfg0.grid.coords t)).Idx) : ((cfg0.win 12).blk t).view.emb y
    = ix3 (n0 := 8) (n1 := 1024) (n2 := 4096) ⟨t.val / 8, by have := lt64 t; omega⟩ ⟨(y 1).val, (y 1).isLt⟩ ⟨t.val % 8 * 512 + (y 2).val, by have : (y 2).val < 512 := (y 2).isLt; omega⟩ := by
  have ht := lt64 t
  have hy0 : (y 0).val < 1 := (y 0).isLt
  have hy1 : (y 1).val < 1024 := (y 1).isLt
  have hy2 : (y 2).val < 512 := (y 2).isLt
  blk_ext [idx t]

theorem blk_idx13 (t : Fin cfg0.N) (y : ((cfg0.win 13).xblock (cfg0.grid.coords t)).Idx) : ((cfg0.win 13).blk t).view.emb y
    = ix3 (n0 := 8) (n1 := 4096) (n2 := 1024) ⟨t.val / 8, by have := lt64 t; omega⟩ ⟨t.val % 8 * 512 + (y 1).val, by have : (y 1).val < 512 := (y 1).isLt; omega⟩ ⟨(y 2).val, (y 2).isLt⟩ := by
  have ht := lt64 t
  have hy0 : (y 0).val < 1 := (y 0).isLt
  have hy1 : (y 1).val < 512 := (y 1).isLt
  have hy2 : (y 2).val < 1024 := (y 2).isLt
  blk_ext [idx t]

theorem blk_idx14 (t : Fin cfg0.N) (y : ((cfg0.win 14).xblock (cfg0.grid.coords t)).Idx) : ((cfg0.win 14).blk t).view.emb y
    = ix3 (n0 := 8) (n1 := 640) (n2 := 4096) ⟨t.val / 8, by have := lt64 t; omega⟩ ⟨(y 1).val, (y 1).isLt⟩ ⟨t.val % 8 * 512 + (y 2).val, by have : (y 2).val < 512 := (y 2).isLt; omega⟩ := by
  have ht := lt64 t
  have hy0 : (y 0).val < 1 := (y 0).isLt
  have hy1 : (y 1).val < 640 := (y 1).isLt
  have hy2 : (y 2).val < 512 := (y 2).isLt
  blk_ext [idx t]

theorem row_eq (t : Fin cfg0.N) (p : Fin 512) (q : Nat) (hq : q = p.val) (h : t.val / 8 * 4096 + (t.val % 8 * 512 + q) < 32768) : (⟨t.val / 8 * 4096 + (t.val % 8 * 512 + q), h⟩ : Fin 32768) = row t p :=
  Fin.ext (by show t.val / 8 * 4096 + (t.val % 8 * 512 + q) = t.val * 512 + p.val; omega)

theorem final14 : (dats m 0 c).arrAt 14 cfg0.N
    = Cert.MlaPrepReferenceIdeal.Read.val_main_v101 (F := Ideal) (m ((c : Thread nD τ).loc main_arg0)) (m ((c : Thread nD τ).loc main_arg2)) (m ((c : Thread nD τ).loc main_arg5)) := by
  refine (dats m 0 c).arrAt_eq_of_covers 14 _ (by decide +kernel) fun t hf y => ?_
  blk_simp
  rw [after0_14]
  unfold outsAt0
  frame_out
  have hy0 : (y 0).val < 1 := (y 0).isLt
  have hy1 : (y 1).val < 640 := (y 1).isLt
  have hy2 : (y 2).val < 512 := (y 2).isLt
  have ht := lt64 t
  refine Eq.trans ?_ ((congrArg _ (blk_idx14 t y)).trans (Cert.MlaPrepReferenceIdeal.Value.values_at _ _ _ ⟨t.val / 8, by omega⟩ ⟨t.val % 8 * 512 + (y 2).val, by omega⟩ ⟨(y 1).val, hy1⟩)).symm
  unfold Cert.MlaPrepReferenceIdeal.Value.values
  canon_tiles x hx
  all_goals
    rw [row_eq t (x 2) _ (by omega)]
    pointwise [k0_pay22, k0_pay24, k0_pay25, k0_pay27, k0_pay29, k0_pay31, k0_pay34, k0_pay36, k0_pay2, v_at, ones_at]
    have h1 : (y 1).val % 80 = (x 1).val := by omega
    refine congrArg₂ (fun a b : EReal => a + b) (congrArg (projV _ _ _ _) (Fin.ext (by dsimp only <;> omega))) ((ones_at _).trans ?_)
    rw [h1]
    rfl

theorem final13 [Cert.Pre_rope_layout.Facts] (hp : Cert.Pre_rope_layout.fn (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) : (dats m 0 c).arrAt 13 cfg0.N
    = Cert.MlaPrepReferenceIdeal.Read.val_main_v88 (F := Ideal) (m ((c : Thread nD τ).loc main_arg0)) (m ((c : Thread nD τ).loc main_arg2)) (m ((c : Thread nD τ).loc main_arg4)) (m ((c : Thread nD τ).loc main_arg6)) (m ((c : Thread nD τ).loc main_arg7)) := by
  refine (dats m 0 c).arrAt_eq_of_covers 13 _ (by decide +kernel) fun t hf y => ?_
  blk_simp
  rw [after0_13]
  unfold outsAt0
  frame_out
  have hy0 : (y 0).val < 1 := (y 0).isLt
  have hy1 : (y 1).val < 512 := (y 1).isLt
  have hy2 : (y 2).val < 1024 := (y 2).isLt
  have ht := lt64 t
  refine Eq.trans ?_ ((congrArg _ (blk_idx13 t y)).trans (Cert.MlaPrepReferenceIdeal.Value.keys_at _ _ _ _ _ ⟨t.val / 8, by omega⟩ ⟨t.val % 8 * 512 + (y 1).val, by omega⟩ ⟨(y 2).val, hy2⟩)).symm
  unfold Cert.MlaPrepReferenceIdeal.Value.keys
  canon_tiles x hx
  all_goals
    rw [row_eq t (x 1) _ (by omega)]
    pointwise [k0_pay9, k0_pay10, k0_pay11, k0_pay12, k0_pay13, k0_pay14, k0_pay15, k0_pay16, k_at]
    refine congrArg₂ (fun a b : EReal => a + b) (congrArg (projK _ _ _ _) (Fin.ext (by dsimp only <;> omega))) ((rope_tile _ _ _ _ _ _ _ _ _ _ hp (row t (x 1)) _ _ _ _ _ ?_ ?_ ?_).trans (congrArg (rope _ _ _ _) (Fin.ext (by dsimp only <;> omega))))
    · blk_point [iblk, V, idx t]
    · blk_point [iblk, V, idx t]
    · exact fun d => kr_ld m c t _ d

theorem final12 : (dats m 0 c).arrAt 12 cfg0.N
    = Cert.MlaPrepReferenceIdeal.Read.val_main_v61 (F := Ideal) (m ((c : Thread nD τ).loc main_arg0)) (m ((c : Thread nD τ).loc main_arg1)) (m ((c : Thread nD τ).loc main_arg3)) (m ((c : Thread nD τ).loc main_arg8)) (m ((c : Thread nD τ).loc main_arg9)) := by
  refine (dats m 0 c).arrAt_eq_of_covers 12 _ (by decide +kernel) fun t hf y => ?_
  blk_simp
  rw [after0_12]
  unfold outsAt0
  frame_out
  have hy0 : (y 0).val < 1 := (y 0).isLt
  have hy1 : (y 1).val < 1024 := (y 1).isLt
  have hy2 : (y 2).val < 512 := (y 2).isLt
  have ht := lt64 t
  refine Eq.trans ?_ ((congrArg _ (blk_idx12 t y)).trans (Cert.MlaPrepReferenceIdeal.Value.queries_at _ _ _ _ _ ⟨t.val / 8, by omega⟩ ⟨t.val % 8 * 512 + (y 2).val, by omega⟩ ⟨(y 1).val, hy1⟩)).symm
  unfold Cert.MlaPrepReferenceIdeal.Value.queries
  rw [← q_named]
  canon_tiles x hx
  all_goals
    rw [row_eq t (x 2) _ (by omega)]
    pointwise [k0_pay21, k0_pay23, k0_pay26, k0_pay28, k0_pay30, k0_pay32, k0_pay33, k0_pay35, k0_pay37, k0_pay38, k0_pay1, q_at]
    refine congrArg (fun a : EReal => a * _) ?_
    by_cases a1 : (x 1).val < 64
    · rw [dif_pos a1]
      refine Eq.trans ?_ (Cert.MlaPrepReferenceIdeal.Value.turned_rest _ _ _ _ _ _ _ (Or.inl (by omega))).symm
      exact (congrArg (projQ _ _ _ _) (Fin.ext (by dsimp only <;> omega)))
    · rw [dif_neg a1]
      by_cases a2 : (x 1).val - 64 < 16
      · rw [dif_pos a2]
        refine Eq.trans ?_ (Cert.MlaPrepReferenceIdeal.Value.turned_first _ _ _ _ _ _ _ (by omega)).symm
        exact congrArg₂ (fun a b : EReal => a - b) (congrArg₂ (fun a b : EReal => a * b) (congrArg (projQ _ _ _ _) (Fin.ext (by dsimp only <;> omega))) (ct_at m c t _ _ _ (by dsimp only <;> omega))) (congrArg₂ (fun a b : EReal => a * b) (congrArg (projQ _ _ _ _) (Fin.ext (by dsimp only <;> omega))) (st_at m c t _ _ _ (by dsimp only <;> omega)))
      · rw [dif_neg a2]
        by_cases a3 : (x 1).val - 64 - 16 < 16
        · rw [dif_pos a3]
          refine Eq.trans ?_ (Cert.MlaPrepReferenceIdeal.Value.turned_second _ _ _ _ _ _ _ (by omega)).symm
          exact congrArg₂ (fun a b : EReal => a + b) (congrArg₂ (fun a b : EReal => a * b) (congrArg (projQ _ _ _ _) (Fin.ext (by dsimp only <;> omega))) (ct_at m c t _ _ _ (by dsimp only <;> omega))) (congrArg₂ (fun a b : EReal => a * b) (congrArg (projQ _ _ _ _) (Fin.ext (by dsimp only <;> omega))) (st_at m c t _ _ _ (by dsimp only <;> omega)))
        · rw [dif_neg a3]
          refine Eq.trans ?_ (Cert.MlaPrepReferenceIdeal.Value.turned_rest _ _ _ _ _ _ _ (Or.inr (by omega))).symm
          exact (congrArg (projQ _ _ _ _) (Fin.ext (by dsimp only <;> omega)))

end Cert.MlaPrepIdeal.Value
-- ==== Proof.lean ====
module

public import proofs.«01_k».proof.Defs
public import proofs.«01_k».proof.Proof.MlaBitsLaunch
public import proofs.«01_k».proof.Proof.MlaFinal
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.FfnFinal
public import proofs.«01_k».proof.Proof.MixFinal
public import proofs.«01_k».proof.Proof.InProjFinal
public import proofs.«01_k».proof.Proof.MemKvFinal
public import proofs.«01_k».proof.Proof.MemAttnFinal
public import proofs.«01_k».proof.Proof.MlaPrepFinal
public import proofs.«01_k».proof.Proof.Gen.FfnReferenceIdeal.Run
public import proofs.«01_k».proof.Proof.Gen.FfnReferenceIdeal
public import proofs.«01_k».proof.Proof.Gen.FfnReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixReferenceIdeal.Run
public import proofs.«01_k».proof.Proof.Gen.MixReferenceIdeal
public import proofs.«01_k».proof.Proof.Gen.MixReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjReferenceIdeal.Run
public import proofs.«01_k».proof.Proof.Gen.InProjReferenceIdeal
public import proofs.«01_k».proof.Proof.Gen.InProjReferenceIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Value
public import proofs.«01_k».proof.Proof.Gen.MemKvReferenceIdeal.Run
public import proofs.«01_k».proof.Proof.Gen.MemKvReferenceIdeal
public import proofs.«01_k».proof.Proof.Gen.MemKvReferenceIdeal.Read
public import proofs.«01_k».proof.Proof.Gen.MemAttn
public import proofs.«01_k».proof.Proof.Gen.MemAttn.Frame
public import proofs.«01_k».proof.Proof.Gen.MemAttnIdeal
public import proofs.«01_k».proof.Proof.Gen.MemAttnIdeal.Value
public import proofs.«01_k».proof.Proof.Gen.MemAttnReferenceIdeal.Run
public import proofs.«01_k».proof.Proof.Gen.MemAttnReferenceIdeal
public import proofs.«01_k».proof.Proof.Gen.MemAttnReferenceIdeal.Read
public import proofs.«01_k».proof.Proof.Gen.MlaPrep
public import proofs.«01_k».proof.Proof.Gen.MlaPrep.Frame
public import proofs.«01_k».proof.Proof.Gen.MlaPrepIdeal
public import proofs.«01_k».proof.Proof.Gen.MlaPrepIdeal.Value
public import proofs.«01_k».proof.Proof.Gen.MlaPrepReferenceIdeal.Run
public import proofs.«01_k».proof.Proof.Gen.MlaPrepReferenceIdeal
public import proofs.«01_k».proof.Proof.Gen.MlaPrepReferenceIdeal.Read
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The shapes the layout predicate passes through fit. -/
theorem layout_facts : Cert.Pre_mla_layout.Facts := by
  constructor <;> decide +kernel

theorem reference_run : Cert.quiescent_ReferenceIdeal := by
  intro m g _
  exact (θ_run _ _ _).mono (fun r h => ⟨fun c => (h c).2, sem_eq_zero_of_no_sems rfl _⟩) (Cert.ReferenceIdeal.Value.run m g)

theorem value : Cert.algebraic_KernelIdeal_ReferenceIdeal_pre_mla_layout (hPre_mla_layout := layout_facts) := by
  pair_intro
  · run_from Cert.KernelIdeal.Mla.run_main m g
  · run_from Cert.ReferenceIdeal.Value.run m' g'
    rw [Cert.ReferenceIdeal.Read.val_main_v33_eq, (hagree c).1, (hagree c).2.1, (hagree c).2.2]
    exact (Cert.KernelIdeal.Mla.final m c layout_facts (hpre c)).symm

theorem ffn_reference_run : Cert.quiescent_FfnReferenceIdeal := by
  intro m g _
  exact (θ_run _ _ _).mono (fun r h => ⟨fun c => (h c).2, sem_eq_zero_of_no_sems rfl _⟩) (Cert.FfnReferenceIdeal.Value.run m g)

theorem ffn_value : Cert.algebraic_FfnIdeal_FfnReferenceIdeal := by
  pair_intro
  · run_from Cert.FfnIdeal.Value.run_blocks m g
  · run_from Cert.FfnReferenceIdeal.Value.run m' g'
    rw [Cert.FfnReferenceIdeal.Read.val_main_v26_eq]
    exact (Cert.FfnIdeal.Value.final m c).symm

theorem mix_reference_run : Cert.quiescent_MixReferenceIdeal := by
  intro m g _
  exact (θ_run _ _ _).mono (fun r h => ⟨fun c => (h c).2, sem_eq_zero_of_no_sems rfl _⟩) (Cert.MixReferenceIdeal.Value.run m g)

theorem mix_value : Cert.algebraic_MixIdeal_MixReferenceIdeal := by
  pair_intro
  · run_from Cert.MixIdeal.Value.run_blocks m g
  · run_from Cert.MixReferenceIdeal.Value.run m' g'
    rw [Cert.MixReferenceIdeal.Read.val_main_v39_eq]
    exact (Cert.MixIdeal.Value.final m c).symm

theorem in_proj_reference_run : Cert.quiescent_InProjReferenceIdeal := by
  intro m g _
  exact (θ_run _ _ _).mono (fun r h => ⟨fun c => (h c).2.2.2, sem_eq_zero_of_no_sems rfl _⟩) (Cert.InProjReferenceIdeal.Value.run m g)

theorem in_proj_preserves : Cert.preserves_InProj_InProjIdeal :=
  ⟨IdealRules.named_const.statement Cert.InProjIdeal.κ "m_scale" .f32 0x3DB504F3#32 (((Real.sqrt 128)⁻¹ : ℝ) : EReal) rfl,
    IdealRules.named_const.statement Cert.InProjIdeal.κ "q_scale" .f32 0x3E38AA3B#32 (((1 / 8) * (Real.log 2)⁻¹ : ℝ) : EReal) rfl⟩

theorem in_proj_value : Cert.algebraic_InProjIdeal_InProjReferenceIdeal := by
  pair_intro
  · run_from Cert.InProjIdeal.Value.run_blocks m g
  · run_from Cert.InProjReferenceIdeal.Value.run m' g'
    · rw [Cert.InProjReferenceIdeal.Read.val_main_v53_eq]
      obtain ⟨h0, h1, h2, h3, h4, h5, h6, h7, h8⟩ := hagree c
      simp only [h0, h1, h2, h5, h6]
      exact (Cert.InProjIdeal.Value.final9 m c).symm
    · rw [Cert.InProjReferenceIdeal.Read.val_main_v94_eq]
      obtain ⟨h0, h1, h2, h3, h4, h5, h6, h7, h8⟩ := hagree c
      simp only [h0, h1, h3, h7, h8]
      exact (Cert.InProjIdeal.Value.final10 m c).symm
    · obtain ⟨h0, h1, h2, h3, h4, h5, h6, h7, h8⟩ := hagree c
      rw [h4]
      exact (Cert.InProjReferenceIdeal.Read.val_main_v106_eq _ _ _).trans (Cert.InProjIdeal.Value.final11 m c).symm

theorem mem_kv_reference_run : Cert.quiescent_MemKvReferenceIdeal := by
  intro m g _
  exact (θ_run _ _ _).mono (fun r h => ⟨fun c => (h c).2, sem_eq_zero_of_no_sems rfl _⟩) (Cert.MemKvReferenceIdeal.Value.run m g)

theorem mem_kv_value : Cert.algebraic_MemKvIdeal_MemKvReferenceIdeal := by
  pair_intro
  · run_from Cert.MemKvIdeal.Value.run_blocks m g
  · run_from Cert.MemKvReferenceIdeal.Value.run m' g'
    rw [Cert.MemKvReferenceIdeal.Read.val_main_v15_eq]
    exact (Cert.MemKvIdeal.Value.final m c).symm

/-- The shapes the finiteness predicate passes through fit. -/
theorem mem_facts : Cert.Pre_mem_finite.Facts := by
  constructor <;> decide +kernel

theorem mem_attn_reference_run : Cert.quiescent_MemAttnReferenceIdeal := by
  intro m g _
  exact (θ_run _ _ _).mono (fun r h => ⟨fun c => (h c).2, sem_eq_zero_of_no_sems rfl _⟩) (Cert.MemAttnReferenceIdeal.Value.run m g)

theorem mem_attn_value : Cert.algebraic_MemAttnIdeal_MemAttnReferenceIdeal_pre_mem_finite (hPre_mem_finite := mem_facts) := by
  have := mem_facts
  pair_intro
  · run_from Cert.MemAttnIdeal.Value.run_blocks m g
  · run_from Cert.MemAttnReferenceIdeal.Value.run m' g'
    rw [Cert.MemAttnReferenceIdeal.Read.val_main_v26_eq, (hagree c).1, (hagree c).2]
    exact (Cert.MemAttnIdeal.Value.final m c (hpre c)).symm

/-- The shapes the rope predicate passes through fit. -/
theorem rope_facts : Cert.Pre_rope_layout.Facts := by
  constructor <;> decide +kernel

theorem mla_prep_reference_run : Cert.quiescent_MlaPrepReferenceIdeal := by
  intro m g _
  exact (θ_run _ _ _).mono (fun r h => ⟨fun c => (h c).2.2.2, sem_eq_zero_of_no_sems rfl _⟩) (Cert.MlaPrepReferenceIdeal.Value.run m g)

theorem mla_prep_preserves : Cert.preserves_MlaPrep_MlaPrepIdeal :=
  IdealRules.named_const.statement Cert.MlaPrepIdeal.κ "q_scale" .f32 0x3E16C740#32 (((Real.sqrt 96)⁻¹ * (Real.log 2)⁻¹ : ℝ) : EReal) rfl

theorem mla_prep_value : Cert.algebraic_MlaPrepIdeal_MlaPrepReferenceIdeal_pre_rope_layout (hPre_rope_layout := rope_facts) := by
  have := rope_facts
  pair_intro
  · run_from Cert.MlaPrepIdeal.Value.run_blocks m g
  · run_from Cert.MlaPrepReferenceIdeal.Value.run m' g'
    · rw [Cert.MlaPrepReferenceIdeal.Read.val_main_v61_eq]
      obtain ⟨h0, h1, h2, h3, h4, h5, h6, h7, h8, h9⟩ := hagree c
      simp only [h0, h1, h3, h8, h9]
      exact (Cert.MlaPrepIdeal.Value.final12 m c).symm
    · rw [Cert.MlaPrepReferenceIdeal.Read.val_main_v88_eq]
      obtain ⟨h0, h1, h2, h3, h4, h5, h6, h7, h8, h9⟩ := hagree c
      simp only [h0, h2, h4, h6, h7]
      exact (Cert.MlaPrepIdeal.Value.final13 m c (hpre c)).symm
    · rw [Cert.MlaPrepReferenceIdeal.Read.val_main_v101_eq]
      obtain ⟨h0, h1, h2, h3, h4, h5, h6, h7, h8, h9⟩ := hagree c
      simp only [h0, h2, h5]
      exact (Cert.MlaPrepIdeal.Value.final14 m c).symm

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts,
    Cert.InProj.Gen.facts, Cert.InProjIdeal.Gen.facts, Cert.InProjReferenceIdeal.Gen.facts,
    Cert.MemKv.Gen.facts, Cert.MemKvIdeal.Gen.facts, Cert.MemKvReferenceIdeal.Gen.facts,
    Cert.MemAttn.Gen.facts, Cert.MemAttnIdeal.Gen.facts, Cert.MemAttnReferenceIdeal.Gen.facts,
    Cert.MlaPrep.Gen.facts, Cert.MlaPrepIdeal.Gen.facts, Cert.MlaPrepReferenceIdeal.Gen.facts, layout_facts, mem_facts, rope_facts,
    fun m ρ _ => Cert.Kernel.Mla.frame m ρ,
    fun m ρ _ => Cert.KernelIdeal.Mla.frame m ρ,
    fun m ρ _ => Cert.KernelIdeal.Mla.frame m ρ,
    reference_run, fun m ρ _ => reference_run m ρ trivial,
    fun m ρ _ => Cert.Ffn.Gen.frame m ρ,
    fun m ρ _ => Cert.FfnIdeal.Gen.frame m ρ,
    ffn_reference_run,
    fun m ρ _ => Cert.Mix.Gen.frame m ρ,
    fun m ρ _ => Cert.MixIdeal.Gen.frame m ρ,
    mix_reference_run,
    fun m ρ _ => Cert.InProj.Gen.frame m ρ,
    fun m ρ _ => Cert.InProjIdeal.Gen.frame m ρ,
    in_proj_reference_run,
    fun m ρ _ => Cert.MemKv.Gen.frame m ρ,
    fun m ρ _ => Cert.MemKvIdeal.Gen.frame m ρ,
    mem_kv_reference_run,
    fun m ρ _ => Cert.MemAttn.Gen.frame m ρ,
    fun m ρ _ => Cert.MemAttnIdeal.Gen.frame m ρ,
    fun m ρ _ => Cert.MemAttnIdeal.Gen.frame m ρ,
    mem_attn_reference_run, fun m ρ _ => mem_attn_reference_run m ρ trivial,
    fun m ρ _ => Cert.MlaPrep.Gen.frame m ρ,
    fun m ρ _ => Cert.MlaPrepIdeal.Gen.frame m ρ,
    fun m ρ _ => Cert.MlaPrepIdeal.Gen.frame m ρ,
    mla_prep_reference_run, fun m ρ _ => mla_prep_reference_run m ρ trivial,
    trivial, value, trivial, ffn_value, trivial, mix_value, in_proj_preserves, in_proj_value,
    trivial, mem_kv_value, trivial, mem_attn_value, mla_prep_preserves, mla_prep_value⟩

end Cert.Proof

end
